-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_name_rows_KernelIdeal [hPre_ids_name_rows_KernelIdeal : Cert.Pre_ids_name_rows_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_rows_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_rows_ReferenceIdeal [hPre_ids_name_rows_ReferenceIdeal : Cert.Pre_ids_name_rows_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_rows_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_name_rows_KernelIdeal [hKernelIdeal : Cert.KernelIdeal.Facts] [hPre_ids_name_rows_KernelIdeal : Cert.Pre_ids_name_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_name_rows_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_name_rows_ReferenceIdeal [hReferenceIdeal : Cert.ReferenceIdeal.Facts] [hPre_ids_name_rows_ReferenceIdeal : Cert.Pre_ids_name_rows_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_rows_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_name_rows_KernelIdeal [hKernelIdeal : Cert.KernelIdeal.Facts] [hReferenceIdeal : Cert.ReferenceIdeal.Facts] [hPre_ids_name_rows_KernelIdeal : Cert.Pre_ids_name_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_name_rows_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_name_rows_KernelIdeal : Cert.Pre_ids_name_rows_KernelIdeal.Facts) (hPre_ids_name_rows_ReferenceIdeal : Cert.Pre_ids_name_rows_ReferenceIdeal.Facts),
    quiescent_Kernel (hKernel := hKernel)
    ∧ quiescent_KernelIdeal (hKernelIdeal := hKernelIdeal)
    ∧ quiescent_KernelIdeal_pre_ids_name_rows_KernelIdeal (hKernelIdeal := hKernelIdeal) (hPre_ids_name_rows_KernelIdeal := hPre_ids_name_rows_KernelIdeal)
    ∧ quiescent_ReferenceIdeal (hReferenceIdeal := hReferenceIdeal)
    ∧ quiescent_ReferenceIdeal_pre_ids_name_rows_ReferenceIdeal (hReferenceIdeal := hReferenceIdeal) (hPre_ids_name_rows_ReferenceIdeal := hPre_ids_name_rows_ReferenceIdeal)
    ∧ preserves_Kernel_KernelIdeal
    ∧ algebraic_KernelIdeal_ReferenceIdeal_pre_ids_name_rows_KernelIdeal (hKernelIdeal := hKernelIdeal) (hReferenceIdeal := hReferenceIdeal) (hPre_ids_name_rows_KernelIdeal := hPre_ids_name_rows_KernelIdeal)
-- ==== Pre_ids_name_rows_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 65536#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_ids_name_rows_ReferenceIdeal.lean ====
abbrev S1024 : Shape := ⟨1, ![1024]⟩
abbrev S65536x1024 : Shape := ⟨2, ![65536, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S65536x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 65536#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S_ : Shape := ⟨0, ![]⟩
abbrev S1 : Shape := ⟨1, ![1]⟩
abbrev S1024x1 : Shape := ⟨2, ![1024, 1]⟩
abbrev S1024x1024 : Shape := ⟨2, ![1024, 1024]⟩
abbrev S1024x384 : Shape := ⟨2, ![1024, 384]⟩
abbrev S1024x256 : Shape := ⟨2, ![1024, 256]⟩
abbrev S3 : Shape := ⟨1, ![3]⟩
abbrev S3x3 : Shape := ⟨2, ![3, 3]⟩
abbrev S2x3 : Shape := ⟨2, ![2, 3]⟩
abbrev S1x1024 : Shape := ⟨2, ![1, 1024]⟩
abbrev S1x1 : Shape := ⟨2, ![1, 1]⟩
abbrev S512x384 : Shape := ⟨2, ![512, 384]⟩
abbrev S512x256 : Shape := ⟨2, ![512, 256]⟩
abbrev S256x384 : Shape := ⟨2, ![256, 384]⟩
abbrev S256x256 : Shape := ⟨2, ![256, 256]⟩

abbrev nBuf : Space → Nat
  | .hbm => 58
  | .vmem => 6
  | .smem => 2
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i1⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S1024x1, .i32⟩
  | .hbm, ⟨56, _⟩ => ⟨S1024, .i32⟩
  | .hbm, ⟨57, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x384, .bf16⟩
  | .local _ .vmem, ⟨4, _⟩ => ⟨S1024x384, .bf16⟩
  | .local _ .vmem, ⟨5, _⟩ => ⟨S1024x256, .bf16⟩
  | .local _ .smem, ⟨0, _⟩ => ⟨S1024, .i32⟩
  | .local _ .smem, ⟨1, _⟩ => ⟨S1, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_call0_call0_c : Ref sig .tc := ⟨.hbm, 23, rfl⟩
abbrev main_call0_call0_v0 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_c_6 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_c_8 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v21 : Ref sig .tc := ⟨.hbm, 41, rfl⟩
abbrev main_c_9 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_10 : Ref sig .tc := ⟨.hbm, 46, rfl⟩
abbrev main_v25 : Ref sig .tc := ⟨.hbm, 47, rfl⟩
abbrev main_c_11 : Ref sig .tc := ⟨.hbm, 48, rfl⟩
abbrev main_v26 : Ref sig .tc := ⟨.hbm, 49, rfl⟩
abbrev main_v27 : Ref sig .tc := ⟨.hbm, 50, rfl⟩
abbrev main_c_12 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

@[reducible] def k0_t1_loop (v8 : BitVec 32) : Scf.Loop 32 :=
  let c0_i32_4 : BitVec 32 := 0#32
  let v13 : BitVec 32 := Scalar.subi v8 c0_i32_4
  let c1_i32_5 : BitVec 32 := 1#32
  let v15 : BitVec 32 := Scalar.divsi v13 c1_i32_5
  let v16 : BitVec 32 := Scalar.muli v15 c1_i32_5
  let v17 : BitVec 32 := Scalar.addi c0_i32_4 v16
  let c1_i32_6 : BitVec 32 := 1#32
  ⟨c0_i32_4, v17, c1_i32_6⟩

def k0_off1 (v8 : BitVec 32) (k0_t1 : Fin (k0_t1_loop v8).trips) : Fin 1 → Nat :=
  let c0_i32_4 : BitVec 32 := 0#32
  let c1_i32_6 : BitVec 32 := 1#32
  let arg13 : BitVec 32 := Scf.iv c0_i32_4 c1_i32_6 k0_t1
  let v507 : Index := Scalar.indexCast arg13
  ![v507.toNat]
def k0_off2 (v508 : BitVec 32) : Fin 2 → Nat :=
  let c1023_i32 : BitVec 32 := 1023#32
  let v510 : BitVec 32 := Scalar.andi v508 c1023_i32
  let c0_i32_449 : BitVec 32 := 0#32
  ![v510.toNat, 0]

def k0_off3 (v508 : BitVec 32) : Fin 2 → Nat :=
  let c10_i32 : BitVec 32 := 10#32
  let v509 : BitVec 32 := Scalar.shrsi v508 c10_i32
  let c0_i32_450 : BitVec 32 := 0#32
  ![v509.toNat, 0]

def k0_chk2 (v508 : BitVec 32) : Prop :=
  (∀ a, (k0_off2 v508) a + S1x1024.size a ≤ S1024x1024.size a) ∧
  (∀ a, (k0_off3 v508) a + S1x1024.size a ≤ S8192x1024.size a)
theorem k0_off2_inb : ∀ (v508 : BitVec 32) (k0_hw2 : k0_chk2 v508), ∀ a, (k0_off2 v508) a + S1x1024.size a ≤ S1024x1024.size a := fun v508 k0_hw2 => k0_hw2.1
theorem k0_off3_inb : ∀ (v508 : BitVec 32) (k0_hw2 : k0_chk2 v508), ∀ a, (k0_off3 v508) a + S1x1024.size a ≤ S8192x1024.size a := fun v508 k0_hw2 => k0_hw2.2

@[reducible] def k0_t2_loop (v8 : BitVec 32) : Scf.Loop 32 :=
  let c0_i32_4 : BitVec 32 := 0#32
  let v13 : BitVec 32 := Scalar.subi v8 c0_i32_4
  let c1_i32_5 : BitVec 32 := 1#32
  let v15 : BitVec 32 := Scalar.divsi v13 c1_i32_5
  let v16 : BitVec 32 := Scalar.muli v15 c1_i32_5
  let v17 : BitVec 32 := Scalar.addi c0_i32_4 v16
  let v14 : BitVec 32 := Scalar.addi c0_i32_4 v13
  let c1_i32_7 : BitVec 32 := 1#32
  ⟨v17, v14, c1_i32_7⟩
def k0_off4 (v8 : BitVec 32) (k0_t2 : Fin (k0_t2_loop v8).trips) : Fin 1 → Nat :=
  let c0_i32_4 : BitVec 32 := 0#32
  let v13 : BitVec 32 := Scalar.subi v8 c0_i32_4
  let c1_i32_5 : BitVec 32 := 1#32
  let v15 : BitVec 32 := Scalar.divsi v13 c1_i32_5
  let v16 : BitVec 32 := Scalar.muli v15 c1_i32_5
  let v17 : BitVec 32 := Scalar.addi c0_i32_4 v16
  let c1_i32_7 : BitVec 32 := 1#32
  let arg13 : BitVec 32 := Scf.iv v17 c1_i32_7 k0_t2
  let v507 : Index := Scalar.indexCast arg13
  ![v507.toNat]
def k0_off5 (v508 : BitVec 32) : Fin 2 → Nat :=
  let c1023_i32 : BitVec 32 := 1023#32
  let v510 : BitVec 32 := Scalar.andi v508 c1023_i32
  let c0_i32_449 : BitVec 32 := 0#32
  ![v510.toNat, 0]

def k0_off6 (v508 : BitVec 32) : Fin 2 → Nat :=
  let c10_i32 : BitVec 32 := 10#32
  let v509 : BitVec 32 := Scalar.shrsi v508 c10_i32
  let c0_i32_450 : BitVec 32 := 0#32
  ![v509.toNat, 0]

def k0_chk3 (v508 : BitVec 32) : Prop :=
  (∀ a, (k0_off5 v508) a + S1x1024.size a ≤ S1024x1024.size a) ∧
  (∀ a, (k0_off6 v508) a + S1x1024.size a ≤ S8192x1024.size a)
theorem k0_off5_inb : ∀ (v508 : BitVec 32) (k0_hw3 : k0_chk3 v508), ∀ a, (k0_off5 v508) a + S1x1024.size a ≤ S1024x1024.size a := fun v508 k0_hw3 => k0_hw3.1
theorem k0_off6_inb : ∀ (v508 : BitVec 32) (k0_hw3 : k0_chk3 v508), ∀ a, (k0_off6 v508) a + S1x1024.size a ≤ S8192x1024.size a := fun v508 k0_hw3 => k0_hw3.2

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v19 : BitVec 32 := Scalar.xori v2 c1_i32_8
  let c1_i32_10 : BitVec 32 := 1#32
  let v20 : BitVec 32 := Scalar.muli v19 c1_i32_10
  let v21 : BitVec 32 := Scalar.addi c0_i32_11 v20
  v21.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v22 : BitVec 32 := Scalar.xori v2 c3_i32
  let c1_i32_13 : BitVec 32 := 1#32
  let v23 : BitVec 32 := Scalar.muli v22 c1_i32_13
  let v24 : BitVec 32 := Scalar.addi c0_i32_14 v23
  v24.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v25 : BitVec 32 := Scalar.xori v2 c4_i32_15
  let c1_i32_17 : BitVec 32 := 1#32
  let v26 : BitVec 32 := Scalar.muli v25 c1_i32_17
  let v27 : BitVec 32 := Scalar.addi c0_i32_18 v26
  v27.toNat
@[reducible] def k0_t3_loop (v8 : BitVec 32) : Scf.Loop 32 :=
  let c0_i32_21 : BitVec 32 := 0#32
  let v28 : BitVec 32 := Scalar.subi v8 c0_i32_21
  let c1_i32_22 : BitVec 32 := 1#32
  let v30 : BitVec 32 := Scalar.divsi v28 c1_i32_22
  let v31 : BitVec 32 := Scalar.muli v30 c1_i32_22
  let v32 : BitVec 32 := Scalar.addi c0_i32_21 v31
  let c1_i32_23 : BitVec 32 := 1#32
  ⟨c0_i32_21, v32, c1_i32_23⟩
@[reducible] def k0_t4_loop (v8 : BitVec 32) : Scf.Loop 32 :=
  let c0_i32_21 : BitVec 32 := 0#32
  let v28 : BitVec 32 := Scalar.subi v8 c0_i32_21
  let c1_i32_22 : BitVec 32 := 1#32
  let v30 : BitVec 32 := Scalar.divsi v28 c1_i32_22
  let v31 : BitVec 32 := Scalar.muli v30 c1_i32_22
  let v32 : BitVec 32 := Scalar.addi c0_i32_21 v31
  let v29 : BitVec 32 := Scalar.addi c0_i32_21 v28
  let c1_i32_24 : BitVec 32 := 1#32
  ⟨v32, v29, c1_i32_24⟩

def k0_chk1 (v8 : BitVec 32) : Prop :=
  ((k0_t1_loop v8).OK) ∧
  (∀ k0_t1 : Fin (k0_t1_loop v8).trips, ∀ a, (k0_off1 v8 k0_t1) a + S1.size a ≤ S1024.size a) ∧
  ((k0_t2_loop v8).OK) ∧
  (∀ k0_t2 : Fin (k0_t2_loop v8).trips, ∀ a, (k0_off4 v8 k0_t2) a + S1.size a ≤ S1024.size a) ∧
  ((k0_t3_loop v8).OK) ∧
  ((k0_t4_loop v8).OK)
theorem k0_t1_ok : ∀ (v8 : BitVec 32) (k0_hw1 : k0_chk1 v8), (k0_t1_loop v8).OK := fun v8 k0_hw1 => k0_hw1.1
theorem k0_off1_inb : ∀ (v8 : BitVec 32) (k0_hw1 : k0_chk1 v8) (k0_t1 : Fin (k0_t1_loop v8).trips), ∀ a, (k0_off1 v8 k0_t1) a + S1.size a ≤ S1024.size a := fun v8 k0_hw1 k0_t1 => k0_hw1.2.1 k0_t1
theorem k0_t2_ok : ∀ (v8 : BitVec 32) (k0_hw1 : k0_chk1 v8), (k0_t2_loop v8).OK := fun v8 k0_hw1 => k0_hw1.2.2.1
theorem k0_off4_inb : ∀ (v8 : BitVec 32) (k0_hw1 : k0_chk1 v8) (k0_t2 : Fin (k0_t2_loop v8).trips), ∀ a, (k0_off4 v8 k0_t2) a + S1.size a ≤ S1024.size a := fun v8 k0_hw1 k0_t2 => k0_hw1.2.2.2.1 k0_t2
theorem k0_t3_ok : ∀ (v8 : BitVec 32) (k0_hw1 : k0_chk1 v8), (k0_t3_loop v8).OK := fun v8 k0_hw1 => k0_hw1.2.2.2.2.1
theorem k0_t4_ok : ∀ (v8 : BitVec 32) (k0_hw1 : k0_chk1 v8), (k0_t4_loop v8).OK := fun v8 k0_hw1 => k0_hw1.2.2.2.2.2

def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c1_i32_30 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let v39 : BitVec 32 := Scalar.subi c1_i32_30 v7
  let c512_i32 : BitVec 32 := 512#32
  let v40 : BitVec 32 := Scalar.muli v39 c512_i32
  let v41 : BitVec 32 := Scalar.addi v38 v40
  let c0_i32_39 : BitVec 32 := 0#32
  ![v41.toNat, 0]
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v42 : BitVec 32 := Scalar.xori v2 c1_i32_31
  let c1_i32_35 : BitVec 32 := 1#32
  let v43 : BitVec 32 := Scalar.muli v42 c1_i32_35
  let v44 : BitVec 32 := Scalar.addi c0_i32_36 v43
  v44.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c1_i32_40 : BitVec 32 := 1#32
  let c2_i32_0 : BitVec 32 := 2#32
  let v4 : BitVec 32 := Scalar.divsi v2 c2_i32_0
  let c2_i32_1 : BitVec 32 := 2#32
  let v5 : BitVec 32 := Scalar.remsi v4 c2_i32_1
  let v51 : BitVec 32 := Scalar.subi c1_i32_40 v5
  let c512_i32_41 : BitVec 32 := 512#32
  let v52 : BitVec 32 := Scalar.muli v51 c512_i32_41
  let v53 : BitVec 32 := Scalar.addi v38 v52
  let c384_i32 : BitVec 32 := 384#32
  ![v53.toNat, 384]
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_42 : BitVec 32 := 3#32
  let v54 : BitVec 32 := Scalar.xori v2 c3_i32_42
  let c1_i32_46 : BitVec 32 := 1#32
  let v55 : BitVec 32 := Scalar.muli v54 c1_i32_46
  let v56 : BitVec 32 := Scalar.addi c0_i32_47 v55
  v56.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c1_i32_50 : BitVec 32 := 1#32
  let c4_i32 : BitVec 32 := 4#32
  let v6 : BitVec 32 := Scalar.divsi v2 c4_i32
  let v63 : BitVec 32 := Scalar.subi c1_i32_50 v6
  let c512_i32_51 : BitVec 32 := 512#32
  let v64 : BitVec 32 := Scalar.muli v63 c512_i32_51
  let v65 : BitVec 32 := Scalar.addi v38 v64
  let c768_i32 : BitVec 32 := 768#32
  ![v65.toNat, 768]
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_52 : BitVec 32 := 4#32
  let v66 : BitVec 32 := Scalar.xori v2 c4_i32_52
  let c1_i32_56 : BitVec 32 := 1#32
  let v67 : BitVec 32 := Scalar.muli v66 c1_i32_56
  let v68 : BitVec 32 := Scalar.addi c0_i32_57 v67
  v68.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c512_i32_60 : BitVec 32 := 512#32
  let v75 : BitVec 32 := Scalar.muli v7 c512_i32_60
  let v76 : BitVec 32 := Scalar.addi v38 v75
  let c1_i32_80 : BitVec 32 := 1#32
  let v97 : BitVec 32 := Scalar.subi c1_i32_80 v5
  let c256_i32_81 : BitVec 32 := 256#32
  let v98 : BitVec 32 := Scalar.muli v97 c256_i32_81
  let v99 : BitVec 32 := Scalar.addi v76 v98
  let v102 : Index := Scalar.indexCast v99
  let c0_83 : Index := 0#32
  ![v102.toNat, 0]
def k0_off11 (d0 : Dev nD) : Fin 2 → Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c512_i32_60 : BitVec 32 := 512#32
  let v75 : BitVec 32 := Scalar.muli v7 c512_i32_60
  let v76 : BitVec 32 := Scalar.addi v38 v75
  let c1_i32_80 : BitVec 32 := 1#32
  let v97 : BitVec 32 := Scalar.subi c1_i32_80 v5
  let c256_i32_81 : BitVec 32 := 256#32
  let v98 : BitVec 32 := Scalar.muli v97 c256_i32_81
  let v99 : BitVec 32 := Scalar.addi v76 v98
  let v100 : BitVec 32 := Scalar.subi v99 v76
  let v101 : BitVec 32 := Scalar.addi c0_i32_82 v100
  let v104 : Index := Scalar.indexCast v101
  let c0_84 : Index := 0#32
  ![v104.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c512_i32_60 : BitVec 32 := 512#32
  let v75 : BitVec 32 := Scalar.muli v7 c512_i32_60
  let v76 : BitVec 32 := Scalar.addi v38 v75
  let c1_i32_80 : BitVec 32 := 1#32
  let v97 : BitVec 32 := Scalar.subi c1_i32_80 v5
  let c256_i32_81 : BitVec 32 := 256#32
  let v98 : BitVec 32 := Scalar.muli v97 c256_i32_81
  let v99 : BitVec 32 := Scalar.addi v76 v98
  let c0_i32_94 : BitVec 32 := 0#32
  ![v99.toNat, 0]
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_86 : BitVec 32 := 3#32
  let v111 : BitVec 32 := Scalar.xori v2 c3_i32_86
  let c1_i32_90 : BitVec 32 := 1#32
  let v112 : BitVec 32 := Scalar.muli v111 c1_i32_90
  let v113 : BitVec 32 := Scalar.addi c0_i32_91 v112
  v113.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c512_i32_60 : BitVec 32 := 512#32
  let v75 : BitVec 32 := Scalar.muli v7 c512_i32_60
  let v76 : BitVec 32 := Scalar.addi v38 v75
  let c256_i32 : BitVec 32 := 256#32
  let v81 : BitVec 32 := Scalar.muli v5 c256_i32
  let v82 : BitVec 32 := Scalar.addi v76 v81
  let v122 : Index := Scalar.indexCast v82
  let c0_96 : Index := 0#32
  ![v122.toNat, 0]
def k0_off14 (d0 : Dev nD) : Fin 2 → Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c512_i32_60 : BitVec 32 := 512#32
  let v75 : BitVec 32 := Scalar.muli v7 c512_i32_60
  let v76 : BitVec 32 := Scalar.addi v38 v75
  let c256_i32 : BitVec 32 := 256#32
  let v81 : BitVec 32 := Scalar.muli v5 c256_i32
  let v82 : BitVec 32 := Scalar.addi v76 v81
  let v120 : BitVec 32 := Scalar.subi v82 v76
  let v121 : BitVec 32 := Scalar.addi c0_i32_95 v120
  let v124 : Index := Scalar.indexCast v121
  let c0_97 : Index := 0#32
  ![v124.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32_0 : BitVec 32 := 2#32
  let v4 : BitVec 32 := Scalar.divsi v2 c2_i32_0
  let c2_i32_1 : BitVec 32 := 2#32
  let v5 : BitVec 32 := Scalar.remsi v4 c2_i32_1
  let c512_i32_61 : BitVec 32 := 512#32
  let v77 : BitVec 32 := Scalar.muli v5 c512_i32_61
  let v78 : BitVec 32 := Scalar.addi v38 v77
  let c1_i32_114 : BitVec 32 := 1#32
  let c4_i32 : BitVec 32 := 4#32
  let v6 : BitVec 32 := Scalar.divsi v2 c4_i32
  let v141 : BitVec 32 := Scalar.subi c1_i32_114 v6
  let c256_i32_115 : BitVec 32 := 256#32
  let v142 : BitVec 32 := Scalar.muli v141 c256_i32_115
  let v143 : BitVec 32 := Scalar.addi v78 v142
  let v146 : Index := Scalar.indexCast v143
  let c384 : Index := 384#32
  ![v146.toNat, 384]
def k0_off16 (d0 : Dev nD) : Fin 2 → Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32_0 : BitVec 32 := 2#32
  let v4 : BitVec 32 := Scalar.divsi v2 c2_i32_0
  let c2_i32_1 : BitVec 32 := 2#32
  let v5 : BitVec 32 := Scalar.remsi v4 c2_i32_1
  let c512_i32_61 : BitVec 32 := 512#32
  let v77 : BitVec 32 := Scalar.muli v5 c512_i32_61
  let v78 : BitVec 32 := Scalar.addi v38 v77
  let c1_i32_114 : BitVec 32 := 1#32
  let c4_i32 : BitVec 32 := 4#32
  let v6 : BitVec 32 := Scalar.divsi v2 c4_i32
  let v141 : BitVec 32 := Scalar.subi c1_i32_114 v6
  let c256_i32_115 : BitVec 32 := 256#32
  let v142 : BitVec 32 := Scalar.muli v141 c256_i32_115
  let v143 : BitVec 32 := Scalar.addi v78 v142
  let v144 : BitVec 32 := Scalar.subi v143 v78
  let v145 : BitVec 32 := Scalar.addi c0_i32_116 v144
  let v148 : Index := Scalar.indexCast v145
  let c0_117 : Index := 0#32
  ![v148.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32_0 : BitVec 32 := 2#32
  let v4 : BitVec 32 := Scalar.divsi v2 c2_i32_0
  let c2_i32_1 : BitVec 32 := 2#32
  let v5 : BitVec 32 := Scalar.remsi v4 c2_i32_1
  let c512_i32_61 : BitVec 32 := 512#32
  let v77 : BitVec 32 := Scalar.muli v5 c512_i32_61
  let v78 : BitVec 32 := Scalar.addi v38 v77
  let c1_i32_114 : BitVec 32 := 1#32
  let c4_i32 : BitVec 32 := 4#32
  let v6 : BitVec 32 := Scalar.divsi v2 c4_i32
  let v141 : BitVec 32 := Scalar.subi c1_i32_114 v6
  let c256_i32_115 : BitVec 32 := 256#32
  let v142 : BitVec 32 := Scalar.muli v141 c256_i32_115
  let v143 : BitVec 32 := Scalar.addi v78 v142
  let c384_i32_127 : BitVec 32 := 384#32
  ![v143.toNat, 384]
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v155 : BitVec 32 := Scalar.xori v2 c4_i32_119
  let c1_i32_123 : BitVec 32 := 1#32
  let v156 : BitVec 32 := Scalar.muli v155 c1_i32_123
  let v157 : BitVec 32 := Scalar.addi c0_i32_124 v156
  v157.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32_0 : BitVec 32 := 2#32
  let v4 : BitVec 32 := Scalar.divsi v2 c2_i32_0
  let c2_i32_1 : BitVec 32 := 2#32
  let v5 : BitVec 32 := Scalar.remsi v4 c2_i32_1
  let c512_i32_61 : BitVec 32 := 512#32
  let v77 : BitVec 32 := Scalar.muli v5 c512_i32_61
  let v78 : BitVec 32 := Scalar.addi v38 v77
  let c4_i32 : BitVec 32 := 4#32
  let v6 : BitVec 32 := Scalar.divsi v2 c4_i32
  let c256_i32_63 : BitVec 32 := 256#32
  let v83 : BitVec 32 := Scalar.muli v6 c256_i32_63
  let v84 : BitVec 32 := Scalar.addi v78 v83
  let v166 : Index := Scalar.indexCast v84
  let c384_129 : Index := 384#32
  ![v166.toNat, 384]
def k0_off19 (d0 : Dev nD) : Fin 2 → Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32_0 : BitVec 32 := 2#32
  let v4 : BitVec 32 := Scalar.divsi v2 c2_i32_0
  let c2_i32_1 : BitVec 32 := 2#32
  let v5 : BitVec 32 := Scalar.remsi v4 c2_i32_1
  let c512_i32_61 : BitVec 32 := 512#32
  let v77 : BitVec 32 := Scalar.muli v5 c512_i32_61
  let v78 : BitVec 32 := Scalar.addi v38 v77
  let c4_i32 : BitVec 32 := 4#32
  let v6 : BitVec 32 := Scalar.divsi v2 c4_i32
  let c256_i32_63 : BitVec 32 := 256#32
  let v83 : BitVec 32 := Scalar.muli v6 c256_i32_63
  let v84 : BitVec 32 := Scalar.addi v78 v83
  let v164 : BitVec 32 := Scalar.subi v84 v78
  let v165 : BitVec 32 := Scalar.addi c0_i32_128 v164
  let v168 : Index := Scalar.indexCast v165
  let c0_130 : Index := 0#32
  ![v168.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c4_i32 : BitVec 32 := 4#32
  let v6 : BitVec 32 := Scalar.divsi v2 c4_i32
  let c512_i32_62 : BitVec 32 := 512#32
  let v79 : BitVec 32 := Scalar.muli v6 c512_i32_62
  let v80 : BitVec 32 := Scalar.addi v38 v79
  let c1_i32_147 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let v185 : BitVec 32 := Scalar.subi c1_i32_147 v7
  let c256_i32_148 : BitVec 32 := 256#32
  let v186 : BitVec 32 := Scalar.muli v185 c256_i32_148
  let v187 : BitVec 32 := Scalar.addi v80 v186
  let v190 : Index := Scalar.indexCast v187
  let c768 : Index := 768#32
  ![v190.toNat, 768]
def k0_off21 (d0 : Dev nD) : Fin 2 → Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c4_i32 : BitVec 32 := 4#32
  let v6 : BitVec 32 := Scalar.divsi v2 c4_i32
  let c512_i32_62 : BitVec 32 := 512#32
  let v79 : BitVec 32 := Scalar.muli v6 c512_i32_62
  let v80 : BitVec 32 := Scalar.addi v38 v79
  let c1_i32_147 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let v185 : BitVec 32 := Scalar.subi c1_i32_147 v7
  let c256_i32_148 : BitVec 32 := 256#32
  let v186 : BitVec 32 := Scalar.muli v185 c256_i32_148
  let v187 : BitVec 32 := Scalar.addi v80 v186
  let v188 : BitVec 32 := Scalar.subi v187 v80
  let v189 : BitVec 32 := Scalar.addi c0_i32_149 v188
  let v192 : Index := Scalar.indexCast v189
  let c0_150 : Index := 0#32
  ![v192.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c4_i32 : BitVec 32 := 4#32
  let v6 : BitVec 32 := Scalar.divsi v2 c4_i32
  let c512_i32_62 : BitVec 32 := 512#32
  let v79 : BitVec 32 := Scalar.muli v6 c512_i32_62
  let v80 : BitVec 32 := Scalar.addi v38 v79
  let c1_i32_147 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let v185 : BitVec 32 := Scalar.subi c1_i32_147 v7
  let c256_i32_148 : BitVec 32 := 256#32
  let v186 : BitVec 32 := Scalar.muli v185 c256_i32_148
  let v187 : BitVec 32 := Scalar.addi v80 v186
  let c768_i32_160 : BitVec 32 := 768#32
  ![v187.toNat, 768]
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let v199 : BitVec 32 := Scalar.xori v2 c1_i32_152
  let c1_i32_156 : BitVec 32 := 1#32
  let v200 : BitVec 32 := Scalar.muli v199 c1_i32_156
  let v201 : BitVec 32 := Scalar.addi c0_i32_157 v200
  v201.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c4_i32 : BitVec 32 := 4#32
  let v6 : BitVec 32 := Scalar.divsi v2 c4_i32
  let c512_i32_62 : BitVec 32 := 512#32
  let v79 : BitVec 32 := Scalar.muli v6 c512_i32_62
  let v80 : BitVec 32 := Scalar.addi v38 v79
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c256_i32_64 : BitVec 32 := 256#32
  let v85 : BitVec 32 := Scalar.muli v7 c256_i32_64
  let v86 : BitVec 32 := Scalar.addi v80 v85
  let v210 : Index := Scalar.indexCast v86
  let c768_162 : Index := 768#32
  ![v210.toNat, 768]
def k0_off24 (d0 : Dev nD) : Fin 2 → Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c4_i32 : BitVec 32 := 4#32
  let v6 : BitVec 32 := Scalar.divsi v2 c4_i32
  let c512_i32_62 : BitVec 32 := 512#32
  let v79 : BitVec 32 := Scalar.muli v6 c512_i32_62
  let v80 : BitVec 32 := Scalar.addi v38 v79
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c256_i32_64 : BitVec 32 := 256#32
  let v85 : BitVec 32 := Scalar.muli v7 c256_i32_64
  let v86 : BitVec 32 := Scalar.addi v80 v85
  let v208 : BitVec 32 := Scalar.subi v86 v80
  let v209 : BitVec 32 := Scalar.addi c0_i32_161 v208
  let v212 : Index := Scalar.indexCast v209
  let c0_163 : Index := 0#32
  ![v212.toNat, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c512_i32_60 : BitVec 32 := 512#32
  let v75 : BitVec 32 := Scalar.muli v7 c512_i32_60
  let v76 : BitVec 32 := Scalar.addi v38 v75
  let c256_i32 : BitVec 32 := 256#32
  let v81 : BitVec 32 := Scalar.muli v5 c256_i32
  let v82 : BitVec 32 := Scalar.addi v76 v81
  let c0_i32_191 : BitVec 32 := 0#32
  ![v82.toNat, 0]
def k0_dev10 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_183 : BitVec 32 := 4#32
  let v237 : BitVec 32 := Scalar.xori v2 c4_i32_183
  let c1_i32_187 : BitVec 32 := 1#32
  let v238 : BitVec 32 := Scalar.muli v237 c1_i32_187
  let v239 : BitVec 32 := Scalar.addi c0_i32_188 v238
  v239.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32_0 : BitVec 32 := 2#32
  let v4 : BitVec 32 := Scalar.divsi v2 c2_i32_0
  let c2_i32_1 : BitVec 32 := 2#32
  let v5 : BitVec 32 := Scalar.remsi v4 c2_i32_1
  let c512_i32_61 : BitVec 32 := 512#32
  let v77 : BitVec 32 := Scalar.muli v5 c512_i32_61
  let v78 : BitVec 32 := Scalar.addi v38 v77
  let c4_i32 : BitVec 32 := 4#32
  let v6 : BitVec 32 := Scalar.divsi v2 c4_i32
  let c256_i32_63 : BitVec 32 := 256#32
  let v83 : BitVec 32 := Scalar.muli v6 c256_i32_63
  let v84 : BitVec 32 := Scalar.addi v78 v83
  let c384_i32_219 : BitVec 32 := 384#32
  ![v84.toNat, 384]
def k0_dev11 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_211 : BitVec 32 := 1#32
  let v264 : BitVec 32 := Scalar.xori v2 c1_i32_211
  let c1_i32_215 : BitVec 32 := 1#32
  let v265 : BitVec 32 := Scalar.muli v264 c1_i32_215
  let v266 : BitVec 32 := Scalar.addi c0_i32_216 v265
  v266.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c4_i32 : BitVec 32 := 4#32
  let v6 : BitVec 32 := Scalar.divsi v2 c4_i32
  let c512_i32_62 : BitVec 32 := 512#32
  let v79 : BitVec 32 := Scalar.muli v6 c512_i32_62
  let v80 : BitVec 32 := Scalar.addi v38 v79
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c256_i32_64 : BitVec 32 := 256#32
  let v85 : BitVec 32 := Scalar.muli v7 c256_i32_64
  let v86 : BitVec 32 := Scalar.addi v80 v85
  let c768_i32_247 : BitVec 32 := 768#32
  ![v86.toNat, 768]
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_239 : BitVec 32 := 3#32
  let v291 : BitVec 32 := Scalar.xori v2 c3_i32_239
  let c1_i32_243 : BitVec 32 := 1#32
  let v292 : BitVec 32 := Scalar.muli v291 c1_i32_243
  let v293 : BitVec 32 := Scalar.addi c0_i32_244 v292
  v293.toNat
def k0_dev13 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_267 : BitVec 32 := 3#32
  let v318 : BitVec 32 := Scalar.xori v2 c3_i32_267
  let c1_i32_271 : BitVec 32 := 1#32
  let v319 : BitVec 32 := Scalar.muli v318 c1_i32_271
  let v320 : BitVec 32 := Scalar.addi c0_i32_272 v319
  v320.toNat
def k0_dev14 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_294 : BitVec 32 := 4#32
  let v345 : BitVec 32 := Scalar.xori v2 c4_i32_294
  let c1_i32_298 : BitVec 32 := 1#32
  let v346 : BitVec 32 := Scalar.muli v345 c1_i32_298
  let v347 : BitVec 32 := Scalar.addi c0_i32_299 v346
  v347.toNat
def k0_dev15 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_321 : BitVec 32 := 1#32
  let v372 : BitVec 32 := Scalar.xori v2 c1_i32_321
  let c1_i32_325 : BitVec 32 := 1#32
  let v373 : BitVec 32 := Scalar.muli v372 c1_i32_325
  let v374 : BitVec 32 := Scalar.addi c0_i32_326 v373
  v374.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c512_i32_60 : BitVec 32 := 512#32
  let v75 : BitVec 32 := Scalar.muli v7 c512_i32_60
  let v76 : BitVec 32 := Scalar.addi v38 v75
  let c0_i32_348 : BitVec 32 := 0#32
  ![v76.toNat, 0]
def k0_dev16 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_342 : BitVec 32 := 1#32
  let v391 : BitVec 32 := Scalar.xori v2 c1_i32_342
  let c1_i32_346 : BitVec 32 := 1#32
  let v392 : BitVec 32 := Scalar.muli v391 c1_i32_346
  let v393 : BitVec 32 := Scalar.addi c0_i32_347 v392
  v393.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32_0 : BitVec 32 := 2#32
  let v4 : BitVec 32 := Scalar.divsi v2 c2_i32_0
  let c2_i32_1 : BitVec 32 := 2#32
  let v5 : BitVec 32 := Scalar.remsi v4 c2_i32_1
  let c512_i32_61 : BitVec 32 := 512#32
  let v77 : BitVec 32 := Scalar.muli v5 c512_i32_61
  let v78 : BitVec 32 := Scalar.addi v38 v77
  let c384_i32_369 : BitVec 32 := 384#32
  ![v78.toNat, 384]
def k0_dev17 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_363 : BitVec 32 := 3#32
  let v410 : BitVec 32 := Scalar.xori v2 c3_i32_363
  let c1_i32_367 : BitVec 32 := 1#32
  let v411 : BitVec 32 := Scalar.muli v410 c1_i32_367
  let v412 : BitVec 32 := Scalar.addi c0_i32_368 v411
  v412.toNat
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c4_i32 : BitVec 32 := 4#32
  let v6 : BitVec 32 := Scalar.divsi v2 c4_i32
  let c512_i32_62 : BitVec 32 := 512#32
  let v79 : BitVec 32 := Scalar.muli v6 c512_i32_62
  let v80 : BitVec 32 := Scalar.addi v38 v79
  let c768_i32_390 : BitVec 32 := 768#32
  ![v80.toNat, 768]
def k0_dev18 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_384 : BitVec 32 := 4#32
  let v429 : BitVec 32 := Scalar.xori v2 c4_i32_384
  let c1_i32_388 : BitVec 32 := 1#32
  let v430 : BitVec 32 := Scalar.muli v429 c1_i32_388
  let v431 : BitVec 32 := Scalar.addi c0_i32_389 v430
  v431.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let c512_i32_60 : BitVec 32 := 512#32
  let v75 : BitVec 32 := Scalar.muli v7 c512_i32_60
  let v76 : BitVec 32 := Scalar.addi v38 v75
  let v438 : Index := Scalar.indexCast v76
  let c0_392 : Index := 0#32
  ![v438.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c2_i32_0 : BitVec 32 := 2#32
  let v4 : BitVec 32 := Scalar.divsi v2 c2_i32_0
  let c2_i32_1 : BitVec 32 := 2#32
  let v5 : BitVec 32 := Scalar.remsi v4 c2_i32_1
  let c512_i32_61 : BitVec 32 := 512#32
  let v77 : BitVec 32 := Scalar.muli v5 c512_i32_61
  let v78 : BitVec 32 := Scalar.addi v38 v77
  let v443 : Index := Scalar.indexCast v78
  let c384_394 : Index := 384#32
  ![v443.toNat, 384]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c4_i32 : BitVec 32 := 4#32
  let v6 : BitVec 32 := Scalar.divsi v2 c4_i32
  let c512_i32_62 : BitVec 32 := 512#32
  let v79 : BitVec 32 := Scalar.muli v6 c512_i32_62
  let v80 : BitVec 32 := Scalar.addi v38 v79
  let v448 : Index := Scalar.indexCast v80
  let c768_396 : Index := 768#32
  ![v448.toNat, 768]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c1_i32_411 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.xori v3 v5
  let v463 : BitVec 32 := Scalar.subi c1_i32_411 v7
  let c512_i32_412 : BitVec 32 := 512#32
  let v464 : BitVec 32 := Scalar.muli v463 c512_i32_412
  let v465 : BitVec 32 := Scalar.addi v38 v464
  let v466 : Index := Scalar.indexCast v465
  let c0_413 : Index := 0#32
  ![v466.toNat, 0]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c1_i32_428 : BitVec 32 := 1#32
  let c2_i32_0 : BitVec 32 := 2#32
  let v4 : BitVec 32 := Scalar.divsi v2 c2_i32_0
  let c2_i32_1 : BitVec 32 := 2#32
  let v5 : BitVec 32 := Scalar.remsi v4 c2_i32_1
  let v481 : BitVec 32 := Scalar.subi c1_i32_428 v5
  let c512_i32_429 : BitVec 32 := 512#32
  let v482 : BitVec 32 := Scalar.muli v481 c512_i32_429
  let v483 : BitVec 32 := Scalar.addi v38 v482
  let v484 : Index := Scalar.indexCast v483
  let c384_430 : Index := 384#32
  ![v484.toNat, 384]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v38 : BitVec 32 := Scalar.muli v2 c0_i32_29
  let c1_i32_445 : BitVec 32 := 1#32
  let c4_i32 : BitVec 32 := 4#32
  let v6 : BitVec 32 := Scalar.divsi v2 c4_i32
  let v499 : BitVec 32 := Scalar.subi c1_i32_445 v6
  let c512_i32_446 : BitVec 32 := 512#32
  let v500 : BitVec 32 := Scalar.muli v499 c512_i32_446
  let v501 : BitVec 32 := Scalar.addi v38 v500
  let v502 : Index := Scalar.indexCast v501
  let c768_447 : Index := 768#32
  ![v502.toNat, 768]
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S65536x1024 : Shape := ⟨2, ![65536, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S65536x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Mesh.lean ====
/-
# The cube of eight devices and the kernel's offsets

The eight devices form a cube: device `c` has three coordinates, and its partner along an axis differs from it in
that coordinate alone.  The columns are cut in three groups (384, 384 and 256 wide), each reduced over the cube's axes
in an order of its own.  Here are the partners, the rows each device keeps and sends, and the closed forms of the
device numbers and offsets the kernel computes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Kit
public import Idealize.ShloMosaic.Lib.Rounds
public import Idealize.ShloMosaic.Lib.Batch
public import Idealize.ShloMosaic.Lib.Tactic

@[expose] public section

noncomputable section

namespace Cert.EmbedProof

open Cert.KernelIdeal Cert.KernelIdeal.Gen
open Idealize.ShloMosaic Idealize.ShloMosaic.TcCoe

/-- What an axis's partner differs by, as a device number. -/
def mask (k : Fin 3) : ℕ := ![1, 3, 4] k

/-- The partner of `c` along axis `k`. -/
def flip (k : Fin 3) (c : Dev nD) : Dev nD :=
  ⟨(c.val ^^^ mask k) % 8, Nat.mod_lt _ (by decide)⟩

theorem flip_flip (k : Fin 3) (c : Dev nD) : flip k (flip k c) = c := by revert k c; decide
theorem flip_ne (k : Fin 3) (c : Dev nD) : flip k c ≠ c := by revert k c; decide
theorem flip_inj (c : Dev nD) {k k' : Fin 3} (h : flip k c = flip k' c) : k = k' := by revert k k' c; decide

/-- The coordinate of `c` along axis `k`. -/
def coord (k : Fin 3) (c : Dev nD) : ℕ :=
  ![(c.val + c.val / 2) % 2, c.val / 2 % 2, c.val / 4] k

theorem coord_flip (k : Fin 3) (c : Dev nD) : coord k (flip k c) = 1 - coord k c := by revert k c; decide
theorem coord_flip_ne {k j : Fin 3} (h : j ≠ k) (c : Dev nD) : coord j (flip k c) = coord j c := by revert k j c; decide
theorem coord_le (k : Fin 3) (c : Dev nD) : coord k c ≤ 1 := by revert k c; decide

/-- The axis column group `p` uses at its step `i` (its first, second, third). -/
def axis (p i : Fin 3) : Fin 3 := p + i

/-- The partner of `c` at step `i` of column group `p`. -/
abbrev par (p i : Fin 3) (c : Dev nD) : Dev nD := flip (axis p i) c

theorem par_par (p i : Fin 3) (c : Dev nD) : par p i (par p i c) = c := flip_flip _ c

/-- The half of the rows column group `p` keeps on `c`, the half it sends, and in the kept half the quarter it sends at
    the second step and the quarter it keeps to the end. -/
def kHalf (p : Fin 3) (c : Dev nD) : ℕ := coord (axis p 0) c * 512
def sHalf (p : Fin 3) (c : Dev nD) : ℕ := (1 - coord (axis p 0) c) * 512
def sQrt (p : Fin 3) (c : Dev nD) : ℕ := kHalf p c + (1 - coord (axis p 1) c) * 256
def kQrt (p : Fin 3) (c : Dev nD) : ℕ := kHalf p c + coord (axis p 1) c * 256

/-- Where column group `p` starts, and how wide it is. -/
def col (p : Fin 3) : ℕ := ![0, 384, 768] p
def wid (p : Fin 3) : ℕ := ![384, 384, 256] p

theorem sHalf_par0 (p : Fin 3) (c : Dev nD) : sHalf p (par p 0 c) = kHalf p c := by revert p c; decide
theorem kHalf_par0 (p : Fin 3) (c : Dev nD) : kHalf p (par p 0 c) = sHalf p c := by revert p c; decide
theorem sQrt_par1 (p : Fin 3) (c : Dev nD) : sQrt p (par p 1 c) = kQrt p c := by revert p c; decide
theorem kQrt_par1 (p : Fin 3) (c : Dev nD) : kQrt p (par p 1 c) = sQrt p c := by revert p c; decide
theorem kQrt_par2 (p : Fin 3) (c : Dev nD) : kQrt p (par p 2 c) = kQrt p c := by revert p c; decide

/-! ## Device numbers -/

theorem dev1_eq (c : Dev nD) : (⟨k0_dev1 c, k0_dev1_lt c⟩ : Dev nD) = flip 0 c := by revert c; decide +kernel
theorem dev2_eq (c : Dev nD) : (⟨k0_dev2 c, k0_dev2_lt c⟩ : Dev nD) = flip 1 c := by revert c; decide +kernel
theorem dev3_eq (c : Dev nD) : (⟨k0_dev3 c, k0_dev3_lt c⟩ : Dev nD) = flip 2 c := by revert c; decide +kernel
theorem dev4_eq (c : Dev nD) : (⟨k0_dev4 c, k0_dev4_lt c⟩ : Dev nD) = par 0 0 c := by revert c; decide +kernel
theorem dev5_eq (c : Dev nD) : (⟨k0_dev5 c, k0_dev5_lt c⟩ : Dev nD) = par 1 0 c := by revert c; decide +kernel
theorem dev6_eq (c : Dev nD) : (⟨k0_dev6 c, k0_dev6_lt c⟩ : Dev nD) = par 2 0 c := by revert c; decide +kernel
theorem dev7_eq (c : Dev nD) : (⟨k0_dev7 c, k0_dev7_lt c⟩ : Dev nD) = par 0 1 c := by revert c; decide +kernel
theorem dev8_eq (c : Dev nD) : (⟨k0_dev8 c, k0_dev8_lt c⟩ : Dev nD) = par 1 1 c := by revert c; decide +kernel
theorem dev9_eq (c : Dev nD) : (⟨k0_dev9 c, k0_dev9_lt c⟩ : Dev nD) = par 2 1 c := by revert c; decide +kernel
theorem dev10_eq (c : Dev nD) : (⟨k0_dev10 c, k0_dev10_lt c⟩ : Dev nD) = par 0 2 c := by revert c; decide +kernel
theorem dev11_eq (c : Dev nD) : (⟨k0_dev11 c, k0_dev11_lt c⟩ : Dev nD) = par 1 2 c := by revert c; decide +kernel
theorem dev12_eq (c : Dev nD) : (⟨k0_dev12 c, k0_dev12_lt c⟩ : Dev nD) = par 2 2 c := by revert c; decide +kernel
theorem dev13_eq (c : Dev nD) : (⟨k0_dev13 c, k0_dev13_lt c⟩ : Dev nD) = par 0 1 c := by revert c; decide +kernel
theorem dev14_eq (c : Dev nD) : (⟨k0_dev14 c, k0_dev14_lt c⟩ : Dev nD) = par 1 1 c := by revert c; decide +kernel
theorem dev15_eq (c : Dev nD) : (⟨k0_dev15 c, k0_dev15_lt c⟩ : Dev nD) = par 2 1 c := by revert c; decide +kernel
theorem dev16_eq (c : Dev nD) : (⟨k0_dev16 c, k0_dev16_lt c⟩ : Dev nD) = par 0 0 c := by revert c; decide +kernel
theorem dev17_eq (c : Dev nD) : (⟨k0_dev17 c, k0_dev17_lt c⟩ : Dev nD) = par 1 0 c := by revert c; decide +kernel
theorem dev18_eq (c : Dev nD) : (⟨k0_dev18 c, k0_dev18_lt c⟩ : Dev nD) = par 2 0 c := by revert c; decide +kernel

/-! ## Offsets -/

theorem off7_eq (c : Dev nD) : k0_off7 c = ![sHalf 0 c, col 0] := by revert c; decide +kernel
theorem off8_eq (c : Dev nD) : k0_off8 c = ![sHalf 1 c, col 1] := by revert c; decide +kernel
theorem off9_eq (c : Dev nD) : k0_off9 c = ![sHalf 2 c, col 2] := by revert c; decide +kernel
theorem off10_eq (c : Dev nD) : k0_off10 c = ![sQrt 0 c, col 0] := by revert c; decide +kernel
theorem off11_eq (c : Dev nD) : k0_off11 c = ![sQrt 0 c - kHalf 0 c, 0] := by revert c; decide +kernel
theorem off12_eq (c : Dev nD) : k0_off12 c = ![sQrt 0 c, col 0] := by revert c; decide +kernel
theorem off13_eq (c : Dev nD) : k0_off13 c = ![kQrt 0 c, col 0] := by revert c; decide +kernel
theorem off14_eq (c : Dev nD) : k0_off14 c = ![kQrt 0 c - kHalf 0 c, 0] := by revert c; decide +kernel
theorem off15_eq (c : Dev nD) : k0_off15 c = ![sQrt 1 c, col 1] := by revert c; decide +kernel
theorem off16_eq (c : Dev nD) : k0_off16 c = ![sQrt 1 c - kHalf 1 c, 0] := by revert c; decide +kernel
theorem off17_eq (c : Dev nD) : k0_off17 c = ![sQrt 1 c, col 1] := by revert c; decide +kernel
theorem off18_eq (c : Dev nD) : k0_off18 c = ![kQrt 1 c, col 1] := by revert c; decide +kernel
theorem off19_eq (c : Dev nD) : k0_off19 c = ![kQrt 1 c - kHalf 1 c, 0] := by revert c; decide +kernel
theorem off20_eq (c : Dev nD) : k0_off20 c = ![sQrt 2 c, col 2] := by revert c; decide +kernel
theorem off21_eq (c : Dev nD) : k0_off21 c = ![sQrt 2 c - kHalf 2 c, 0] := by revert c; decide +kernel
theorem off22_eq (c : Dev nD) : k0_off22 c = ![sQrt 2 c, col 2] := by revert c; decide +kernel
theorem off23_eq (c : Dev nD) : k0_off23 c = ![kQrt 2 c, col 2] := by revert c; decide +kernel
theorem off24_eq (c : Dev nD) : k0_off24 c = ![kQrt 2 c - kHalf 2 c, 0] := by revert c; decide +kernel
theorem off25_eq (c : Dev nD) : k0_off25 c = ![kQrt 0 c, col 0] := by revert c; decide +kernel
theorem off26_eq (c : Dev nD) : k0_off26 c = ![kQrt 1 c, col 1] := by revert c; decide +kernel
theorem off27_eq (c : Dev nD) : k0_off27 c = ![kQrt 2 c, col 2] := by revert c; decide +kernel
theorem off28_eq (c : Dev nD) : k0_off28 c = ![kHalf 0 c, col 0] := by revert c; decide +kernel
theorem off29_eq (c : Dev nD) : k0_off29 c = ![kHalf 1 c, col 1] := by revert c; decide +kernel
theorem off30_eq (c : Dev nD) : k0_off30 c = ![kHalf 2 c, col 2] := by revert c; decide +kernel
theorem off31_eq (c : Dev nD) : k0_off31 c = ![kHalf 0 c, col 0] := by revert c; decide +kernel
theorem off32_eq (c : Dev nD) : k0_off32 c = ![kHalf 1 c, col 1] := by revert c; decide +kernel
theorem off33_eq (c : Dev nD) : k0_off33 c = ![kHalf 2 c, col 2] := by revert c; decide +kernel
theorem off34_eq (c : Dev nD) : k0_off34 c = ![sHalf 0 c, col 0] := by revert c; decide +kernel
theorem off35_eq (c : Dev nD) : k0_off35 c = ![sHalf 1 c, col 1] := by revert c; decide +kernel
theorem off36_eq (c : Dev nD) : k0_off36 c = ![sHalf 2 c, col 2] := by revert c; decide +kernel

end Cert.EmbedProof

end
-- ==== Proof.Sched.lean ====
/-
# The protocol's cells, contents and schedule

Each device adds its partial rows to its partners' in three steps, halving the rows at the first two, and sends the
sums back out in two more.  A step of a column group is a copy to a partner; the five steps complete on one send cell
of the group, round by round, and on a receive cell each.  A barrier cell per device takes one unit from each of the
three partners, which hands over the landing rows.
-/
module

public import proofs.«01_k».proof.Proof.Mesh

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the protocol's, and counters for the gather's batch -/

abbrev UP : Type := UR sig nD τ
abbrev UB : Type := URounds (GSem nD τ sig) (Fin 3)
abbrev UU : Type := UP × (UB × Counters)

local notation "𝕄" => MT nD τ sig Unit (Elt F) ℕ UU ℕ

abbrev EP : Emb UP (MT nD τ sig Unit (Elt F) ℕ UU ℕ) := embL
/-- The protocol's copy inside the second component. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance

/-! ## Cells -/

abbrev barS : Sem sig := sig.barrier 0 rfl
abbrev gS : DmaSem sig := ⟨3, by decide⟩
def sendS (p : Fin 3) : DmaSem sig := ⟨4 + p.val, by have := p.isLt; show 4 + p.val < 22; omega⟩
/-- The rows of the receive cells' arrays, in the order the steps use them. -/
def ord : Fin 5 → Fin 5 := ![0, 1, 2, 4, 3]
def recvS (s : Fin 5) (p : Fin 3) : DmaSem sig :=
  ⟨7 + 3 * (ord s).val + p.val, by have := p.isLt; have := (ord s).isLt; show 7 + 3 * (ord s).val + p.val < 22; omega⟩

abbrev barCell (c : Dev nD) : GSem nD τ sig := ((c : Thread nD τ), .reg barS)
abbrev sendCell (p : Fin 3) (c : Dev nD) : GSem nD τ sig := ((c : Thread nD τ), .dma (sendS p))
abbrev recvCell (s : Fin 5) (p : Fin 3) (c : Dev nD) : GSem nD τ sig := ((c : Thread nD τ), .dma (recvS s p))
abbrev gCell (c : Dev nD) : GSem nD τ sig := ((c : Thread nD τ), .dma gS)

/-- What a semaphore is to the protocol. -/
inductive Kind where
  | bar | other
  | send (p : Fin 3)
  | recv (s : Fin 5) (p : Fin 3)

def kind : SemLoc sig → Kind
  | .reg _ => .bar
  | .dma q =>
    if h : 4 ≤ q.val ∧ q.val < 7 then .send ⟨q.val - 4, by omega⟩
    else if h : 7 ≤ q.val ∧ q.val < 22 then .recv (ord ⟨(q.val - 7) / 3, by omega⟩) ⟨(q.val - 7) % 3, by omega⟩
    else .other

theorem kind_bar : kind (.reg barS) = .bar := rfl
theorem kind_send (p : Fin 3) : kind (.dma (sendS p)) = .send p := by fin_cases p <;> rfl
theorem kind_recv (s : Fin 5) (p : Fin 3) : kind (.dma (recvS s p)) = .recv s p := by
  fin_cases s <;> fin_cases p <;> rfl
theorem kind_g : kind (.dma gS) = .other := rfl

/-- The step's place in its column group's order of axes, its rows, and what its copy credits. -/
def stp : Fin 5 → Fin 3 := ![0, 1, 2, 1, 0]
def rows : Fin 5 → ℕ := ![512, 256, 256, 256, 512]
def amt (s : Fin 5) (p : Fin 3) : ℕ := rows s * wid p * 2 / 32
theorem amt_pos (s : Fin 5) (p : Fin 3) : 0 < amt s p := by revert s p; decide

/-- The partner of step `s` of column group `p`. -/
abbrev peer (s : Fin 5) (p : Fin 3) (c : Dev nD) : Dev nD := par p (stp s) c

/-! ## Contents -/

/-- A buffer's contents from a value for each row and column. -/
def mat {a b : ℕ} {V : Type} (v : ℕ → ℕ → V) : (Shape.mk 2 ![a, b]).Idx → V := fun j => v (j 0).val (j 1).val

/-- `n` rows from `r`, `w` columns from `k`. -/
def box {a b : ℕ} (r n k w : ℕ) : Finset (Shape.mk 2 ![a, b]).Idx :=
  Finset.univ.filter fun j => (r ≤ (j 0).val ∧ (j 0).val < r + n) ∧ (k ≤ (j 1).val ∧ (j 1).val < k + w)

theorem mem_box {a b r n k w : ℕ} {j : (Shape.mk 2 ![a, b]).Idx} :
    j ∈ (box r n k w : Finset (Shape.mk 2 ![a, b]).Idx)
      ↔ (r ≤ (j 0).val ∧ (j 0).val < r + n) ∧ (k ≤ (j 1).val ∧ (j 1).val < k + w) := by
  unfold box; rw [Finset.mem_filter]; exact and_iff_right (Finset.mem_univ _)

/-- The values of `u` in the window from row `r`, column `k`. -/
def wnd {n w : ℕ} {V : Type} (u : ℕ → ℕ → V) (r k : ℕ) : (Shape.mk 2 ![n, w]).Idx → V :=
  fun j => u (r + (j 0).val) (k + (j 1).val)

/-- Rows `[r, r + n)`, columns `[k, k + w)` of a buffer on `c`, held at share `q`, at the values `u`. -/
def pc {sp : Space} {a b : ℕ} {e : EltTy} (m : Memref sig .tc sp ⟨2, ![a, b]⟩ e) (q : PosShare TreeShare) (r n k w : ℕ)
    (c : Dev nD) (u : ℕ → ℕ → Elt F e) : sProp 𝕄 :=
  iprop(∃ f, ⌜∀ j ∈ (box r n k w : Finset (Shape.mk 2 ![a, b]).Idx), m.view.read (Elt F) f j = mat u j⌝
    ∗ (m.view.loc (c : Thread nD τ) ↦[(box r n k w : Finset (Shape.mk 2 ![a, b]).Idx).map m.view.emb]{q} f))
instance pc_storable {sp : Space} {a b : ℕ} {e : EltTy} (m : Memref sig .tc sp ⟨2, ![a, b]⟩ e) (q : PosShare TreeShare)
    (r n k w : ℕ) (c : Dev nD) (u : ℕ → ℕ → Elt F e) : BI.Storable (upEmb : UEmb _ 𝕄) (pc m q r n k w c u) := by
  unfold pc; infer_instance

/-- The accumulator, the staged output, and the receive buffer of column group `p`. -/
abbrev aM : Memref sig .tc .vmem ⟨2, ![1024, 1024]⟩ .bf16 := Memref.whole cc0_scratch1
abbrev oM : Memref sig .tc .vmem ⟨2, ![1024, 1024]⟩ .f32 := Memref.whole cc0_stg2_0
def rsM (p : Fin 3) : Memref sig .tc .vmem ⟨2, ![1024, wid p]⟩ .bf16 :=
  match p with
  | 0 => Memref.whole cc0_scratch2
  | 1 => Memref.whole cc0_scratch3
  | 2 => Memref.whole cc0_scratch4

abbrev MV (F : FTy → Type) : Type := ℕ → ℕ → F .bf16

variable (x : Dev nD → MV F)

/-- The running sums: after the first exchange, the second, the third. -/
def S1 (p : Fin 3) (c : Dev nD) : MV F := fun i j => FloatOps.addf (x c i j) (x (par p 0 c) i j)
def S2 (p : Fin 3) (c : Dev nD) : MV F := fun i j => FloatOps.addf (S1 x p c i j) (S1 x p (par p 1 c) i j)
def S3 (p : Fin 3) (c : Dev nD) : MV F := fun i j => FloatOps.addf (S2 x p c i j) (S2 x p (par p 2 c) i j)
/-- The sums of the half `c` keeps, once its partner's quarter is back; and of all the rows. -/
def G2 (p : Fin 3) (c : Dev nD) : MV F := fun i j =>
  if kQrt p c ≤ i ∧ i < kQrt p c + 256 then S3 x p c i j else S3 x p (par p 1 c) i j
def G1 (p : Fin 3) (c : Dev nD) : MV F := fun i j =>
  if kHalf p c ≤ i ∧ i < kHalf p c + 512 then G2 x p c i j else G2 x p (par p 0 c) i j

/-- What lands in the receive buffer of column group `p` at each of the three steps, by the buffer's own rows. -/
def R0 (p : Fin 3) (c : Dev nD) : MV F := fun i j => x (par p 0 c) (kHalf p c + i) (col p + j)
def R1 (p : Fin 3) (c : Dev nD) : MV F := fun i j => S1 x p (par p 1 c) (kQrt p c + (i - 512)) (col p + j)
def R2 (p : Fin 3) (c : Dev nD) : MV F := fun i j => S2 x p (par p 2 c) (kQrt p c + (i - 768)) (col p + j)

/-- Rows of column group `p` of the accumulator of `c`, at the values `v`; and of its receive buffer. -/
abbrev accPt (q : PosShare TreeShare) (r n : ℕ) (p : Fin 3) (c : Dev nD) (v : MV F) : sProp 𝕄 :=
  pc aM q r n (col p) (wid p) c v
abbrev rsPt (p : Fin 3) (r n : ℕ) (c : Dev nD) (v : MV F) : sProp 𝕄 := pc (rsM p) fullShare r n 0 (wid p) c v

/-- The rows of a receive buffer step `i` lands in: where they start, and how many. -/
def lo : Fin 3 → ℕ := ![0, 512, 768]
def ln : Fin 3 → ℕ := ![512, 256, 256]

instance accPt_storable (q : PosShare TreeShare) (r n : ℕ) (p : Fin 3) (c : Dev nD) (v : MV F) :
    BI.Storable (upEmb : UEmb _ 𝕄) (accPt q r n p c v) := pc_storable _ _ _ _ _ _ _ _
instance rsPt_storable (p : Fin 3) (r n : ℕ) (c : Dev nD) (v : MV F) :
    BI.Storable (upEmb : UEmb _ 𝕄) (rsPt p r n c v) := pc_storable _ _ _ _ _ _ _ _

/-! ## The schedule -/

/-- The step of column group `p` that talks along axis `k`. -/
def who (k p : Fin 3) : Fin 3 := k - p
theorem who_axis (p i : Fin 3) : who (axis p i) p = i := by revert p i; decide
theorem axis_who (k p : Fin 3) : axis p (who k p) = k := by revert p k; decide

/-- All receive cells of a device are open. -/
def recvOpen (d : Dev nD) : sProp 𝕄 :=
  bigSep Finset.univ fun sp : Fin 5 × Fin 3 => reached (ER (F := F)) (recvCell sp.1 sp.2 d) 0
/-- The landing rows a device hands to its partner along axis `k`. -/
def landRows (k : Fin 3) (d : Dev nD) : sProp 𝕄 :=
  bigSep Finset.univ fun p : Fin 3 => iprop(∃ v : MV F, rsPt p (lo (who k p)) (ln (who k p)) d v)

def barPay (k : Fin 3) (c : Dev nD) : sProp 𝕄 := iprop(landRows (F := F) k (flip k c) ∗ recvOpen (F := F) (flip k c))

def recvPay (s : Fin 5) (p : Fin 3) (c : Dev nD) : sProp 𝕄 :=
  match s with
  | 0 => iprop(rsPt p 0 512 c (R0 x p c) ∗ accPt fullShare (kHalf p c) 512 p (par p 0 c) (x (par p 0 c)))
  | 1 => iprop(rsPt p 512 256 c (R1 x p c) ∗ accPt fullShare (kQrt p c) 256 p (par p 1 c) (S1 x p (par p 1 c)))
  | 2 => rsPt p 768 256 c (R2 x p c)
  | 3 => accPt fullShare (sQrt p c) 256 p c (S3 x p (par p 1 c))
  | 4 => accPt fullShare (sHalf p c) 512 p c (G2 x p (par p 0 c))

def sendPay (s : ℕ) (p : Fin 3) (c : Dev nD) : sProp 𝕄 :=
  match s with
  | 2 => accPt fullShare (kQrt p c) 256 p c (S2 x p c)
  | 3 => accPt fullShare (kQrt p c) 256 p c (S3 x p c)
  | 4 => accPt fullShare.right (kHalf p c) 512 p c (G2 x p c)
  | _ => iprop(emp)

instance recvOpen_storable (d : Dev nD) : BI.Storable (upEmb : UEmb _ 𝕄) (recvOpen (F := F) d) := by
  unfold recvOpen; infer_instance
instance landRows_storable (k : Fin 3) (d : Dev nD) : BI.Storable (upEmb : UEmb _ 𝕄) (landRows (F := F) k d) := by
  unfold landRows; infer_instance
instance recvOpen_persistent (d : Dev nD) : BI.Persistent (recvOpen (F := F) d) := by
  unfold recvOpen; infer_instance

/-- The amount of a duty: of a send cell's round `r`, the amount of step `r`. -/
def amtN (r : ℕ) (p : Fin 3) : ℕ := if h : r < 5 then amt ⟨r, h⟩ p else 1

/-- The duties of a round, by what the semaphore is. -/
def dutiesOf : Kind → ℕ → Finset (Fin 3)
  | .bar, r => if r = 0 then Finset.univ else ∅
  | .other, _ => ∅
  | .send _, r => if r < 5 then {0} else ∅
  | .recv _ _, r => if r = 0 then {0} else ∅
def unitsOf : Kind → ℕ → ℕ
  | .bar, _ => 1
  | .other, _ => 1
  | .send p, r => amtN r p
  | .recv s p, _ => amt s p
def payOf (d : Dev nD) : Kind → ℕ → Fin 3 → sProp 𝕄
  | .bar, _, k => barPay k d
  | .other, _, _ => iprop(emp)
  | .send p, r, _ => sendPay x r p d
  | .recv s p, _, _ => recvPay x s p d

theorem unitsOf_pos (k : Kind) (r : ℕ) : 0 < unitsOf k r := by
  cases k with
  | bar => exact Nat.one_pos
  | other => exact Nat.one_pos
  | send p =>
    show 0 < amtN r p
    unfold amtN
    split
    · exact amt_pos _ _
    · exact Nat.one_pos
  | recv s p => exact amt_pos _ _

def Rd : Rounds.Schedule (GSem nD τ sig) (Fin 3) 𝕄 where
  duties g r := if g.1.2 = .tc then dutiesOf (kind g.2) r else ∅
  unitless _ := False
  amount g r _ := unitsOf (kind g.2) r
  payload g r d := payOf x g.1.1 (kind g.2) r d
  amount_pos g r d _ := unitsOf_pos _ _

instance sendPay_storable (s : ℕ) (p : Fin 3) (c : Dev nD) : BI.Storable (upEmb : UEmb _ 𝕄) (sendPay x s p c) := by
  unfold sendPay; split <;> infer_instance
instance recvPay_storable (s : Fin 5) (p : Fin 3) (c : Dev nD) : BI.Storable (upEmb : UEmb _ 𝕄) (recvPay x s p c) := by
  unfold recvPay; split <;> infer_instance
instance barPay_storable (k : Fin 3) (c : Dev nD) : BI.Storable (upEmb : UEmb _ 𝕄) (barPay (F := F) k c) := by
  unfold barPay; infer_instance

instance Rd_payload_storable (g : GSem nD τ sig) (r : ℕ) (d : Fin 3) :
    BI.Storable (upEmb : UEmb _ 𝕄) ((Rd x).payload g r d) := by
  show BI.Storable (upEmb : UEmb _ 𝕄) (payOf x g.1.1 (kind g.2) r d)
  cases kind g.2 <;> (unfold payOf; infer_instance)

theorem Rd_duties (c : Dev nD) (sm : SemLoc sig) (r : ℕ) :
    (Rd x).duties ((c : Thread nD τ), sm) r = dutiesOf (kind sm) r := by
  show (if ((c : Thread nD τ).2 = .tc) then dutiesOf (kind sm) r else ∅) = _
  exact if_pos rfl
theorem Rd_amount (c : Dev nD) (sm : SemLoc sig) (r : ℕ) (d : Fin 3) :
    (Rd x).amount ((c : Thread nD τ), sm) r d = unitsOf (kind sm) r := rfl
theorem Rd_payload (c : Dev nD) (sm : SemLoc sig) (r : ℕ) (d : Fin 3) :
    (Rd x).payload ((c : Thread nD τ), sm) r d = payOf x c (kind sm) r d := rfl

theorem duties_bar (c : Dev nD) : (Rd x).duties (barCell c) 0 = Finset.univ := by rw [Rd_duties, kind_bar]; rfl
theorem duties_send (p : Fin 3) (c : Dev nD) (s : Fin 5) : (Rd x).duties (sendCell p c) s.val = {0} := by
  rw [Rd_duties, kind_send]; exact if_pos s.isLt
theorem duties_recv (s : Fin 5) (p : Fin 3) (c : Dev nD) : (Rd x).duties (recvCell s p c) 0 = {0} := by
  rw [Rd_duties, kind_recv]; rfl

theorem duties_bar_later (c : Dev nD) (r : ℕ) (h : 1 ≤ r) : (Rd x).duties (barCell c) r = ∅ := by
  rw [Rd_duties, kind_bar]; exact if_neg (Nat.one_le_iff_ne_zero.mp h)
theorem duties_send_later (p : Fin 3) (c : Dev nD) (r : ℕ) (h : 5 ≤ r) : (Rd x).duties (sendCell p c) r = ∅ := by
  rw [Rd_duties, kind_send]; exact if_neg (Nat.not_lt.mpr h)
theorem duties_recv_later (s : Fin 5) (p : Fin 3) (c : Dev nD) (r : ℕ) (h : 1 ≤ r) :
    (Rd x).duties (recvCell s p c) r = ∅ := by
  rw [Rd_duties, kind_recv]; exact if_neg (Nat.one_le_iff_ne_zero.mp h)

theorem amount_bar (c : Dev nD) (r : ℕ) (d : Fin 3) : (Rd x).amount (barCell c) r d = 1 := by
  rw [Rd_amount, kind_bar]; rfl
theorem amount_send (p : Fin 3) (c : Dev nD) (s : Fin 5) (d : Fin 3) :
    (Rd x).amount (sendCell p c) s.val d = amt s p := by
  rw [Rd_amount, kind_send]; exact dif_pos s.isLt
theorem amount_recv (s : Fin 5) (p : Fin 3) (c : Dev nD) (r : ℕ) (d : Fin 3) :
    (Rd x).amount (recvCell s p c) r d = amt s p := by
  rw [Rd_amount, kind_recv]; rfl

theorem payload_bar (c : Dev nD) (r : ℕ) (k : Fin 3) : (Rd x).payload (barCell c) r k = barPay k c := by
  rw [Rd_payload, kind_bar]; rfl
theorem payload_send (p : Fin 3) (c : Dev nD) (r : ℕ) (d : Fin 3) :
    (Rd x).payload (sendCell p c) r d = sendPay x r p c := by
  rw [Rd_payload, kind_send]; rfl
theorem payload_recv (s : Fin 5) (p : Fin 3) (c : Dev nD) (r : ℕ) (d : Fin 3) :
    (Rd x).payload (recvCell s p c) r d = recvPay x s p c := by
  rw [Rd_payload, kind_recv]; rfl

theorem expect_bar (c : Dev nD) : (Rd x).expect (barCell c) 0 = 3 := by
  unfold Schedule.expect Schedule.amountOf
  rw [duties_bar, Finset.sum_congr rfl (fun d _ => amount_bar x c 0 d)]
  rfl
theorem expect_send (p : Fin 3) (c : Dev nD) (s : Fin 5) : (Rd x).expect (sendCell p c) s.val = amt s p := by
  unfold Schedule.expect Schedule.amountOf; rw [duties_send, Finset.sum_singleton, amount_send]
theorem expect_recv (s : Fin 5) (p : Fin 3) (c : Dev nD) : (Rd x).expect (recvCell s p c) 0 = amt s p := by
  unfold Schedule.expect Schedule.amountOf; rw [duties_recv, Finset.sum_singleton, amount_recv]

theorem rest_bar (c : Dev nD) : bigSep ((Rd x).duties (barCell c) 0 \ ∅) (fun k => (Rd x).payload (barCell c) 0 k)
    = bigSep Finset.univ fun k : Fin 3 => barPay (F := F) k c := by
  rw [Finset.sdiff_empty, duties_bar, funext (payload_bar x c 0)]
theorem rest_send (p : Fin 3) (c : Dev nD) (s : Fin 5) :
    bigSep ((Rd x).duties (sendCell p c) s.val \ ∅) (fun k => (Rd x).payload (sendCell p c) s.val k) = sendPay x s.val p c := by
  rw [Finset.sdiff_empty, duties_send, bigSep_singleton, payload_send]
theorem rest_recv (s : Fin 5) (p : Fin 3) (c : Dev nD) :
    bigSep ((Rd x).duties (recvCell s p c) 0 \ ∅) (fun k => (Rd x).payload (recvCell s p c) 0 k) = recvPay x s p c := by
  rw [Finset.sdiff_empty, duties_recv, bigSep_singleton, payload_recv]

/-! ## What a device owes, and the levels -/

/-- A unit to a partner's barrier cell (no step, the axis), or a step's copy to its partner's receive cell. -/
abbrev Due : Type := Option (Fin 5) × Fin 3

def target (c : Dev nD) : Due → GSem nD τ sig
  | (none, k) => barCell (flip k c)
  | (some s, p) => recvCell s p (peer s p c)
def dueAmt : Due → ℕ
  | (none, _) => 1
  | (some s, p) => amt s p
def dueLev : Due → ℕ
  | (none, _) => 1
  | (some s, _) => s.val + 2

def Ow (c : Dev nD) (T : Finset Due) : CellTallies nD τ sig Unit := ∑ d ∈ T, tallyAt (target c d) () (dueAmt d)

theorem Ow_erase (c : Dev nD) {T : Finset Due} {d : Due} (h : d ∈ T) :
    Ow c T = Ow c (T.erase d) + tallyAt (target c d) () (dueAmt d) := by
  unfold Ow; rw [Finset.sum_erase_add _ _ h]
theorem Ow_empty (c : Dev nD) : Ow c ∅ = 0 := by unfold Ow; rw [Finset.sum_empty]

theorem Ow_pos {c : Dev nD} {T : Finset Due} {g : GSem nD τ sig} {u : Unit} (h : 0 < Ow c T g u) :
    ∃ d ∈ T, g = target c d := by
  by_contra hn
  refine absurd h (Nat.not_lt.mpr (Nat.le_of_eq ?_))
  unfold Ow
  rw [Finset.sum_apply, Finsupp.finset_sum_apply]
  refine Finset.sum_eq_zero fun d hd => ?_
  rw [tallyAt_apply, if_neg fun he => hn ⟨d, hd, he.1⟩]

def L (g : GSem nD τ sig) : Finset Unit := if g.1.2 = .tc then {()} else ∅
def levOf (sm : SemLoc sig) : ℕ :=
  match kind sm with
  | .bar => 1
  | .other => 0
  | .send _ => 0
  | .recv s _ => s.val + 2
def lv (g : GSem nD τ sig) (_ : Unit) : ℕ := levOf g.2
theorem L_of_ne (g : GSem nD τ sig) (h : g.1.2 ≠ .tc) : L g = ∅ := if_neg h
theorem L_tc (c : Dev nD) (sm : SemLoc sig) : L ((c : Thread nD τ), sm) = {()} := if_pos rfl

theorem lv_target (c : Dev nD) (d : Due) (u : Unit) : lv (target c d) u = dueLev d := by
  obtain ⟨o, p⟩ := d
  cases o with
  | none => rfl
  | some s => unfold lv levOf target; dsimp only; rw [kind_recv]; rfl
theorem L_target (c : Dev nD) (d : Due) : L (target c d) = {()} := by
  obtain ⟨o, p⟩ := d
  cases o <;> exact if_pos rfl

theorem mayWait (c : Dev nD) (sm : SemLoc sig) (T : Finset Due) (h : ∀ d ∈ T, levOf sm < dueLev d) :
    (levAts L lv : sProp 𝕄) ⊢ MayWait (c : Thread nD τ) sm () (Ow c T) :=
  MayOwe.of_cut (L := L) (lev := lv) (levOf sm)
    (fun p hp => by rw [Finset.mem_singleton.mp hp, L_tc]; exact Finset.mem_singleton_self _)
    (fun g u hg => by obtain ⟨d, -, rfl⟩ := Ow_pos hg; rw [L_target]; exact Finset.mem_singleton_self _)
    (fun p hp => by rw [Finset.mem_singleton.mp hp]; exact Nat.le_refl _)
    (fun g u hg => by obtain ⟨d, hd, rfl⟩ := Ow_pos hg; rw [lv_target]; exact h d hd)

theorem levOf_send (p : Fin 3) : levOf (.dma (sendS p)) = 0 := by unfold levOf; rw [kind_send]
theorem levOf_recv (s : Fin 5) (p : Fin 3) : levOf (.dma (recvS s p)) = s.val + 2 := by unfold levOf; rw [kind_recv]

end Cert.EmbedProof

end
-- ==== Proof.Pieces.lean ====
/-
# Pieces of buffers

A piece is a block of rows and columns of a buffer at known values.  A slice of the buffer is a piece; pieces split and
join along their rows, and along their shares.
-/
module

public import proofs.«01_k».proof.Proof.Sched

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {sp : Space} {a b : ℕ} {e : EltTy} (m : Memref sig .tc sp ⟨2, ![a, b]⟩ e)

theorem unit_set {off : Fin 2 → ℕ} {n w r k : ℕ} (inb : ∀ i, off i + (![n, w] : Fin 2 → ℕ) i ≤ (Shape.mk 2 ![a, b]).size i)
    (ho : off = ![r, k]) :
    (Rect.unit (s := Shape.mk 2 ![a, b]) off ![n, w] inb).set = box r n k w := by
  subst ho
  ext j
  rw [Rect.mem_set_unit, mem_box]
  exact Fin.forall_fin_two

theorem unit_emb {off : Fin 2 → ℕ} {n w r k : ℕ} (inb : ∀ i, off i + (![n, w] : Fin 2 → ℕ) i ≤ (Shape.mk 2 ![a, b]).size i)
    (ho : off = ![r, k]) {V : Type} (u : ℕ → ℕ → V) (j : (Shape.mk 2 ![n, w]).Idx) :
    mat u ((Rect.unit (s := Shape.mk 2 ![a, b]) off ![n, w] inb).emb j) = wnd u r k j := by
  subst ho
  unfold mat wnd
  rw [Rect.emb_apply, Rect.emb_apply]
  show u (r + 1 * _) (k + 1 * _) = _
  rw [Nat.one_mul, Nat.one_mul]

theorem unit_emb_mem {off : Fin 2 → ℕ} {n w r k : ℕ} (inb : ∀ i, off i + (![n, w] : Fin 2 → ℕ) i ≤ (Shape.mk 2 ![a, b]).size i)
    (ho : off = ![r, k]) (j : (Shape.mk 2 ![n, w]).Idx) :
    (Rect.unit (s := Shape.mk 2 ![a, b]) off ![n, w] inb).emb j ∈ (box r n k w : Finset (Shape.mk 2 ![a, b]).Idx) := by
  rw [← unit_set inb ho, ← Rect.map_emb_univ]
  exact Finset.mem_map_of_mem _ (Finset.mem_univ _)

/-- The slice a piece is: what is read through it, and back. -/
theorem pc_slice {off : Fin 2 → ℕ} {n w r k : ℕ} (inb : ∀ i, off i + (![n, w] : Fin 2 → ℕ) i ≤ (Shape.mk 2 ![a, b]).size i)
    (ho : off = ![r, k]) (q : PosShare TreeShare) (c : Dev nD) (u : ℕ → ℕ → Elt F e) :
    (pc m q r n k w c u : sProp 𝕄) ⊢ iprop(∃ f,
      ⌜(m.view.slice (Rect.unit (s := Shape.mk 2 ![a, b]) off ![n, w] inb)).read (Elt F) f = wnd u r k⌝
        ∗ ((m.view.slice (Rect.unit (s := Shape.mk 2 ![a, b]) off ![n, w] inb)).loc (c : Thread nD τ)
            ↦[(m.view.slice (Rect.unit (s := Shape.mk 2 ![a, b]) off ![n, w] inb)).set]{q} f)) := by
  unfold pc
  iintro ⟨%f, %hf, H⟩
  iexists f
  isplitr
  · ipureintro
    funext j
    have h := hf _ (unit_emb_mem inb ho j)
    rw [unit_emb inb ho] at h
    exact h
  · rw [View.set_slice, unit_set inb ho]; iexact H

theorem pc_of_slice {off : Fin 2 → ℕ} {n w r k : ℕ} (inb : ∀ i, off i + (![n, w] : Fin 2 → ℕ) i ≤ (Shape.mk 2 ![a, b]).size i)
    (ho : off = ![r, k]) (q : PosShare TreeShare) (c : Dev nD) (u : ℕ → ℕ → Elt F e) (f : m.view.ty.Contents (Elt F))
    (hf : (m.view.slice (Rect.unit (s := Shape.mk 2 ![a, b]) off ![n, w] inb)).read (Elt F) f = wnd u r k) :
    ((m.view.slice (Rect.unit (s := Shape.mk 2 ![a, b]) off ![n, w] inb)).loc (c : Thread nD τ)
            ↦[(m.view.slice (Rect.unit (s := Shape.mk 2 ![a, b]) off ![n, w] inb)).set]{q} f) ⊢ (pc m q r n k w c u : sProp 𝕄) := by
  unfold pc
  iintro H
  iexists f
  isplitr
  · ipureintro
    intro j hj
    rw [← unit_set inb ho, ← Rect.map_emb_univ] at hj
    obtain ⟨x, -, rfl⟩ := Finset.mem_map.mp hj
    rw [unit_emb inb ho]
    exact congrFun hf x
  · rw [View.set_slice, unit_set inb ho]; iexact H

theorem pc_congr {q : PosShare TreeShare} {r n k w : ℕ} {c : Dev nD} {u u' : ℕ → ℕ → Elt F e}
    (h : ∀ i j, r ≤ i → i < r + n → k ≤ j → j < k + w → u i j = u' i j) :
    (pc m q r n k w c u : sProp 𝕄) ⊢ pc m q r n k w c u' := by
  unfold pc
  iintro ⟨%f, %hf, H⟩
  iexists f
  isplitr
  · ipureintro
    intro j hj
    rw [hf j hj]
    have hj' := mem_box.mp hj
    exact h _ _ hj'.1.1 hj'.1.2 hj'.2.1 hj'.2.2
  · iexact H

theorem box_split (r n n' k w : ℕ) :
    (box r (n + n') k w : Finset (Shape.mk 2 ![a, b]).Idx) = box r n k w ∪ box (r + n) n' k w := by
  ext j
  rw [Finset.mem_union, mem_box, mem_box, mem_box]
  omega
theorem box_disj (r n n' k w : ℕ) :
    Disjoint (box r n k w : Finset (Shape.mk 2 ![a, b]).Idx) (box (r + n) n' k w) := by
  refine Finset.disjoint_left.mpr fun j h h' => ?_
  rw [mem_box] at h h'
  omega

/-- A piece splits along its rows. -/
theorem pc_split (q : PosShare TreeShare) (r n n' k w : ℕ) (c : Dev nD) (u : ℕ → ℕ → Elt F e) :
    (pc m q r (n + n') k w c u : sProp 𝕄) ⊢ iprop(pc m q r n k w c u ∗ pc m q (r + n) n' k w c u) := by
  unfold pc
  iintro ⟨%f, %hf, H⟩
  rw [box_split, Finset.map_union]
  ihave H := (pointsTo_union ((Finset.disjoint_map _).mpr (box_disj r n n' k w))).1 $$ H
  icases H with ⟨H1, H2⟩
  isplitl [H1]
  · iexists f
    isplitr
    · ipureintro
      exact fun j hj => hf j (by rw [box_split]; exact Finset.mem_union_left _ hj)
    · iexact H1
  · iexists f
    isplitr
    · ipureintro
      exact fun j hj => hf j (by rw [box_split]; exact Finset.mem_union_right _ hj)
    · iexact H2

/-- Two pieces, one below the other, join. -/
theorem pc_join (q : PosShare TreeShare) (r n n' k w : ℕ) (c : Dev nD) (u : ℕ → ℕ → Elt F e) :
    iprop(pc m q r n k w c u ∗ pc m q (r + n) n' k w c u) ⊢ (pc m q r (n + n') k w c u : sProp 𝕄) := by
  unfold pc
  iintro ⟨⟨%f, %hf, H1⟩, ⟨%g, %hg, H2⟩⟩
  ihave H := (pointsTo_join (ℓ := m.view.loc (c : Thread nD τ)) (f := f) (g := g) (q := q) ((Finset.disjoint_map m.view.emb).mpr (box_disj (a := a) (b := b) r n n' k w))) $$ [H1 H2]
  · isplitl [H1]
    · iexact H1
    · iexact H2
  rw [← Finset.map_union, ← box_split]
  iexists _
  isplitr
  rotate_left
  · iexact H
  · ipureintro
    intro j hj
    rw [View.read_apply]
    by_cases h : j ∈ (box (r + n) n' k w : Finset (Shape.mk 2 ![a, b]).Idx)
    · rw [Finset.piecewise_eq_of_mem _ _ _ (Finset.mem_map_of_mem _ h), ← View.read_apply]; exact hg j h
    · rw [Finset.piecewise_eq_of_notMem _ _ _ (fun h' => h ((Finset.mem_map' _).mp h')), ← View.read_apply]
      rw [box_split, Finset.mem_union] at hj
      exact hf j (hj.resolve_right h)

/-- A piece splits into the two halves of its share, and back. -/
theorem pc_share (q : PosShare TreeShare) (r n k w : ℕ) (c : Dev nD) (u : ℕ → ℕ → Elt F e) :
    (pc m q r n k w c u : sProp 𝕄) ⊢ iprop(pc m q.left r n k w c u ∗ pc m q.right r n k w c u) := by
  unfold pc
  iintro ⟨%f, %hf, H⟩
  ihave H := (pointsTo_share (PosShare.mem_left_op_right q)).1 $$ H
  icases H with ⟨H1, H2⟩
  isplitl [H1]
  · iexists f
    isplitr
    · ipureintro; exact hf
    · iexact H1
  · iexists f
    isplitr
    · ipureintro; exact hf
    · iexact H2
theorem pc_unshare (q : PosShare TreeShare) (r n k w : ℕ) (c : Dev nD) (u : ℕ → ℕ → Elt F e) :
    iprop(pc m q.left r n k w c u ∗ pc m q.right r n k w c u) ⊢ (pc m q r n k w c u : sProp 𝕄) := by
  unfold pc
  iintro ⟨⟨%f, %hf, H1⟩, ⟨%g, %hg, H2⟩⟩
  iexists f
  isplitr
  · ipureintro; exact hf
  iapply (pointsTo_share (PosShare.mem_left_op_right q)).2
  isplitl [H1]
  · iexact H1
  · iapply (Entails.of_eq (pointsTo_congr (ℓ := m.view.loc (c : Thread nD τ)) (q := q.right) (f := g) (g := f) ?_)) $$ H2
    intro i hi
    obtain ⟨j, hj, rfl⟩ := Finset.mem_map.mp hi
    have h := (hg j hj).trans (hf j hj).symm
    rw [View.read_apply, View.read_apply] at h
    exact (Function.Injective.eq_iff (cast_bijective _).injective).mp h

end Cert.EmbedProof

end
-- ==== Proof.Steps.lean ====
/-
# The protocol's steps, and the pieces a step moves

One copy of a step, the wait for it on the sender, the wait for it on the receiver: each for any step of any column
group.  A device's part of a column group's cells is in one of three phases at each step: before the copy, after it,
and after the wait for its own copy.
-/
module

public import proofs.«01_k».proof.Proof.Pieces

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (x : Dev nD → MV F)

/-! ## The cells, and what every device knows of them -/

/-- The semaphores of the copies between devices. -/
def scSem (k : Fin 18) : SemLoc sig := .dma ⟨4 + k.val, by have := k.isLt; show 4 + k.val < 22; omega⟩
def barEmb : Dev nD ↪ GSem nD τ sig := ⟨barCell, fun a b h => by
  have h1 := congrArg (fun g : GSem nD τ sig => g.1.1) h
  exact h1⟩
def scEmb : Dev nD × Fin 18 ↪ GSem nD τ sig := ⟨fun ck => ((ck.1 : Thread nD τ), scSem ck.2), fun a b h => by
  have h1 : a.1 = b.1 := congrArg (fun g : GSem nD τ sig => g.1.1) h
  have h2 : scSem a.2 = scSem b.2 := congrArg (fun g : GSem nD τ sig => g.2) h
  unfold scSem at h2
  have h3 := congrArg Fin.val (SemLoc.dma.inj h2)
  simp only at h3
  exact Prod.ext h1 (Fin.ext (by omega))⟩
def barCells : Finset (GSem nD τ sig) := Finset.univ.map barEmb
def scCells : Finset (GSem nD τ sig) := Finset.univ.map scEmb

theorem bar_mem (c : Dev nD) : barCell c ∈ barCells ∪ scCells :=
  Finset.mem_union_left _ (Finset.mem_map_of_mem barEmb (Finset.mem_univ c))
theorem sc_mem (c : Dev nD) (k : Fin 18) : ((c : Thread nD τ), scSem k) ∈ barCells ∪ scCells :=
  Finset.mem_union_right _ (Finset.mem_map_of_mem scEmb (Finset.mem_univ (c, k)))
def kSend (p : Fin 3) : Fin 18 := ⟨p.val, by have := p.isLt; omega⟩
def kRecv (s : Fin 5) (p : Fin 3) : Fin 18 := ⟨3 + 3 * (ord s).val + p.val, by have := p.isLt; have := (ord s).isLt; omega⟩
theorem scSem_send (p : Fin 3) : scSem (kSend p) = .dma (sendS p) := rfl
theorem scSem_recv (s : Fin 5) (p : Fin 3) : scSem (kRecv s p) = .dma (recvS s p) := by
  unfold scSem recvS kRecv
  exact congrArg SemLoc.dma (Fin.ext (by show 4 + (3 + 3 * (ord s).val + p.val) = 7 + 3 * (ord s).val + p.val; omega))
theorem send_mem (p : Fin 3) (c : Dev nD) : sendCell p c ∈ barCells ∪ scCells := sc_mem c (kSend p)
theorem recv_mem (s : Fin 5) (p : Fin 3) (c : Dev nD) : recvCell s p c ∈ barCells ∪ scCells := by
  have h := sc_mem c (kRecv s p); rw [scSem_recv] at h; exact h

def Inv (κ : GSem nD τ sig → ℕ) : sProp 𝕄 :=
  iprop((bigSep (barCells ∪ scCells) fun g => cellInv ER (Rd x) (κ g) g)
    ∗ (bigSep barCells fun g => reached (ER (F := F)) g 0) ∗ levAts L lv)
instance Inv_persistent (κ : GSem nD τ sig → ℕ) : BI.Persistent (Inv x κ) := by unfold Inv; infer_instance
theorem inv_at (κ : GSem nD τ sig → ℕ) {g : GSem nD τ sig} (hg : g ∈ barCells ∪ scCells) :
    Inv x κ ⊢ cellInv ER (Rd x) (κ g) g := by
  unfold Inv
  iintro ⟨H, -, -⟩
  iapply (show (bigSep (barCells ∪ scCells) fun g => (cellInv ER (Rd x) (κ g) g : sProp 𝕄)) ⊢ cellInv ER (Rd x) (κ g) g
    from bigSep_elim hg) $$ H
theorem inv_bar (κ : GSem nD τ sig → ℕ) (c : Dev nD) : Inv x κ ⊢ reached (ER (F := F)) (barCell c) 0 := by
  unfold Inv
  iintro ⟨-, H, -⟩
  iapply (show (bigSep barCells fun g => (reached (ER (F := F)) g 0 : sProp 𝕄)) ⊢ reached (ER (F := F)) (barCell c) 0
    from bigSep_elim (Finset.mem_map_of_mem barEmb (Finset.mem_univ c))) $$ H
theorem inv_lev (κ : GSem nD τ sig → ℕ) : Inv x κ ⊢ (levAts L lv : sProp 𝕄) := by
  unfold Inv
  iintro ⟨-, -, H⟩
  iexact H

/-- Past the barrier a device also knows its partners' receive cells to be open. -/
def Cx (κ : GSem nD τ sig → ℕ) (c : Dev nD) : sProp 𝕄 :=
  iprop(Inv x κ ∗ bigSep Finset.univ fun k : Fin 3 => recvOpen (F := F) (flip k c))
instance Cx_persistent (κ : GSem nD τ sig → ℕ) (c : Dev nD) : BI.Persistent (Cx x κ c) := by unfold Cx; infer_instance
theorem cx_inv (κ : GSem nD τ sig → ℕ) (c : Dev nD) : Cx x κ c ⊢ Inv x κ := by
  unfold Cx; iintro ⟨H, -⟩; iexact H
theorem cx_reached (κ : GSem nD τ sig → ℕ) (c : Dev nD) (s : Fin 5) (p : Fin 3) :
    Cx x κ c ⊢ reached (ER (F := F)) (recvCell s p (peer s p c)) 0 := by
  unfold Cx
  iintro ⟨-, H⟩
  ihave H := (show (bigSep Finset.univ fun k : Fin 3 => recvOpen (F := F) (flip k c)) ⊢ recvOpen (F := F) (peer s p c)
    from bigSep_elim (Finset.mem_univ (axis p (stp s)))) $$ H
  unfold recvOpen
  iapply (show (bigSep Finset.univ fun sp : Fin 5 × Fin 3 => reached (ER (F := F)) (recvCell sp.1 sp.2 (peer s p c)) 0)
      ⊢ reached (ER (F := F)) (recvCell s p (peer s p c)) 0
    from bigSep_elim (Finset.mem_univ (s, p))) $$ H

/-! ## A column group's cells on one device -/

def Tok (p : Fin 3) (c : Dev nD) (s : Fin 5) : sProp 𝕄 :=
  iprop(dutyTok (ER (F := F)) (sendCell p c) s.val 0 ∗ dutyTok (ER (F := F)) (recvCell s p (peer s p c)) 0 0)
def Exp (p : Fin 3) (c : Dev nD) (s : Fin 5) : sProp 𝕄 :=
  iprop(atPos (ER (F := F)) (recvCell s p c) 0 ∅ 0 ∗ cred (tallyAt (recvCell s p c) () (amt s p)))
def Done (p : Fin 3) (c : Dev nD) (s : Fin 5) : sProp 𝕄 := atPos (ER (F := F)) (recvCell s p c) 1 ∅ 0
def Pos (p : Fin 3) (c : Dev nD) (n : ℕ) : sProp 𝕄 :=
  iprop(atPos (ER (F := F)) (sendCell p c) n ∅ 0 ∗ reached (ER (F := F)) (sendCell p c) n)
def Fut (p : Fin 3) (c : Dev nD) (n : ℕ) : sProp 𝕄 :=
  bigSep (Finset.univ.filter fun s : Fin 5 => n ≤ s.val) fun s => iprop(Tok (F := F) p c s ∗ Exp (F := F) p c s)
def Past (p : Fin 3) (c : Dev nD) (n : ℕ) : sProp 𝕄 :=
  bigSep (Finset.univ.filter fun s : Fin 5 => s.val < n) fun s => Done (F := F) p c s

/-- Before the copy of step `n`; after it; after the wait for it. -/
def Cs0 (p : Fin 3) (c : Dev nD) (n : ℕ) : sProp 𝕄 :=
  iprop(Pos (F := F) p c n ∗ Fut (F := F) p c n ∗ Past (F := F) p c n)
def Cs1 (p : Fin 3) (c : Dev nD) (s : Fin 5) : sProp 𝕄 :=
  iprop(Pos (F := F) p c s.val ∗ cred (tallyAt (sendCell p c) () (amt s p)) ∗ Exp (F := F) p c s
    ∗ Fut (F := F) p c (s.val + 1) ∗ Past (F := F) p c s.val)
def Cs2 (p : Fin 3) (c : Dev nD) (s : Fin 5) : sProp 𝕄 :=
  iprop(Pos (F := F) p c (s.val + 1) ∗ Exp (F := F) p c s ∗ Fut (F := F) p c (s.val + 1) ∗ Past (F := F) p c s.val)

theorem fut_take (p : Fin 3) (c : Dev nD) (s : Fin 5) :
    Fut (F := F) p c s.val ⊢ iprop((Tok (F := F) p c s ∗ Exp (F := F) p c s) ∗ Fut (F := F) p c (s.val + 1)) := by
  unfold Fut
  rw [show (Finset.univ.filter fun t : Fin 5 => s.val ≤ t.val) = insert s (Finset.univ.filter fun t : Fin 5 => s.val + 1 ≤ t.val)
    from by revert s; decide, bigSep_insert (by revert s; decide)]
  exact BI.Entails.refl _
theorem past_put (p : Fin 3) (c : Dev nD) (s : Fin 5) :
    iprop(Done (F := F) p c s ∗ Past (F := F) p c s.val) ⊢ Past (F := F) p c (s.val + 1) := by
  unfold Past
  rw [show (Finset.univ.filter fun t : Fin 5 => t.val < s.val + 1) = insert s (Finset.univ.filter fun t : Fin 5 => t.val < s.val)
    from by revert s; decide, bigSep_insert (by revert s; decide)]
  exact BI.Entails.refl _

def Owe (c : Dev nD) (T : Finset Due) : sProp 𝕄 := iprop(∃ W, owes (c : Thread nD τ) (Ow c T) W)

/-! ## Waiting -/

theorem wait_send (κ : GSem nD τ sig → ℕ) (p : Fin 3) (c : Dev nD) (s : Fin 5) (T : Finset Due)
    {q : DmaSem sig} (hq : q = sendS p) {sp sp' : Space} {sh sh' : Shape} {e e' : EltTy}
    {src : Memref sig .tc sp' sh' e'} {dst : Memref sig .tc sp sh e} {hsrc : src.view.WordExact} {hdst : dst.view.WordExact}
    (hN : dst.view.dmaCredit = amt s p)
    {α : Type} {k : PUnit → Prog (TpuEff nD τ sig (Elt F) Λ₀ .tc) α} {Q : α → sProp 𝕄} :
    Cx x κ c ⊢ iprop(Cs1 (F := F) p c s -∗ Owe (F := F) c T
      -∗ (Cs2 (F := F) p c s -∗ sendPay x s.val p c -∗ Owe (F := F) c T
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  subst hq
  unfold Cs1 Cs2 Owe Pos
  iintro #HC ⟨⟨Hat, -⟩, Hcr, Hex, Hfu, Hpa⟩ ⟨%W, HO⟩ Hk
  iapply (Rounds.wp_wait_rest_token 𝒱₀ ER (Rd x) (c : Thread nD τ) none (κ := κ (sendCell p c))
      (wpE_waitDma2_eq 𝒱₀ (c : Thread nD τ) none Set.univ) (Set.mem_univ _) () (O := Ow c T) (W := W) (R := s.val) (m := 0) (T := ∅)
      ((Nat.zero_add _).trans (hN.trans (expect_send x p c s).symm))) $$ [Hcr HO Hat]
  · isplitr; · iapply (inv_at x κ (send_mem p c)); iapply (cx_inv x κ c); iexact HC
    isplitl [Hcr]; · rw [hN]; iexact Hcr
    isplitl [HO]; · iexact HO
    isplitr
    · iapply (mayWait c (.dma (sendS p)) T (fun d _ => by
        rw [levOf_send]; obtain ⟨o, _⟩ := d; cases o <;> simp [dueLev]))
      iapply (inv_lev x κ); iapply (cx_inv x κ c); iexact HC
    iexact Hat
  iintro ⟨HO, Hat, Hre, Hpay⟩
  ihave Hpay := (Entails.of_eq (rest_send x p c s)) $$ Hpay
  iapply Hk $$ [Hat Hre Hex Hfu Hpa] Hpay [HO]
  · isplitl [Hat Hre]
    · isplitl [Hat] <;> iassumption
    isplitl [Hex]; · iexact Hex
    isplitl [Hfu] <;> iassumption
  · iexists _; iexact HO

theorem wait_recv (κ : GSem nD τ sig → ℕ) (p : Fin 3) (c : Dev nD) (s : Fin 5) {N : ℕ} (hs0 : s.val + 1 = N) (T : Finset Due)
    (hT : ∀ d ∈ T, s.val + 2 < dueLev d)
    {q : DmaSem sig} (hq : q = recvS s p) {sp sp' : Space} {sh sh' : Shape} {e e' : EltTy}
    {src : Memref sig .tc sp' sh' e'} {dst : Memref sig .tc sp sh e} {hsrc : src.view.WordExact} {hdst : dst.view.WordExact}
    (hN : dst.view.dmaCredit = amt s p)
    {α : Type} {k : PUnit → Prog (TpuEff nD τ sig (Elt F) Λ₀ .tc) α} {Q : α → sProp 𝕄} :
    Cx x κ c ⊢ iprop(Cs2 (F := F) p c s -∗ Owe (F := F) c T
      -∗ (Cs0 (F := F) p c N -∗ recvPay x s p c -∗ Owe (F := F) c T
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  subst hq hs0
  unfold Cs0 Cs2 Owe Exp
  iintro #HC ⟨Hpos, ⟨Hat, Hcr⟩, Hfu, Hpa⟩ ⟨%W, HO⟩ Hk
  iapply (Rounds.wp_wait_rest_token 𝒱₀ ER (Rd x) (c : Thread nD τ) none (κ := κ (recvCell s p c))
      (wpE_waitDma2_eq 𝒱₀ (c : Thread nD τ) none Set.univ) (Set.mem_univ _) () (O := Ow c T) (W := W) (R := 0) (m := 0) (T := ∅)
      ((Nat.zero_add _).trans (hN.trans (expect_recv x s p c).symm))) $$ [Hcr HO Hat]
  · isplitr; · iapply (inv_at x κ (recv_mem s p c)); iapply (cx_inv x κ c); iexact HC
    isplitl [Hcr]; · rw [hN]; iexact Hcr
    isplitl [HO]; · iexact HO
    isplitr
    · iapply (mayWait c (.dma (recvS s p)) T (fun d hd => by rw [levOf_recv]; exact hT d hd))
      iapply (inv_lev x κ); iapply (cx_inv x κ c); iexact HC
    iexact Hat
  iintro ⟨HO, Hat, -, Hpay⟩
  ihave Hpay := (Entails.of_eq (rest_recv x s p c)) $$ Hpay
  iapply Hk $$ [Hat Hpos Hfu Hpa] Hpay [HO]
  · isplitl [Hpos]; · iexact Hpos
    isplitl [Hfu]; · iexact Hfu
    iapply (past_put p c s)
    isplitl [Hat]; · unfold Done; iexact Hat
    iexact Hpa
  · iexists _; iexact HO

/-! ## Windows: a slice that is a piece -/

/-- `s` is the slice of `m` whose first element is at row `r`, column `k`. -/
def Win {sp : Space} {a b n w : ℕ} {e : EltTy} (s : Memref sig .tc sp ⟨2, ![n, w]⟩ e) (m : Memref sig .tc sp ⟨2, ![a, b]⟩ e)
    (r k : ℕ) : Prop :=
  ∃ (off : Fin 2 → ℕ) (inb : ∀ i, off i + (![n, w] : Fin 2 → ℕ) i ≤ (Shape.mk 2 ![a, b]).size i)
    (h : ∀ i, (Rect.unit (s := Shape.mk 2 ![a, b]) off ![n, w] inb).stride i = 1),
    off = ![r, k] ∧ s = m.slice (Rect.unit (s := Shape.mk 2 ![a, b]) off ![n, w] inb) h

theorem win_open {sp : Space} {a b n w r k : ℕ} {e : EltTy} {s : Memref sig .tc sp ⟨2, ![n, w]⟩ e}
    {m : Memref sig .tc sp ⟨2, ![a, b]⟩ e} (h : Win s m r k) (q : PosShare TreeShare) (c : Dev nD) (u : ℕ → ℕ → Elt F e) :
    (pc m q r n k w c u : sProp 𝕄) ⊢ iprop(∃ f, ⌜s.view.read (Elt F) f = wnd u r k⌝
      ∗ (s.view.loc (c : Thread nD τ) ↦[s.view.set]{q} f)) := by
  obtain ⟨off, inb, h, ho, rfl⟩ := h
  exact pc_slice m inb ho q c u
theorem win_close {sp : Space} {a b n w r k : ℕ} {e : EltTy} {s : Memref sig .tc sp ⟨2, ![n, w]⟩ e}
    {m : Memref sig .tc sp ⟨2, ![a, b]⟩ e} (h : Win s m r k) (q : PosShare TreeShare) (c : Dev nD) (u : ℕ → ℕ → Elt F e)
    (f : s.view.ty.Contents (Elt F)) (hf : s.view.read (Elt F) f = wnd u r k) :
    (s.view.loc (c : Thread nD τ) ↦[s.view.set]{q} f) ⊢ (pc m q r n k w c u : sProp 𝕄) := by
  obtain ⟨off, inb, h, ho, rfl⟩ := h
  exact pc_of_slice m inb ho q c u f hf

/-! ## Sending -/

/-- A copy whose source goes to the receiver with what lands. -/
theorem send_land (κ : GSem nD τ sig → ℕ) (p : Fin 3) (c : Dev nD) (s : Fin 5) {N : ℕ} (hs0 : s.val = N) (T : Finset Due) (hT : (some s, p) ∈ T)
    {n : Dev nD} (hn : n = peer s p c) {qs qr : DmaSem sig} (hqs : qs = sendS p) (hqr : qr = recvS s p)
    {a b a' b' m w r k r' k' : ℕ} {bs : Memref sig .tc .vmem ⟨2, ![a, b]⟩ .bf16} {bd : Memref sig .tc .vmem ⟨2, ![a', b']⟩ .bf16}
    {src : Memref sig .tc .vmem ⟨2, ![m, w]⟩ .bf16} {dst : Memref sig .tc .vmem ⟨2, ![m, w]⟩ .bf16}
    (hs : Win src bs r k) (hd : Win dst bd r' k')
    {hsc : (dst : Memref sig (Dev.tc n : Thread nD τ).2.kind .vmem ⟨2, ![m, w]⟩ .bf16).view.ref.isScScratch = false}
    {hsrc : src.view.WordExact} {hdst : dst.view.WordExact}
    {hsem : DmaTarget.Typed .vmem (.dma qr) (.remote (Dev.tc n : Thread nD τ) dst (.dma qs) hsc)}
    (hN : dst.view.dmaCredit = amt s p) {u u' v : MV F} (hu : (wnd u' r' k' : (Shape.mk 2 ![m, w]).Idx → F .bf16) = wnd u r k)
    (hp₁ : (iprop(emp) : sProp 𝕄) ⊢ sendPay x s.val p c)
    (hp₂ : iprop(pc bd fullShare r' m k' w (peer s p c) u' ∗ pc bs fullShare r m k w c u) ⊢ recvPay x s p (peer s p c))
    {α : Type} {kk : PUnit → Prog (TpuEff nD τ sig (Elt F) Λ₀ .tc) α} {Q : α → sProp 𝕄} :
    Cx x κ c ⊢ iprop(Cs0 (F := F) p c N -∗ pc bs fullShare r m k w c u -∗ pc bd fullShare r' m k' w (peer s p c) v
      -∗ Owe (F := F) c T
      -∗ (Cs1 (F := F) p c s -∗ Owe (F := F) c (T.erase (some s, p))
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (Dev.tc n : Thread nD τ) dst (.dma qs) hsc) (.dma qr) hsrc hdst hsem) kk) Q) := by
  subst hn hqs hqr hs0
  unfold Cs0 Cs1 Owe Pos
  iintro #HC ⟨⟨Hat, #Hre⟩, Hfu, Hpa⟩ Hsrc Hdst ⟨%W, HO⟩ Hk
  ihave Hfu := (fut_take p c s) $$ Hfu
  icases Hfu with ⟨⟨Htok, Hex⟩, Hfu⟩
  unfold Tok
  icases Htok with ⟨Ht1, Ht2⟩
  ihave Hsrc := (win_open hs fullShare c u) $$ Hsrc
  icases Hsrc with ⟨%fs, %hfs, Hsrc⟩
  ihave Hdst := (win_open hd fullShare (peer s p c) v) $$ Hdst
  icases Hdst with ⟨%fd, -, Hdst⟩
  iapply (Rounds.wp_send_landing_pointsTo 𝒱₀ ER (Rd x) (c : Thread nD τ) none (c' := (peer s p c : Thread nD τ))
    (src := src) (dst := dst) (sS := .dma (sendS p)) (sem := .dma (recvS s p))
    (κ₁ := κ (sendCell p c)) (κ₂ := κ (recvCell s p (peer s p c)))
    (r₁ := s.val) (r₂ := 0) (d₁ := 0) (d₂ := 0) (fs := fs) (fd := fd)
    (by rw [duties_send]; exact Finset.mem_singleton_self _) (by rw [duties_recv]; exact Finset.mem_singleton_self _)
    () () (amt s p) hN (amount_send x p c s 0) (amount_recv x s p (peer s p c) 0 0) (Ow c (T.erase (some s, p)))
    (Ow_erase c hT) (W := W)
    (by rw [payload_send]; exact hp₁)
    (by
      rw [payload_recv]
      refine BIBase.Entails.trans ?_ hp₂
      exact BIClass.sep_mono (win_close hd fullShare (peer s p c) u' _ (by rw [View.read_write_univ, hfs, hu]))
        (win_close hs fullShare c u fs hfs))) $$ [HO Hsrc Hdst Ht1 Ht2]
  · isplitr; · iapply (inv_at x κ (send_mem p c)); iapply (cx_inv x κ c); iexact HC
    isplitr; · iapply (inv_at x κ (recv_mem s p (peer s p c))); iapply (cx_inv x κ c); iexact HC
    isplitl [Hsrc]; · iexact Hsrc
    isplitl [Hdst]; · iexact Hdst
    isplitl [HO]; · iexact HO
    isplitl [Ht1]; · iexact Ht1
    isplitr; · iexact Hre
    isplitl [Ht2]; · iexact Ht2
    iapply (cx_reached x κ c s p); iexact HC
  iintro ⟨Hcr, HO⟩
  iapply Hk $$ [Hat Hcr Hex Hfu Hpa] [HO]
  · isplitl [Hat]
    · isplitl [Hat]; · iexact Hat
      iexact Hre
    isplitl [Hcr]; · iexact Hcr
    isplitl [Hex]; · iexact Hex
    isplitl [Hfu] <;> iassumption
  · iexists _; iexact HO

/-- A copy whose source comes back to the sender. -/
theorem send_back (κ : GSem nD τ sig → ℕ) (p : Fin 3) (c : Dev nD) (s : Fin 5) {N : ℕ} (hs0 : s.val = N) (T : Finset Due) (hT : (some s, p) ∈ T)
    {n : Dev nD} (hn : n = peer s p c) {qs qr : DmaSem sig} (hqs : qs = sendS p) (hqr : qr = recvS s p)
    {a b a' b' m w r k r' k' : ℕ} {bs : Memref sig .tc .vmem ⟨2, ![a, b]⟩ .bf16} {bd : Memref sig .tc .vmem ⟨2, ![a', b']⟩ .bf16}
    {src : Memref sig .tc .vmem ⟨2, ![m, w]⟩ .bf16} {dst : Memref sig .tc .vmem ⟨2, ![m, w]⟩ .bf16}
    (hs : Win src bs r k) (hd : Win dst bd r' k')
    {hsc : (dst : Memref sig (Dev.tc n : Thread nD τ).2.kind .vmem ⟨2, ![m, w]⟩ .bf16).view.ref.isScScratch = false}
    {hsrc : src.view.WordExact} {hdst : dst.view.WordExact}
    {hsem : DmaTarget.Typed .vmem (.dma qr) (.remote (Dev.tc n : Thread nD τ) dst (.dma qs) hsc)}
    (hN : dst.view.dmaCredit = amt s p) {u u' v : MV F} (hu : (wnd u' r' k' : (Shape.mk 2 ![m, w]).Idx → F .bf16) = wnd u r k)
    {q : PosShare TreeShare} (hp₁ : pc bs q r m k w c u ⊢ sendPay x s.val p c)
    (hp₂ : pc bd fullShare r' m k' w (peer s p c) u' ⊢ recvPay x s p (peer s p c))
    {α : Type} {kk : PUnit → Prog (TpuEff nD τ sig (Elt F) Λ₀ .tc) α} {Q : α → sProp 𝕄} :
    Cx x κ c ⊢ iprop(Cs0 (F := F) p c N -∗ pc bs q r m k w c u -∗ pc bd fullShare r' m k' w (peer s p c) v
      -∗ Owe (F := F) c T
      -∗ (Cs1 (F := F) p c s -∗ Owe (F := F) c (T.erase (some s, p))
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (Dev.tc n : Thread nD τ) dst (.dma qs) hsc) (.dma qr) hsrc hdst hsem) kk) Q) := by
  subst hn hqs hqr hs0
  unfold Cs0 Cs1 Owe Pos
  iintro #HC ⟨⟨Hat, #Hre⟩, Hfu, Hpa⟩ Hsrc Hdst ⟨%W, HO⟩ Hk
  ihave Hfu := (fut_take p c s) $$ Hfu
  icases Hfu with ⟨⟨Htok, Hex⟩, Hfu⟩
  unfold Tok
  icases Htok with ⟨Ht1, Ht2⟩
  ihave Hsrc := (win_open hs q c u) $$ Hsrc
  icases Hsrc with ⟨%fs, %hfs, Hsrc⟩
  ihave Hdst := (win_open hd fullShare (peer s p c) v) $$ Hdst
  icases Hdst with ⟨%fd, -, Hdst⟩
  iapply (Rounds.wp_send_pointsTo 𝒱₀ ER (Rd x) (c : Thread nD τ) none (c' := (peer s p c : Thread nD τ))
    (src := src) (dst := dst) (sS := .dma (sendS p)) (sem := .dma (recvS s p))
    (κ₁ := κ (sendCell p c)) (κ₂ := κ (recvCell s p (peer s p c)))
    (r₁ := s.val) (r₂ := 0) (d₁ := 0) (d₂ := 0) (fs := fs) (fd := fd)
    (by rw [duties_send]; exact Finset.mem_singleton_self _) (by rw [duties_recv]; exact Finset.mem_singleton_self _)
    () () (amt s p) hN (amount_send x p c s 0) (amount_recv x s p (peer s p c) 0 0) (Ow c (T.erase (some s, p)))
    (Ow_erase c hT) (W := W)
    (by rw [payload_send]; exact BIBase.Entails.trans (win_close hs q c u fs hfs) hp₁)
    (by
      rw [payload_recv]
      refine BIBase.Entails.trans ?_ hp₂
      exact win_close hd fullShare (peer s p c) u' _ (by rw [View.read_write_univ, hfs, hu]))) $$ [HO Hsrc Hdst Ht1 Ht2]
  · isplitr; · iapply (inv_at x κ (send_mem p c)); iapply (cx_inv x κ c); iexact HC
    isplitr; · iapply (inv_at x κ (recv_mem s p (peer s p c))); iapply (cx_inv x κ c); iexact HC
    isplitl [Hsrc]; · iexact Hsrc
    isplitl [Hdst]; · iexact Hdst
    isplitl [HO]; · iexact HO
    isplitl [Ht1]; · iexact Ht1
    isplitr; · iexact Hre
    isplitl [Ht2]; · iexact Ht2
    iapply (cx_reached x κ c s p); iexact HC
  iintro ⟨Hcr, HO⟩
  iapply Hk $$ [Hat Hcr Hex Hfu Hpa] [HO]
  · isplitl [Hat]
    · isplitl [Hat]; · iexact Hat
      iexact Hre
    isplitl [Hcr]; · iexact Hcr
    isplitl [Hex]; · iexact Hex
    isplitl [Hfu] <;> iassumption
  · iexists _; iexact HO

end Cert.EmbedProof

end
-- ==== Proof.State.lean ====
/-
# A column group's progress on one device

A device takes a column group through twenty-one operations: five copies, two waits for each, four additions and two
stores of the result.  `St x p c n` is what the device holds of the group after `n` of them; each operation takes the
group from one to the next.
-/
module

public import proofs.«01_k».proof.Proof.Steps

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → MV F)

/-! ## Loads and stores of pieces -/

/-- A load of a piece reads its values. -/
theorem load_pc {a b n w r k : ℕ} {e : EltTy} (m : Memref sig .tc .vmem ⟨2, ![a, b]⟩ e) (q : PosShare TreeShare) (c : Dev nD)
    (u : ℕ → ℕ → Elt F e) {off : Fin 2 → ℕ}
    {inb : ∀ i, off i + (![n, w] : Fin 2 → ℕ) i ≤ (Shape.mk 2 ![a, b]).size i} (ho : off = ![r, k])
    {hl : m.view.LoadsAt (Rect.unit (s := Shape.mk 2 ![a, b]) off ![n, w] inb).toLoadRect}
    {α : Type} {kk : ((Shape.mk 2 ![n, w]).Idx → Elt F e) → Prog (TpuEff nD τ sig (Elt F) Λ₀ .tc) α} {Q : α → sProp 𝕄} :
    pc m q r n k w c u ⊢ iprop((pc m q r n k w c u
        -∗ wp frame (wpE (defs₀ (F := F)) 𝒱₀ (c : Thread nD τ) none) Set.univ (kk (wnd u r k)) Q)
      -∗ wp frame (wpE (defs₀ (F := F)) 𝒱₀ (c : Thread nD τ) none) Set.univ
          (.op (.load m (Rect.unit (s := Shape.mk 2 ![a, b]) off ![n, w] inb).toLoadRect hl) kk) Q) := by
  iintro H Hk
  ihave H := (pc_slice m inb ho q c u) $$ H
  icases H with ⟨%f, %hf, H⟩
  iapply (wp_load_rect 𝒱₀ (c : Thread nD τ) none Set.univ (m := m) (r := Rect.unit (s := Shape.mk 2 ![a, b]) off ![n, w] inb)
    (Finset.Subset.refl _)) $$ H
  iintro H
  rw [hf]
  iapply Hk
  iapply (pc_of_slice m inb ho q c u f hf) $$ H

/-- A store over a piece leaves what was stored. -/
theorem store_pc {a b n w r k : ℕ} {e : EltTy} (m : Memref sig .tc .vmem ⟨2, ![a, b]⟩ e) (c : Dev nD)
    (u u' : ℕ → ℕ → Elt F e) {off : Fin 2 → ℕ}
    {inb : ∀ i, off i + (![n, w] : Fin 2 → ℕ) i ≤ (Shape.mk 2 ![a, b]).size i} (ho : off = ![r, k])
    {W : (Shape.mk 2 ![n, w]).Idx → Elt F e} (hW : W = wnd u' r k)
    {hx : (m.access (Rect.unit (s := Shape.mk 2 ![a, b]) off ![n, w] inb)).Stores Finset.univ}
    {hm : (Finset.univ : Finset (Shape.mk 2 ![n, w]).Idx) = Finset.univ
      ∨ ∀ i, (Rect.unit (s := Shape.mk 2 ![a, b]) off ![n, w] inb).stride i = 1}
    {α : Type} {kk : PUnit → Prog (TpuEff nD τ sig (Elt F) Λ₀ .tc) α} {Q : α → sProp 𝕄} :
    pc m fullShare r n k w c u ⊢ iprop((pc m fullShare r n k w c u'
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.store m (Rect.unit (s := Shape.mk 2 ![a, b]) off ![n, w] inb) W Finset.univ hx hm) kk) Q) := by
  iintro H Hk
  ihave H := (pc_slice m inb ho fullShare c u) $$ H
  icases H with ⟨%f, %hf, H⟩
  iapply (wp_store 𝒱₀ (c : Thread nD τ) none Set.univ (m := m) (r := Rect.unit (s := Shape.mk 2 ![a, b]) off ![n, w] inb)
    (Mk := Finset.univ) (S := (m.view.slice (Rect.unit (s := Shape.mk 2 ![a, b]) off ![n, w] inb)).set)
    (Finset.Subset.refl _)) $$ H
  iintro H
  iapply Hk
  iapply (pc_of_slice m inb ho fullShare c u' _ ?_) $$ H
  rw [View.read_write_univ, hW]

/-! ## What a device holds of a column group -/

/-- The rows a device sends in its first two copies and the rest, of the half it keeps. -/
theorem half_cases (p : Fin 3) (c : Dev nD) :
    (kHalf p c = 0 ∧ sHalf p c = 512) ∨ (kHalf p c = 512 ∧ sHalf p c = 0) := by revert p c; decide
theorem qrt_cases (p : Fin 3) (c : Dev nD) :
    (kQrt p c = kHalf p c ∧ sQrt p c = kHalf p c + 256) ∨ (sQrt p c = kHalf p c ∧ kQrt p c = kHalf p c + 256) := by
  revert p c; decide

/-- A stretch of 512 rows, cut in two at the device's quarters. -/
theorem cut_qrt {sp : Space} {a b : ℕ} {e : EltTy} (m : Memref sig .tc sp ⟨2, ![a, b]⟩ e) (q : PosShare TreeShare) (k w t : ℕ)
    (p : Fin 3) (c d : Dev nD) (u : ℕ → ℕ → Elt F e) (ht : t ≤ kHalf p c) :
    (pc m q (kHalf p c - t) 512 k w d u : sProp 𝕄)
      ⊢ iprop(pc m q (sQrt p c - t) 256 k w d u ∗ pc m q (kQrt p c - t) 256 k w d u) := by
  rcases qrt_cases p c with ⟨h1, h2⟩ | ⟨h1, h2⟩
  · rw [h1, h2, show kHalf p c + 256 - t = kHalf p c - t + 256 by omega]
    iintro H
    ihave H := (pc_split m q (kHalf p c - t) 256 256 k w d u) $$ H
    icases H with ⟨H1, H2⟩
    isplitl [H2] <;> iassumption
  · rw [h1, h2, show kHalf p c + 256 - t = kHalf p c - t + 256 by omega]
    exact pc_split m q (kHalf p c - t) 256 256 k w d u
theorem glue_qrt {sp : Space} {a b : ℕ} {e : EltTy} (m : Memref sig .tc sp ⟨2, ![a, b]⟩ e) (q : PosShare TreeShare) (k w t : ℕ)
    (p : Fin 3) (c d : Dev nD) (u : ℕ → ℕ → Elt F e) (ht : t ≤ kHalf p c) :
    iprop(pc m q (sQrt p c - t) 256 k w d u ∗ pc m q (kQrt p c - t) 256 k w d u)
      ⊢ (pc m q (kHalf p c - t) 512 k w d u : sProp 𝕄) := by
  rcases qrt_cases p c with ⟨h1, h2⟩ | ⟨h1, h2⟩
  · rw [h1, h2, show kHalf p c + 256 - t = kHalf p c - t + 256 by omega]
    iintro ⟨H1, H2⟩
    iapply (pc_join m q (kHalf p c - t) 256 256 k w d u)
    isplitl [H2] <;> iassumption
  · rw [h1, h2, show kHalf p c + 256 - t = kHalf p c - t + 256 by omega]
    exact pc_join m q (kHalf p c - t) 256 256 k w d u
/-- All 1024 rows, cut at the device's halves. -/
theorem cut_half {sp : Space} {a b : ℕ} {e : EltTy} (m : Memref sig .tc sp ⟨2, ![a, b]⟩ e) (q : PosShare TreeShare) (k w : ℕ)
    (p : Fin 3) (c d : Dev nD) (u : ℕ → ℕ → Elt F e) :
    (pc m q 0 1024 k w d u : sProp 𝕄) ⊢ iprop(pc m q (sHalf p c) 512 k w d u ∗ pc m q (kHalf p c) 512 k w d u) := by
  rcases half_cases p c with ⟨h1, h2⟩ | ⟨h1, h2⟩
  · rw [h1, h2]
    iintro H
    ihave H := (pc_split m q 0 512 512 k w d u) $$ H
    icases H with ⟨H1, H2⟩
    isplitl [H2] <;> iassumption
  · rw [h1, h2]
    exact pc_split m q 0 512 512 k w d u
theorem glue_half {sp : Space} {a b : ℕ} {e : EltTy} (m : Memref sig .tc sp ⟨2, ![a, b]⟩ e) (q : PosShare TreeShare) (k w : ℕ)
    (p : Fin 3) (c d : Dev nD) (u : ℕ → ℕ → Elt F e) :
    iprop(pc m q (sHalf p c) 512 k w d u ∗ pc m q (kHalf p c) 512 k w d u) ⊢ (pc m q 0 1024 k w d u : sProp 𝕄) := by
  rcases half_cases p c with ⟨h1, h2⟩ | ⟨h1, h2⟩
  · rw [h1, h2]
    iintro ⟨H1, H2⟩
    iapply (pc_join m q 0 512 512 k w d u)
    isplitl [H2] <;> iassumption
  · rw [h1, h2]
    exact pc_join m q 0 512 512 k w d u

/-- Rows of another device's accumulator, at values not chosen; and the landing rows of step `i` at the partner's. -/
def accAny (r n : ℕ) (p : Fin 3) (c : Dev nD) : sProp 𝕄 := iprop(∃ v : MV F, accPt fullShare r n p c v)
def landAny (p i : Fin 3) (c : Dev nD) : sProp 𝕄 := iprop(∃ v : MV F, rsPt p (lo i) (ln i) (par p i c) v)
/-- 512 rows of the staged result: at values not chosen, and at the extensions of `v`. -/
def outAny (r : ℕ) (p : Fin 3) (c : Dev nD) : sProp 𝕄 :=
  iprop(∃ v : ℕ → ℕ → F .f32, pc oM fullShare r 512 (col p) (wid p) c v)
def wide (v : MV F) : ℕ → ℕ → F .f32 := fun i j => FloatOps.extf .f32 bitsLt_bf16_f32 (v i j)
abbrev outPt (r : ℕ) (p : Fin 3) (c : Dev nD) (v : MV F) : sProp 𝕄 :=
  pc (e := .f32) oM fullShare r 512 (col p) (wid p) c (wide v)
/-- What landed at the three steps of the first pass, once it is there. -/
def got0 (p : Fin 3) (c : Dev nD) : sProp 𝕄 :=
  iprop(rsPt p (sQrt p c - kHalf p c) 256 c (R0 x p c) ∗ rsPt p (kQrt p c - kHalf p c) 256 c (R0 x p c))
abbrev got1 (p : Fin 3) (c : Dev nD) : sProp 𝕄 := rsPt p 512 256 c (R1 x p c)
abbrev got2 (p : Fin 3) (c : Dev nD) : sProp 𝕄 := rsPt p 768 256 c (R2 x p c)
def outs (p : Fin 3) (c : Dev nD) : sProp 𝕄 := iprop(outAny (F := F) (kHalf p c) p c ∗ outAny (F := F) (sHalf p c) p c)

def St (p : Fin 3) (c : Dev nD) : ℕ → sProp 𝕄
  | 0 => iprop(Cs0 (F := F) p c 0 ∗ accPt fullShare (sHalf p c) 512 p c (x c) ∗ accPt fullShare (kHalf p c) 512 p c (x c)
      ∗ landAny (F := F) p 0 c ∗ landAny (F := F) p 1 c ∗ landAny (F := F) p 2 c ∗ outs (F := F) p c)
  | 1 => iprop(Cs1 (F := F) p c 0 ∗ accPt fullShare (kHalf p c) 512 p c (x c)
      ∗ landAny (F := F) p 1 c ∗ landAny (F := F) p 2 c ∗ outs (F := F) p c)
  | 2 => iprop(Cs2 (F := F) p c 0 ∗ accPt fullShare (kHalf p c) 512 p c (x c)
      ∗ landAny (F := F) p 1 c ∗ landAny (F := F) p 2 c ∗ outs (F := F) p c)
  | 3 => iprop(Cs0 (F := F) p c 1 ∗ accPt fullShare (sQrt p c) 256 p c (x c) ∗ accPt fullShare (kQrt p c) 256 p c (x c)
      ∗ got0 x p c ∗ accAny (F := F) (kHalf p c) 512 p (par p 0 c)
      ∗ landAny (F := F) p 1 c ∗ landAny (F := F) p 2 c ∗ outs (F := F) p c)
  | 4 => iprop(Cs0 (F := F) p c 1 ∗ accPt fullShare (sQrt p c) 256 p c (S1 x p c) ∗ accPt fullShare (kQrt p c) 256 p c (x c)
      ∗ got0 x p c ∗ accAny (F := F) (kHalf p c) 512 p (par p 0 c)
      ∗ landAny (F := F) p 1 c ∗ landAny (F := F) p 2 c ∗ outs (F := F) p c)
  | 5 => iprop(Cs1 (F := F) p c 1 ∗ accPt fullShare (kQrt p c) 256 p c (x c)
      ∗ got0 x p c ∗ accAny (F := F) (kHalf p c) 512 p (par p 0 c) ∗ landAny (F := F) p 2 c ∗ outs (F := F) p c)
  | 6 => iprop(Cs1 (F := F) p c 1 ∗ accPt fullShare (kQrt p c) 256 p c (S1 x p c)
      ∗ got0 x p c ∗ accAny (F := F) (kHalf p c) 512 p (par p 0 c) ∗ landAny (F := F) p 2 c ∗ outs (F := F) p c)
  | 7 => iprop(Cs2 (F := F) p c 1 ∗ accPt fullShare (kQrt p c) 256 p c (S1 x p c)
      ∗ got0 x p c ∗ accAny (F := F) (kHalf p c) 512 p (par p 0 c) ∗ landAny (F := F) p 2 c ∗ outs (F := F) p c)
  | 8 => iprop(Cs0 (F := F) p c 2 ∗ accPt fullShare (kQrt p c) 256 p c (S1 x p c)
      ∗ got0 x p c ∗ got1 x p c ∗ accAny (F := F) (kHalf p c) 512 p (par p 0 c)
      ∗ accAny (F := F) (kQrt p c) 256 p (par p 1 c) ∗ landAny (F := F) p 2 c ∗ outs (F := F) p c)
  | 9 => iprop(Cs0 (F := F) p c 2 ∗ accPt fullShare (kQrt p c) 256 p c (S2 x p c)
      ∗ got0 x p c ∗ got1 x p c ∗ accAny (F := F) (kHalf p c) 512 p (par p 0 c)
      ∗ accAny (F := F) (kQrt p c) 256 p (par p 1 c) ∗ landAny (F := F) p 2 c ∗ outs (F := F) p c)
  | 10 => iprop(Cs1 (F := F) p c 2
      ∗ got0 x p c ∗ got1 x p c ∗ accAny (F := F) (kHalf p c) 512 p (par p 0 c)
      ∗ accAny (F := F) (kQrt p c) 256 p (par p 1 c) ∗ outs (F := F) p c)
  | 11 => iprop(Cs2 (F := F) p c 2 ∗ accPt fullShare (kQrt p c) 256 p c (S2 x p c)
      ∗ got0 x p c ∗ got1 x p c ∗ accAny (F := F) (kHalf p c) 512 p (par p 0 c)
      ∗ accAny (F := F) (kQrt p c) 256 p (par p 1 c) ∗ outs (F := F) p c)
  | 12 => iprop(Cs0 (F := F) p c 3 ∗ accPt fullShare (kQrt p c) 256 p c (S2 x p c)
      ∗ got0 x p c ∗ got1 x p c ∗ got2 x p c ∗ accAny (F := F) (kHalf p c) 512 p (par p 0 c)
      ∗ accAny (F := F) (kQrt p c) 256 p (par p 1 c) ∗ outs (F := F) p c)
  | 13 => iprop(Cs0 (F := F) p c 3 ∗ accPt fullShare (kQrt p c) 256 p c (S3 x p c)
      ∗ got0 x p c ∗ got1 x p c ∗ got2 x p c ∗ accAny (F := F) (kHalf p c) 512 p (par p 0 c)
      ∗ accAny (F := F) (kQrt p c) 256 p (par p 1 c) ∗ outs (F := F) p c)
  | 14 => iprop(Cs1 (F := F) p c 3
      ∗ got0 x p c ∗ got1 x p c ∗ got2 x p c ∗ accAny (F := F) (kHalf p c) 512 p (par p 0 c) ∗ outs (F := F) p c)
  | 15 => iprop(Cs2 (F := F) p c 3 ∗ accPt fullShare (kQrt p c) 256 p c (S3 x p c)
      ∗ got0 x p c ∗ got1 x p c ∗ got2 x p c ∗ accAny (F := F) (kHalf p c) 512 p (par p 0 c) ∗ outs (F := F) p c)
  | 16 => iprop(Cs0 (F := F) p c 4 ∗ accPt fullShare (kHalf p c) 512 p c (G2 x p c)
      ∗ got0 x p c ∗ got1 x p c ∗ got2 x p c ∗ accAny (F := F) (kHalf p c) 512 p (par p 0 c) ∗ outs (F := F) p c)
  | 17 => iprop(Cs1 (F := F) p c 4 ∗ accPt fullShare.left (kHalf p c) 512 p c (G2 x p c)
      ∗ got0 x p c ∗ got1 x p c ∗ got2 x p c ∗ outAny (F := F) (kHalf p c) p c ∗ outAny (F := F) (sHalf p c) p c)
  | 18 => iprop(Cs1 (F := F) p c 4 ∗ accPt fullShare.left (kHalf p c) 512 p c (G2 x p c)
      ∗ got0 x p c ∗ got1 x p c ∗ got2 x p c ∗ outPt (kHalf p c) p c (G2 x p c) ∗ outAny (F := F) (sHalf p c) p c)
  | 19 => iprop(Cs2 (F := F) p c 4 ∗ accPt fullShare (kHalf p c) 512 p c (G2 x p c)
      ∗ got0 x p c ∗ got1 x p c ∗ got2 x p c ∗ outPt (kHalf p c) p c (G2 x p c) ∗ outAny (F := F) (sHalf p c) p c)
  | 20 => iprop(Cs0 (F := F) p c 5 ∗ accPt fullShare (kHalf p c) 512 p c (G2 x p c)
      ∗ accPt fullShare (sHalf p c) 512 p c (G2 x p (par p 0 c))
      ∗ got0 x p c ∗ got1 x p c ∗ got2 x p c ∗ outPt (kHalf p c) p c (G2 x p c) ∗ outAny (F := F) (sHalf p c) p c)
  | _ => iprop(Cs0 (F := F) p c 5 ∗ accPt fullShare (kHalf p c) 512 p c (G2 x p c)
      ∗ accPt fullShare (sHalf p c) 512 p c (G2 x p (par p 0 c))
      ∗ got0 x p c ∗ got1 x p c ∗ got2 x p c ∗ outPt (kHalf p c) p c (G2 x p c) ∗ outPt (sHalf p c) p c (G2 x p (par p 0 c)))

end Cert.EmbedProof

end
-- ==== Proof.Ops.lean ====
/-
# The operations of a column group

Each operation of a column group, as a step from what the device held of the group before it to what it holds after.
-/
module

public import proofs.«01_k».proof.Proof.State

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → MV F)

/-! ## What is still owed: the dues in the order the kernel pays them -/

def rank : Due → ℕ
  | (none, k) => k.val
  | (some s, p) => 3 * s.val + 3 + p.val
def Tl (n : ℕ) : Finset Due := Finset.univ.filter fun d => n ≤ rank d

theorem rank_inj {d d' : Due} (h : rank d = rank d') : d = d' := by revert d d'; decide
theorem Tl_erase (d : Due) : (Tl (rank d)).erase d = Tl (rank d + 1) := by
  ext d'
  unfold Tl
  rw [Finset.mem_erase, Finset.mem_filter, Finset.mem_filter]
  constructor
  · rintro ⟨h1, h2, h3⟩
    exact ⟨h2, by have : rank d' ≠ rank d := fun h => h1 (rank_inj h); omega⟩
  · rintro ⟨h2, h3⟩
    exact ⟨fun h => by rw [h] at h3; omega, h2, by omega⟩
theorem Tl_mem (d : Due) : d ∈ Tl (rank d) := by unfold Tl; rw [Finset.mem_filter]; exact ⟨Finset.mem_univ _, Nat.le_refl _⟩
theorem Tl_lev {n m : ℕ} (h : 3 * m + 6 ≤ n) : ∀ d ∈ Tl n, m + 2 < dueLev d := by
  intro d hd
  unfold Tl at hd
  rw [Finset.mem_filter] at hd
  obtain ⟨-, hd⟩ := hd
  obtain ⟨o, p⟩ := d
  have := p.isLt
  cases o with
  | none => unfold rank at hd; dsimp only at hd; omega
  | some s => unfold rank at hd; unfold dueLev; dsimp only at hd ⊢; omega

theorem owe_step (c : Dev nD) (s : Fin 5) (p : Fin 3) {n m : ℕ} (hm : m = n + 1) (hn : n = rank (some s, p) := by rfl) :
    Owe (F := F) c ((Tl n).erase (some s, p)) ⊢ Owe c (Tl m) := by
  rw [hm, hn, Tl_erase]

/-! ## Sends -/

/-- The copy of the half given up, to the partner along the first axis. -/
theorem st_ex (κ : GSem nD τ sig → ℕ) (p : Fin 3) (c : Dev nD) {t t' : ℕ} (ht : t = 3 * 0 + 3 + p.val) (ht' : t' = 3 * 0 + 4 + p.val)
    {w : ℕ} (hw : w = wid p) {n : Dev nD} (hn : n = par p 0 c)
    {qs qr : DmaSem sig} (hqs : qs = sendS p) (hqr : qr = recvS 0 p)
    {src : Memref sig .tc .vmem ⟨2, ![512, w]⟩ .bf16} {dst : Memref sig .tc .vmem ⟨2, ![512, w]⟩ .bf16}
    (hs : Win src aM (sHalf p c) (col p)) (hd : Win dst (rsM p) (0) (0))
    {hsc : (dst : Memref sig (Dev.tc n : Thread nD τ).2.kind .vmem ⟨2, ![512, w]⟩ .bf16).view.ref.isScScratch = false}
    {hsrc : src.view.WordExact} {hdst : dst.view.WordExact}
    {hsem : DmaTarget.Typed .vmem (.dma qr) (.remote (Dev.tc n : Thread nD τ) dst (.dma qs) hsc)}
    (hN : dst.view.dmaCredit = amt 0 p)
    {α : Type} {kk : PUnit → Prog (TpuEff nD τ sig (Elt F) Λ₀ .tc) α} {Q : α → sProp 𝕄} :
    Cx x κ c ⊢ iprop(St x p c 0 -∗ Owe (F := F) c (Tl t)
      -∗ (St x p c 1 -∗ Owe (F := F) c (Tl t')
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (Dev.tc n : Thread nD τ) dst (.dma qs) hsc) (.dma qr) hsrc hdst hsem) kk) Q) := by
  subst hw ht ht'
  simp only [St]
  iintro #HC ⟨Hc, Hs, Hk, Hl, Hr⟩ HO Hcont
  unfold landAny
  icases Hl with ⟨%v, Hl⟩
  ihave Hl := (show rsPt p (lo 0) (ln 0) (par p 0 c) v ⊢ pc (rsM p) fullShare 0 512 0 (wid p) (peer 0 p c) v from BI.Entails.refl _) $$ Hl
  iapply (send_land x κ p c 0 (N := 0) rfl (Tl (3 * 0 + 3 + p.val)) (Tl_mem (some 0, p)) hn hqs hqr hs hd hN (v := v) (u := x c)
    (u' := R0 x p (par p 0 c)) (by
      funext j
      show x (par p 0 (par p 0 c)) (kHalf p (par p 0 c) + (0 + (j 0).val)) (col p + (0 + (j 1).val)) = x c (sHalf p c + (j 0).val) (col p + (j 1).val)
      rw [par_par, kHalf_par0, Nat.zero_add, Nat.zero_add])
    (BI.Entails.refl _) (by
      show iprop(_ ∗ _) ⊢ iprop(rsPt p 0 512 (par p 0 c) (R0 x p (par p 0 c))
        ∗ accPt fullShare (kHalf p (par p 0 c)) 512 p (par p 0 (par p 0 c)) (x (par p 0 (par p 0 c))))
      rw [par_par, kHalf_par0]
      exact BI.Entails.refl _)) $$ HC Hc Hs Hl HO
  iintro Hc HO
  iapply Hcont $$ [Hc Hk Hr] [HO]
  · isplitl [Hc]; · iexact Hc
    isplitl [Hk] <;> iassumption
  · iapply (owe_step c 0 p (n := 3 * 0 + 3 + p.val) (m := 3 * 0 + 4 + p.val) (by omega)); iexact HO

/-- The copy of the quarter given up, along the second axis. -/
theorem st_ex1 (κ : GSem nD τ sig → ℕ) (p : Fin 3) (c : Dev nD) {t t' : ℕ} (ht : t = 3 * 1 + 3 + p.val) (ht' : t' = 3 * 1 + 4 + p.val)
    {w : ℕ} (hw : w = wid p) {n : Dev nD} (hn : n = par p 1 c)
    {qs qr : DmaSem sig} (hqs : qs = sendS p) (hqr : qr = recvS 1 p)
    {src : Memref sig .tc .vmem ⟨2, ![256, w]⟩ .bf16} {dst : Memref sig .tc .vmem ⟨2, ![256, w]⟩ .bf16}
    (hs : Win src aM (sQrt p c) (col p)) (hd : Win dst (rsM p) (512) (0))
    {hsc : (dst : Memref sig (Dev.tc n : Thread nD τ).2.kind .vmem ⟨2, ![256, w]⟩ .bf16).view.ref.isScScratch = false}
    {hsrc : src.view.WordExact} {hdst : dst.view.WordExact}
    {hsem : DmaTarget.Typed .vmem (.dma qr) (.remote (Dev.tc n : Thread nD τ) dst (.dma qs) hsc)}
    (hN : dst.view.dmaCredit = amt 1 p)
    {α : Type} {kk : PUnit → Prog (TpuEff nD τ sig (Elt F) Λ₀ .tc) α} {Q : α → sProp 𝕄} :
    Cx x κ c ⊢ iprop(St x p c 4 -∗ Owe (F := F) c (Tl t)
      -∗ (St x p c 5 -∗ Owe (F := F) c (Tl t')
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (Dev.tc n : Thread nD τ) dst (.dma qs) hsc) (.dma qr) hsrc hdst hsem) kk) Q) := by
  subst hw ht ht'
  simp only [St]
  iintro #HC ⟨Hc, Hs, Hk, Hg, Ha, Hl, Hr⟩ HO Hcont
  unfold landAny
  icases Hl with ⟨%v, Hl⟩
  ihave Hl := (show rsPt p (lo 1) (ln 1) (par p 1 c) v ⊢ pc (rsM p) fullShare 512 256 0 (wid p) (peer 1 p c) v from BI.Entails.refl _) $$ Hl
  iapply (send_land x κ p c 1 (N := 1) rfl (Tl (3 * 1 + 3 + p.val)) (Tl_mem (some 1, p)) hn hqs hqr hs hd hN (v := v) (u := S1 x p c)
    (u' := R1 x p (par p 1 c)) (by
      funext j
      show S1 x p (par p 1 (par p 1 c)) (kQrt p (par p 1 c) + (512 + (j 0).val - 512)) (col p + (0 + (j 1).val))
        = S1 x p c (sQrt p c + (j 0).val) (col p + (j 1).val)
      rw [par_par, kQrt_par1, Nat.zero_add, Nat.add_sub_cancel_left])
    (BI.Entails.refl _) (by
      show iprop(_ ∗ _) ⊢ iprop(rsPt p 512 256 (par p 1 c) (R1 x p (par p 1 c))
        ∗ accPt fullShare (kQrt p (par p 1 c)) 256 p (par p 1 (par p 1 c)) (S1 x p (par p 1 (par p 1 c))))
      rw [par_par, kQrt_par1]
      exact BI.Entails.refl _)) $$ HC Hc Hs Hl HO
  iintro Hc HO
  iapply Hcont $$ [Hc Hk Hg Ha Hr] [HO]
  · isplitl [Hc]; · iexact Hc
    isplitl [Hk]; · iexact Hk
    isplitl [Hg]; · iexact Hg
    isplitl [Ha] <;> iassumption
  · iapply (owe_step c 1 p (n := 3 * 1 + 3 + p.val) (m := 3 * 1 + 4 + p.val) (by omega)); iexact HO

/-- The copy of the quarter kept, along the third axis. -/
theorem st_exm (κ : GSem nD τ sig → ℕ) (p : Fin 3) (c : Dev nD) {t t' : ℕ} (ht : t = 3 * 2 + 3 + p.val) (ht' : t' = 3 * 2 + 4 + p.val)
    {w : ℕ} (hw : w = wid p) {n : Dev nD} (hn : n = par p 2 c)
    {qs qr : DmaSem sig} (hqs : qs = sendS p) (hqr : qr = recvS 2 p)
    {src : Memref sig .tc .vmem ⟨2, ![256, w]⟩ .bf16} {dst : Memref sig .tc .vmem ⟨2, ![256, w]⟩ .bf16}
    (hs : Win src aM (kQrt p c) (col p)) (hd : Win dst (rsM p) (768) (0))
    {hsc : (dst : Memref sig (Dev.tc n : Thread nD τ).2.kind .vmem ⟨2, ![256, w]⟩ .bf16).view.ref.isScScratch = false}
    {hsrc : src.view.WordExact} {hdst : dst.view.WordExact}
    {hsem : DmaTarget.Typed .vmem (.dma qr) (.remote (Dev.tc n : Thread nD τ) dst (.dma qs) hsc)}
    (hN : dst.view.dmaCredit = amt 2 p)
    {α : Type} {kk : PUnit → Prog (TpuEff nD τ sig (Elt F) Λ₀ .tc) α} {Q : α → sProp 𝕄} :
    Cx x κ c ⊢ iprop(St x p c 9 -∗ Owe (F := F) c (Tl t)
      -∗ (St x p c 10 -∗ Owe (F := F) c (Tl t')
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (Dev.tc n : Thread nD τ) dst (.dma qs) hsc) (.dma qr) hsrc hdst hsem) kk) Q) := by
  subst hw ht ht'
  simp only [St]
  iintro #HC ⟨Hc, Hs, Hg, Hg', Ha, Ha', Hl, Hr⟩ HO Hcont
  unfold landAny
  icases Hl with ⟨%v, Hl⟩
  ihave Hl := (show rsPt p (lo 2) (ln 2) (par p 2 c) v ⊢ pc (rsM p) fullShare 768 256 0 (wid p) (peer 2 p c) v from BI.Entails.refl _) $$ Hl
  iapply (send_back x κ p c 2 (N := 2) rfl (Tl (3 * 2 + 3 + p.val)) (Tl_mem (some 2, p)) hn hqs hqr hs hd hN (v := v) (u := S2 x p c)
    (u' := R2 x p (par p 2 c)) (by
      funext j
      show S2 x p (par p 2 (par p 2 c)) (kQrt p (par p 2 c) + (768 + (j 0).val - 768)) (col p + (0 + (j 1).val))
        = S2 x p c (kQrt p c + (j 0).val) (col p + (j 1).val)
      rw [par_par, kQrt_par2, Nat.zero_add, Nat.add_sub_cancel_left])
    (BI.Entails.refl _) (BI.Entails.refl _)) $$ HC Hc Hs Hl HO
  iintro Hc HO
  iapply Hcont $$ [Hc Hg Hg' Ha Ha' Hr] [HO]
  · isplitl [Hc]; · iexact Hc
    isplitl [Hg]; · iexact Hg
    isplitl [Hg']; · iexact Hg'
    isplitl [Ha]; · iexact Ha
    isplitl [Ha'] <;> iassumption
  · iapply (owe_step c 2 p (n := 3 * 2 + 3 + p.val) (m := 3 * 2 + 4 + p.val) (by omega)); iexact HO

/-- The copy back of the quarter kept, along the second axis. -/
theorem st_exa1 (κ : GSem nD τ sig → ℕ) (p : Fin 3) (c : Dev nD) {t t' : ℕ} (ht : t = 3 * 3 + 3 + p.val) (ht' : t' = 3 * 3 + 4 + p.val)
    {w : ℕ} (hw : w = wid p) {n : Dev nD} (hn : n = par p 1 c)
    {qs qr : DmaSem sig} (hqs : qs = sendS p) (hqr : qr = recvS 3 p)
    {src : Memref sig .tc .vmem ⟨2, ![256, w]⟩ .bf16} {dst : Memref sig .tc .vmem ⟨2, ![256, w]⟩ .bf16}
    (hs : Win src aM (kQrt p c) (col p)) (hd : Win dst (aM) (kQrt p c) (col p))
    {hsc : (dst : Memref sig (Dev.tc n : Thread nD τ).2.kind .vmem ⟨2, ![256, w]⟩ .bf16).view.ref.isScScratch = false}
    {hsrc : src.view.WordExact} {hdst : dst.view.WordExact}
    {hsem : DmaTarget.Typed .vmem (.dma qr) (.remote (Dev.tc n : Thread nD τ) dst (.dma qs) hsc)}
    (hN : dst.view.dmaCredit = amt 3 p)
    {α : Type} {kk : PUnit → Prog (TpuEff nD τ sig (Elt F) Λ₀ .tc) α} {Q : α → sProp 𝕄} :
    Cx x κ c ⊢ iprop(St x p c 13 -∗ Owe (F := F) c (Tl t)
      -∗ (St x p c 14 -∗ Owe (F := F) c (Tl t')
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (Dev.tc n : Thread nD τ) dst (.dma qs) hsc) (.dma qr) hsrc hdst hsem) kk) Q) := by
  subst hw ht ht'
  simp only [St]
  iintro #HC ⟨Hc, Hs, Hg, Hg', Hg'', Ha, Hl, Hr⟩ HO Hcont
  unfold accAny
  icases Hl with ⟨%v, Hl⟩
  ihave Hl := (show accPt fullShare (kQrt p c) 256 p (par p 1 c) v ⊢ pc aM fullShare (kQrt p c) 256 (col p) (wid p) (peer 3 p c) v from BI.Entails.refl _) $$ Hl
  iapply (send_back x κ p c 3 (N := 3) rfl (Tl (3 * 3 + 3 + p.val)) (Tl_mem (some 3, p)) hn hqs hqr hs hd hN (v := v) (u := S3 x p c)
    (u' := S3 x p c) rfl (BI.Entails.refl _) (by
      show _ ⊢ accPt fullShare (sQrt p (par p 1 c)) 256 p (par p 1 c) (S3 x p (par p 1 (par p 1 c)))
      rw [par_par, sQrt_par1]
      exact BI.Entails.refl _)) $$ HC Hc Hs Hl HO
  iintro Hc HO
  iapply Hcont $$ [Hc Hg Hg' Hg'' Ha Hr] [HO]
  · isplitl [Hc]; · iexact Hc
    isplitl [Hg]; · iexact Hg
    isplitl [Hg']; · iexact Hg'
    isplitl [Hg'']; · iexact Hg''
    isplitl [Ha] <;> iassumption
  · iapply (owe_step c 3 p (n := 3 * 3 + 3 + p.val) (m := 3 * 3 + 4 + p.val) (by omega)); iexact HO

/-- The copy back of the half kept, along the first axis. -/
theorem st_exa0 (κ : GSem nD τ sig → ℕ) (p : Fin 3) (c : Dev nD) {t t' : ℕ} (ht : t = 3 * 4 + 3 + p.val) (ht' : t' = 3 * 4 + 4 + p.val)
    {w : ℕ} (hw : w = wid p) {n : Dev nD} (hn : n = par p 0 c)
    {qs qr : DmaSem sig} (hqs : qs = sendS p) (hqr : qr = recvS 4 p)
    {src : Memref sig .tc .vmem ⟨2, ![512, w]⟩ .bf16} {dst : Memref sig .tc .vmem ⟨2, ![512, w]⟩ .bf16}
    (hs : Win src aM (kHalf p c) (col p)) (hd : Win dst (aM) (kHalf p c) (col p))
    {hsc : (dst : Memref sig (Dev.tc n : Thread nD τ).2.kind .vmem ⟨2, ![512, w]⟩ .bf16).view.ref.isScScratch = false}
    {hsrc : src.view.WordExact} {hdst : dst.view.WordExact}
    {hsem : DmaTarget.Typed .vmem (.dma qr) (.remote (Dev.tc n : Thread nD τ) dst (.dma qs) hsc)}
    (hN : dst.view.dmaCredit = amt 4 p)
    {α : Type} {kk : PUnit → Prog (TpuEff nD τ sig (Elt F) Λ₀ .tc) α} {Q : α → sProp 𝕄} :
    Cx x κ c ⊢ iprop(St x p c 16 -∗ Owe (F := F) c (Tl t)
      -∗ (St x p c 17 -∗ Owe (F := F) c (Tl t')
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (Dev.tc n : Thread nD τ) dst (.dma qs) hsc) (.dma qr) hsrc hdst hsem) kk) Q) := by
  subst hw ht ht'
  simp only [St]
  unfold outs
  iintro #HC ⟨Hc, Hs, Hg, Hg', Hg'', Hl, Hr⟩ HO Hcont
  unfold accAny
  icases Hl with ⟨%v, Hl⟩
  ihave Hs := (pc_share aM fullShare (kHalf p c) 512 (col p) (wid p) c (G2 x p c)) $$ Hs
  icases Hs with ⟨Hs, Hs'⟩
  ihave Hl := (show accPt fullShare (kHalf p c) 512 p (par p 0 c) v ⊢ pc aM fullShare (kHalf p c) 512 (col p) (wid p) (peer 4 p c) v from BI.Entails.refl _) $$ Hl
  iapply (send_back x κ p c 4 (N := 4) rfl (Tl (3 * 4 + 3 + p.val)) (Tl_mem (some 4, p)) hn hqs hqr hs hd hN (v := v) (u := G2 x p c)
    (u' := G2 x p c) rfl (q := fullShare.right) (BI.Entails.refl _) (by
      show _ ⊢ accPt fullShare (sHalf p (par p 0 c)) 512 p (par p 0 c) (G2 x p (par p 0 (par p 0 c)))
      rw [par_par, sHalf_par0]
      exact BI.Entails.refl _)) $$ HC Hc Hs' Hl HO
  iintro Hc HO
  iapply Hcont $$ [Hc Hs Hg Hg' Hg'' Hr] [HO]
  · isplitl [Hc]; · iexact Hc
    isplitl [Hs]; · iexact Hs
    isplitl [Hg]; · iexact Hg
    isplitl [Hg']; · iexact Hg'
    isplitl [Hg''] <;> iassumption
  · iapply (owe_step c 4 p (n := 3 * 4 + 3 + p.val) (m := 3 * 4 + 4 + p.val) (by omega)); iexact HO

/-! ## Waits -/

theorem st_sent0 (κ : GSem nD τ sig → ℕ) (p : Fin 3) (c : Dev nD) (t : ℕ)
    {q : DmaSem sig} (hq : q = sendS p) {sp sp' : Space} {sh sh' : Shape} {e e' : EltTy}
    {src : Memref sig .tc sp' sh' e'} {dst : Memref sig .tc sp sh e} {hsrc : src.view.WordExact} {hdst : dst.view.WordExact}
    (hN : dst.view.dmaCredit = amt 0 p)
    {α : Type} {k : PUnit → Prog (TpuEff nD τ sig (Elt F) Λ₀ .tc) α} {Q : α → sProp 𝕄} :
    Cx x κ c ⊢ iprop(St x p c 1 -∗ Owe (F := F) c (Tl t)
      -∗ (St x p c 2 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Hr⟩ HO Hk
  iapply (wait_send x κ p c 0 (Tl t) hq hN) $$ HC Hc HO
  iintro Hc - HO

  iapply Hk $$ [Hc Hr] HO
  isplitl [Hc]; · iexact Hc
  iexact Hr

theorem st_sent1 (κ : GSem nD τ sig → ℕ) (p : Fin 3) (c : Dev nD) (t : ℕ)
    {q : DmaSem sig} (hq : q = sendS p) {sp sp' : Space} {sh sh' : Shape} {e e' : EltTy}
    {src : Memref sig .tc sp' sh' e'} {dst : Memref sig .tc sp sh e} {hsrc : src.view.WordExact} {hdst : dst.view.WordExact}
    (hN : dst.view.dmaCredit = amt 1 p)
    {α : Type} {k : PUnit → Prog (TpuEff nD τ sig (Elt F) Λ₀ .tc) α} {Q : α → sProp 𝕄} :
    Cx x κ c ⊢ iprop(St x p c 6 -∗ Owe (F := F) c (Tl t)
      -∗ (St x p c 7 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Hr⟩ HO Hk
  iapply (wait_send x κ p c 1 (Tl t) hq hN) $$ HC Hc HO
  iintro Hc - HO

  iapply Hk $$ [Hc Hr] HO
  isplitl [Hc]; · iexact Hc
  iexact Hr

theorem st_sent2 (κ : GSem nD τ sig → ℕ) (p : Fin 3) (c : Dev nD) (t : ℕ)
    {q : DmaSem sig} (hq : q = sendS p) {sp sp' : Space} {sh sh' : Shape} {e e' : EltTy}
    {src : Memref sig .tc sp' sh' e'} {dst : Memref sig .tc sp sh e} {hsrc : src.view.WordExact} {hdst : dst.view.WordExact}
    (hN : dst.view.dmaCredit = amt 2 p)
    {α : Type} {k : PUnit → Prog (TpuEff nD τ sig (Elt F) Λ₀ .tc) α} {Q : α → sProp 𝕄} :
    Cx x κ c ⊢ iprop(St x p c 10 -∗ Owe (F := F) c (Tl t)
      -∗ (St x p c 11 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Hr⟩ HO Hk
  iapply (wait_send x κ p c 2 (Tl t) hq hN) $$ HC Hc HO
  iintro Hc Hp HO
  ihave Hp := (show sendPay x (2 : Fin 5).val p c ⊢ accPt fullShare (kQrt p c) 256 p c (S2 x p c) from BI.Entails.refl _) $$ Hp
  iapply Hk $$ [Hc Hr Hp] HO
  isplitl [Hc]; · iexact Hc
  isplitl [Hp]; · iexact Hp
  iexact Hr

theorem st_sent3 (κ : GSem nD τ sig → ℕ) (p : Fin 3) (c : Dev nD) (t : ℕ)
    {q : DmaSem sig} (hq : q = sendS p) {sp sp' : Space} {sh sh' : Shape} {e e' : EltTy}
    {src : Memref sig .tc sp' sh' e'} {dst : Memref sig .tc sp sh e} {hsrc : src.view.WordExact} {hdst : dst.view.WordExact}
    (hN : dst.view.dmaCredit = amt 3 p)
    {α : Type} {k : PUnit → Prog (TpuEff nD τ sig (Elt F) Λ₀ .tc) α} {Q : α → sProp 𝕄} :
    Cx x κ c ⊢ iprop(St x p c 14 -∗ Owe (F := F) c (Tl t)
      -∗ (St x p c 15 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Hr⟩ HO Hk
  iapply (wait_send x κ p c 3 (Tl t) hq hN) $$ HC Hc HO
  iintro Hc Hp HO
  ihave Hp := (show sendPay x (3 : Fin 5).val p c ⊢ accPt fullShare (kQrt p c) 256 p c (S3 x p c) from BI.Entails.refl _) $$ Hp
  iapply Hk $$ [Hc Hr Hp] HO
  isplitl [Hc]; · iexact Hc
  isplitl [Hp]; · iexact Hp
  iexact Hr

theorem st_sent4 (κ : GSem nD τ sig → ℕ) (p : Fin 3) (c : Dev nD) (t : ℕ)
    {q : DmaSem sig} (hq : q = sendS p) {sp sp' : Space} {sh sh' : Shape} {e e' : EltTy}
    {src : Memref sig .tc sp' sh' e'} {dst : Memref sig .tc sp sh e} {hsrc : src.view.WordExact} {hdst : dst.view.WordExact}
    (hN : dst.view.dmaCredit = amt 4 p)
    {α : Type} {k : PUnit → Prog (TpuEff nD τ sig (Elt F) Λ₀ .tc) α} {Q : α → sProp 𝕄} :
    Cx x κ c ⊢ iprop(St x p c 18 -∗ Owe (F := F) c (Tl t)
      -∗ (St x p c 19 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Hs, Hr⟩ HO Hk
  iapply (wait_send x κ p c 4 (Tl t) hq hN) $$ HC Hc HO
  iintro Hc Hp HO
  ihave Hp := (show sendPay x (4 : Fin 5).val p c ⊢ accPt fullShare.right (kHalf p c) 512 p c (G2 x p c) from BI.Entails.refl _) $$ Hp
  ihave Hp := (pc_unshare aM fullShare (kHalf p c) 512 (col p) (wid p) c (G2 x p c)) $$ [Hs Hp]
  · isplitl [Hs] <;> iassumption
  iapply Hk $$ [Hc Hr Hp] HO
  isplitl [Hc]; · iexact Hc
  isplitl [Hp]; · iexact Hp
  iexact Hr

theorem st_got0 (κ : GSem nD τ sig → ℕ) (p : Fin 3) (c : Dev nD) (t : ℕ) (ht : 3 * 0 + 6 ≤ t)
    {q : DmaSem sig} (hq : q = recvS 0 p) {sp sp' : Space} {sh sh' : Shape} {e e' : EltTy}
    {src : Memref sig .tc sp' sh' e'} {dst : Memref sig .tc sp sh e} {hsrc : src.view.WordExact} {hdst : dst.view.WordExact}
    (hN : dst.view.dmaCredit = amt 0 p)
    {α : Type} {k : PUnit → Prog (TpuEff nD τ sig (Elt F) Λ₀ .tc) α} {Q : α → sProp 𝕄} :
    Cx x κ c ⊢ iprop(St x p c 2 -∗ Owe (F := F) c (Tl t)
      -∗ (St x p c 3 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Ha, Hr⟩ HO Hk
  iapply (wait_recv x κ p c 0 (N := 1) rfl (Tl t) (Tl_lev ht) hq hN) $$ HC Hc HO
  iintro Hc Hp HO
  unfold recvPay
  icases Hp with ⟨Hg, Hb⟩
  ihave Ha := (show accPt fullShare (kHalf p c) 512 p c (x c) ⊢ iprop(accPt fullShare (sQrt p c) 256 p c (x c)
    ∗ accPt fullShare (kQrt p c) 256 p c (x c)) from cut_qrt aM fullShare (col p) (wid p) 0 p c c (x c) (Nat.zero_le _)) $$ Ha
  icases Ha with ⟨Ha, Ha'⟩
  ihave Hg := (show rsPt p 0 512 c (R0 x p c) ⊢ pc (rsM p) fullShare (kHalf p c - kHalf p c) 512 0 (wid p) c (R0 x p c) by
    rw [Nat.sub_self]) $$ Hg
  ihave Hg := (cut_qrt (rsM p) fullShare 0 (wid p) (kHalf p c) p c c (R0 x p c) (Nat.le_refl _)) $$ Hg
  iapply Hk $$ [Hc Ha Ha' Hg Hb Hr] HO
  isplitl [Hc]; · iexact Hc
  isplitl [Ha]; · iexact Ha
  isplitl [Ha']; · iexact Ha'
  isplitl [Hg]; · unfold got0; iexact Hg
  isplitl [Hb]; · unfold accAny; iexists _; iexact Hb
  iexact Hr

theorem st_got1 (κ : GSem nD τ sig → ℕ) (p : Fin 3) (c : Dev nD) (t : ℕ) (ht : 3 * 1 + 6 ≤ t)
    {q : DmaSem sig} (hq : q = recvS 1 p) {sp sp' : Space} {sh sh' : Shape} {e e' : EltTy}
    {src : Memref sig .tc sp' sh' e'} {dst : Memref sig .tc sp sh e} {hsrc : src.view.WordExact} {hdst : dst.view.WordExact}
    (hN : dst.view.dmaCredit = amt 1 p)
    {α : Type} {k : PUnit → Prog (TpuEff nD τ sig (Elt F) Λ₀ .tc) α} {Q : α → sProp 𝕄} :
    Cx x κ c ⊢ iprop(St x p c 7 -∗ Owe (F := F) c (Tl t)
      -∗ (St x p c 8 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Ha, Hg, Hb, Hr⟩ HO Hk
  iapply (wait_recv x κ p c 1 (N := 2) rfl (Tl t) (Tl_lev ht) hq hN) $$ HC Hc HO
  iintro Hc Hp HO
  unfold recvPay
  icases Hp with ⟨Hg', Hb'⟩
  iapply Hk $$ [Hc Ha Hg Hg' Hb Hb' Hr] HO
  isplitl [Hc]; · iexact Hc
  isplitl [Ha]; · iexact Ha
  isplitl [Hg]; · iexact Hg
  isplitl [Hg']; · iexact Hg'
  isplitl [Hb]; · iexact Hb
  isplitl [Hb']; · unfold accAny; iexists _; iexact Hb'
  iexact Hr

theorem st_got2 (κ : GSem nD τ sig → ℕ) (p : Fin 3) (c : Dev nD) (t : ℕ) (ht : 3 * 2 + 6 ≤ t)
    {q : DmaSem sig} (hq : q = recvS 2 p) {sp sp' : Space} {sh sh' : Shape} {e e' : EltTy}
    {src : Memref sig .tc sp' sh' e'} {dst : Memref sig .tc sp sh e} {hsrc : src.view.WordExact} {hdst : dst.view.WordExact}
    (hN : dst.view.dmaCredit = amt 2 p)
    {α : Type} {k : PUnit → Prog (TpuEff nD τ sig (Elt F) Λ₀ .tc) α} {Q : α → sProp 𝕄} :
    Cx x κ c ⊢ iprop(St x p c 11 -∗ Owe (F := F) c (Tl t)
      -∗ (St x p c 12 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Ha, Hg, Hg', Hr⟩ HO Hk
  iapply (wait_recv x κ p c 2 (N := 3) rfl (Tl t) (Tl_lev ht) hq hN) $$ HC Hc HO
  iintro Hc Hp HO
  iapply Hk $$ [Hc Ha Hg Hg' Hp Hr] HO
  isplitl [Hc]; · iexact Hc
  isplitl [Ha]; · iexact Ha
  isplitl [Hg]; · iexact Hg
  isplitl [Hg']; · iexact Hg'
  isplitl [Hp]; · iapply (show recvPay x 2 p c ⊢ got2 x p c from BI.Entails.refl _); iexact Hp
  iexact Hr

theorem st_got3 (κ : GSem nD τ sig → ℕ) (p : Fin 3) (c : Dev nD) (t : ℕ) (ht : 3 * 3 + 6 ≤ t)
    {q : DmaSem sig} (hq : q = recvS 3 p) {sp sp' : Space} {sh sh' : Shape} {e e' : EltTy}
    {src : Memref sig .tc sp' sh' e'} {dst : Memref sig .tc sp sh e} {hsrc : src.view.WordExact} {hdst : dst.view.WordExact}
    (hN : dst.view.dmaCredit = amt 3 p)
    {α : Type} {k : PUnit → Prog (TpuEff nD τ sig (Elt F) Λ₀ .tc) α} {Q : α → sProp 𝕄} :
    Cx x κ c ⊢ iprop(St x p c 15 -∗ Owe (F := F) c (Tl t)
      -∗ (St x p c 16 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Ha, Hr⟩ HO Hk
  iapply (wait_recv x κ p c 3 (N := 4) rfl (Tl t) (Tl_lev ht) hq hN) $$ HC Hc HO
  iintro Hc Hp HO
  iapply Hk $$ [Hc Ha Hp Hr] HO
  isplitl [Hc]; · iexact Hc
  isplitl [Ha Hp]
  · iapply (show iprop(accPt fullShare (sQrt p c) 256 p c (G2 x p c) ∗ accPt fullShare (kQrt p c) 256 p c (G2 x p c))
      ⊢ accPt fullShare (kHalf p c) 512 p c (G2 x p c) from glue_qrt aM fullShare (col p) (wid p) 0 p c c (G2 x p c) (Nat.zero_le _))
    isplitl [Hp]
    · iapply (show recvPay x 3 p c ⊢ accPt fullShare (sQrt p c) 256 p c (G2 x p c) from ?_) $$ Hp
      refine pc_congr aM (fun i j hi hj _ _ => ?_)
      unfold G2
      rw [if_neg]
      rcases qrt_cases p c with ⟨h1, h2⟩ | ⟨h1, h2⟩ <;> omega
    · iapply (show accPt fullShare (kQrt p c) 256 p c (S3 x p c) ⊢ accPt fullShare (kQrt p c) 256 p c (G2 x p c) from ?_) $$ Ha
      refine pc_congr aM (fun i j hi hj _ _ => ?_)
      unfold G2
      rw [if_pos]
      omega
  iexact Hr

theorem st_got4 (κ : GSem nD τ sig → ℕ) (p : Fin 3) (c : Dev nD) (t : ℕ) (ht : 3 * 4 + 6 ≤ t)
    {q : DmaSem sig} (hq : q = recvS 4 p) {sp sp' : Space} {sh sh' : Shape} {e e' : EltTy}
    {src : Memref sig .tc sp' sh' e'} {dst : Memref sig .tc sp sh e} {hsrc : src.view.WordExact} {hdst : dst.view.WordExact}
    (hN : dst.view.dmaCredit = amt 4 p)
    {α : Type} {k : PUnit → Prog (TpuEff nD τ sig (Elt F) Λ₀ .tc) α} {Q : α → sProp 𝕄} :
    Cx x κ c ⊢ iprop(St x p c 19 -∗ Owe (F := F) c (Tl t)
      -∗ (St x p c 20 -∗ Owe (F := F) c (Tl t)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  simp only [St]
  iintro #HC ⟨Hc, Ha, Hr⟩ HO Hk
  iapply (wait_recv x κ p c 4 (N := 5) rfl (Tl t) (Tl_lev ht) hq hN) $$ HC Hc HO
  iintro Hc Hp HO
  iapply Hk $$ [Hc Ha Hp Hr] HO
  isplitl [Hc]; · iexact Hc
  isplitl [Ha]; · iexact Ha
  isplitl [Hp]; · iapply (show recvPay x 4 p c ⊢ accPt fullShare (sHalf p c) 512 p c (G2 x p (par p 0 c)) from BI.Entails.refl _); iexact Hp
  iexact Hr

/-! ## Adding what landed, and widening the sums -/

/-- Load what landed, load the accumulator again, store the sum with the value `a` loaded before. -/
theorem add_op {b w r k r' : ℕ} (bd : Memref sig .tc .vmem ⟨2, ![1024, b]⟩ .bf16) (c : Dev nD) (u v u' : MV F)
    {a : (Shape.mk 2 ![256, w]).Idx → F .bf16} {pay : ((Shape.mk 2 ![256, w]).Idx → F .bf16) → (Shape.mk 2 ![256, w]).Idx → F .bf16}
    (hpay : ∀ t, pay t = fun i => FloatOps.addf (a i) (t i)) (ha : a = wnd u r k)
    (hu : ∀ i j, i < 256 → u' (r + i) (k + j) = FloatOps.addf (u (r + i) (k + j)) (v (r' + i) (0 + j)))
    {off off₂ off₃ : Fin 2 → ℕ} {inb : ∀ i, off i + (![256, w] : Fin 2 → ℕ) i ≤ (Shape.mk 2 ![1024, 1024]).size i}
    {inb₂ : ∀ i, off₂ i + (![256, w] : Fin 2 → ℕ) i ≤ (Shape.mk 2 ![1024, b]).size i}
    {inb₃ : ∀ i, off₃ i + (![256, w] : Fin 2 → ℕ) i ≤ (Shape.mk 2 ![1024, 1024]).size i}
    (ho : off = ![r, k]) (ho₂ : off₂ = ![r', 0]) (ho₃ : off₃ = ![r, k])
    {hl₂ : bd.view.LoadsAt (Rect.unit (s := Shape.mk 2 ![1024, b]) off₂ ![256, w] inb₂).toLoadRect}
    {hl₃ : aM.view.LoadsAt (Rect.unit (s := Shape.mk 2 ![1024, 1024]) off₃ ![256, w] inb₃).toLoadRect}
    {hx : (aM.access (Rect.unit (s := Shape.mk 2 ![1024, 1024]) off ![256, w] inb)).Stores Finset.univ}
    {hm : (Finset.univ : Finset (Shape.mk 2 ![256, w]).Idx) = Finset.univ
      ∨ ∀ i, (Rect.unit (s := Shape.mk 2 ![1024, 1024]) off ![256, w] inb).stride i = 1}
    {α : Type} {kk : PUnit → Prog (TpuEff nD τ sig (Elt F) Λ₀ .tc) α} {Q : α → sProp 𝕄} :
    pc aM fullShare r 256 k w c u ⊢ iprop(pc bd fullShare r' 256 0 w c v
      -∗ (pc aM fullShare r 256 k w c u' -∗ pc bd fullShare r' 256 0 w c v
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.load bd (Rect.unit (s := Shape.mk 2 ![1024, b]) off₂ ![256, w] inb₂).toLoadRect hl₂) fun (t : (Shape.mk 2 ![256, w]).Idx → Elt F .bf16) =>
            .op (.load aM (Rect.unit (s := Shape.mk 2 ![1024, 1024]) off₃ ![256, w] inb₃).toLoadRect hl₃) fun _ =>
            .op (.store aM (Rect.unit (s := Shape.mk 2 ![1024, 1024]) off ![256, w] inb) (pay t) Finset.univ hx hm) kk) Q) := by
  iintro Ha Hb Hk
  iapply (load_pc bd fullShare c v ho₂) $$ Hb
  iintro Hb
  iapply (load_pc (w := w) (r := r) (k := k) aM fullShare c u ho₃) $$ Ha
  iintro Ha
  iapply (store_pc (w := w) (r := r) (k := k) aM c u u' ho (by
    rw [hpay, ha]; funext j
    exact (hu (j 0).val (j 1).val (j 0).isLt).symm)) $$ Ha
  iintro Ha
  iapply Hk $$ Ha Hb

/-- Load the staged result, store over it the widened `a`. -/
theorem out_op {w r k : ℕ} (c : Dev nD) (u : MV F) (v : ℕ → ℕ → F .f32)
    {a : (Shape.mk 2 ![512, w]).Idx → F .bf16} {W : (Shape.mk 2 ![512, w]).Idx → F .f32}
    (hW : W = fun i => FloatOps.extf .f32 bitsLt_bf16_f32 (a i)) (ha : a = wnd u r k)
    {off off₃ : Fin 2 → ℕ} {inb : ∀ i, off i + (![512, w] : Fin 2 → ℕ) i ≤ (Shape.mk 2 ![1024, 1024]).size i}
    {inb₃ : ∀ i, off₃ i + (![512, w] : Fin 2 → ℕ) i ≤ (Shape.mk 2 ![1024, 1024]).size i}
    (ho : off = ![r, k]) (ho₃ : off₃ = ![r, k])
    {hl₃ : oM.view.LoadsAt (Rect.unit (s := Shape.mk 2 ![1024, 1024]) off₃ ![512, w] inb₃).toLoadRect}
    {hx : (oM.access (Rect.unit (s := Shape.mk 2 ![1024, 1024]) off ![512, w] inb)).Stores Finset.univ}
    {hm : (Finset.univ : Finset (Shape.mk 2 ![512, w]).Idx) = Finset.univ
      ∨ ∀ i, (Rect.unit (s := Shape.mk 2 ![1024, 1024]) off ![512, w] inb).stride i = 1}
    {α : Type} {kk : PUnit → Prog (TpuEff nD τ sig (Elt F) Λ₀ .tc) α} {Q : α → sProp 𝕄} :
    pc (e := .f32) oM fullShare r 512 k w c v ⊢ iprop((pc (e := .f32) oM fullShare r 512 k w c (wide u)
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.load oM (Rect.unit (s := Shape.mk 2 ![1024, 1024]) off₃ ![512, w] inb₃).toLoadRect hl₃) fun _ =>
            .op (.store oM (Rect.unit (s := Shape.mk 2 ![1024, 1024]) off ![512, w] inb) W Finset.univ hx hm) kk) Q) := by
  iintro Ha Hk
  iapply (load_pc (e := .f32) (w := w) (r := r) (k := k) oM fullShare c v ho₃) $$ Ha
  iintro Ha
  iapply (store_pc (e := .f32) (w := w) (r := r) (k := k) oM c v (wide u) ho (by rw [hW, ha]; rfl)) $$ Ha
  iintro Ha
  iapply Hk $$ Ha

/-- Load the rows of the accumulator at row `sQrt p c`. -/
theorem st_ld3 (p : Fin 3) (c : Dev nD) {w : ℕ} (hw : w = wid p) {off : Fin 2 → ℕ}
    {inb : ∀ i, off i + (![256, w] : Fin 2 → ℕ) i ≤ (Shape.mk 2 ![1024, 1024]).size i} (ho : off = ![sQrt p c, col p])
    {hl : aM.view.LoadsAt (Rect.unit (s := Shape.mk 2 ![1024, 1024]) off ![256, w] inb).toLoadRect}
    {α : Type} {kk : ((Shape.mk 2 ![256, w]).Idx → Elt F .bf16) → Prog (TpuEff nD τ sig (Elt F) Λ₀ .tc) α} {Q : α → sProp 𝕄} :
    St x p c 3 ⊢ iprop((St x p c 3
        -∗ wp frame (wpE (defs₀ (F := F)) 𝒱₀ (c : Thread nD τ) none) Set.univ (kk (wnd (x c) (sQrt p c) (col p))) Q)
      -∗ wp frame (wpE (defs₀ (F := F)) 𝒱₀ (c : Thread nD τ) none) Set.univ
          (.op (.load aM (Rect.unit (s := Shape.mk 2 ![1024, 1024]) off ![256, w] inb).toLoadRect hl) kk) Q) := by
  subst hw
  simp only [St]
  iintro ⟨Hc, Ha, Hr⟩ Hk
  iapply (load_pc (w := wid p) (r := sQrt p c) (k := col p) aM fullShare c (x c) ho) $$ Ha
  iintro Ha
  iapply Hk $$ [Hc Ha Hr]
  isplitl [Hc]; · iexact Hc
  isplitl [Ha]; · iexact Ha
  iexact Hr

/-- Load what landed and the accumulator again, store the sum. -/
theorem st_add3 (p : Fin 3) (c : Dev nD) {w : ℕ} (hw : w = wid p) {b : ℕ} (bd : Memref sig .tc .vmem ⟨2, ![1024, b]⟩ .bf16)
    (hb : ∀ r n v, (rsPt p r n c v : sProp 𝕄) = pc bd fullShare r n 0 (wid p) c v)
    {a : (Shape.mk 2 ![256, w]).Idx → F .bf16} {pay : ((Shape.mk 2 ![256, w]).Idx → F .bf16) → (Shape.mk 2 ![256, w]).Idx → F .bf16}
    (hpay : ∀ t, pay t = fun i => FloatOps.addf (a i) (t i)) (ha : a = wnd (x c) (sQrt p c) (col p))
    {off off₂ off₃ : Fin 2 → ℕ} {inb : ∀ i, off i + (![256, w] : Fin 2 → ℕ) i ≤ (Shape.mk 2 ![1024, 1024]).size i}
    {inb₂ : ∀ i, off₂ i + (![256, w] : Fin 2 → ℕ) i ≤ (Shape.mk 2 ![1024, b]).size i}
    {inb₃ : ∀ i, off₃ i + (![256, w] : Fin 2 → ℕ) i ≤ (Shape.mk 2 ![1024, 1024]).size i}
    (ho : off = ![sQrt p c, col p]) (ho₂ : off₂ = ![sQrt p c - kHalf p c, 0]) (ho₃ : off₃ = ![sQrt p c, col p])
    {hl₂ : bd.view.LoadsAt (Rect.unit (s := Shape.mk 2 ![1024, b]) off₂ ![256, w] inb₂).toLoadRect}
    {hl₃ : aM.view.LoadsAt (Rect.unit (s := Shape.mk 2 ![1024, 1024]) off₃ ![256, w] inb₃).toLoadRect}
    {hx : (aM.access (Rect.unit (s := Shape.mk 2 ![1024, 1024]) off ![256, w] inb)).Stores Finset.univ}
    {hm : (Finset.univ : Finset (Shape.mk 2 ![256, w]).Idx) = Finset.univ
      ∨ ∀ i, (Rect.unit (s := Shape.mk 2 ![1024, 1024]) off ![256, w] inb).stride i = 1}
    {α : Type} {kk : PUnit → Prog (TpuEff nD τ sig (Elt F) Λ₀ .tc) α} {Q : α → sProp 𝕄} :
    St x p c 3 ⊢ iprop((St x p c 4
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.load bd (Rect.unit (s := Shape.mk 2 ![1024, b]) off₂ ![256, w] inb₂).toLoadRect hl₂) fun (t : (Shape.mk 2 ![256, w]).Idx → Elt F .bf16) =>
            .op (.load aM (Rect.unit (s := Shape.mk 2 ![1024, 1024]) off₃ ![256, w] inb₃).toLoadRect hl₃) fun _ =>
            .op (.store aM (Rect.unit (s := Shape.mk 2 ![1024, 1024]) off ![256, w] inb) (pay t) Finset.univ hx hm) kk) Q) := by
  subst hw
  simp only [St, got0]
  iintro ⟨Hc, Ha, Ha', ⟨Hb, Hb'⟩, Hr⟩ Hk
  ihave Hb := (Entails.of_eq (hb _ _ _)) $$ Hb
  iapply (add_op bd c (x c) (R0 x p c) (S1 x p c) hpay ha (fun i j _ => by
    unfold S1 R0
    rw [show kHalf p c + (sQrt p c - kHalf p c + i) = sQrt p c + i by rcases qrt_cases p c with ⟨h1, h2⟩ | ⟨h1, h2⟩ <;> omega,
      Nat.zero_add]) ho ho₂ ho₃) $$ Ha Hb
  iintro Ha Hb
  ihave Hb := (Entails.of_eq (hb _ _ _).symm) $$ Hb
  iapply Hk $$ [Hc Ha Ha' Hb Hb' Hr]
  isplitl [Hc]; · iexact Hc
  isplitl [Ha]; · iexact Ha
  isplitl [Ha']; · iexact Ha'
  isplitl [Hb Hb']
  · isplitl [Hb]; · iexact Hb
    iexact Hb'
  iexact Hr

/-- Load the rows of the accumulator at row `kQrt p c`. -/
theorem st_ld5 (p : Fin 3) (c : Dev nD) {w : ℕ} (hw : w = wid p) {off : Fin 2 → ℕ}
    {inb : ∀ i, off i + (![256, w] : Fin 2 → ℕ) i ≤ (Shape.mk 2 ![1024, 1024]).size i} (ho : off = ![kQrt p c, col p])
    {hl : aM.view.LoadsAt (Rect.unit (s := Shape.mk 2 ![1024, 1024]) off ![256, w] inb).toLoadRect}
    {α : Type} {kk : ((Shape.mk 2 ![256, w]).Idx → Elt F .bf16) → Prog (TpuEff nD τ sig (Elt F) Λ₀ .tc) α} {Q : α → sProp 𝕄} :
    St x p c 5 ⊢ iprop((St x p c 5
        -∗ wp frame (wpE (defs₀ (F := F)) 𝒱₀ (c : Thread nD τ) none) Set.univ (kk (wnd (x c) (kQrt p c) (col p))) Q)
      -∗ wp frame (wpE (defs₀ (F := F)) 𝒱₀ (c : Thread nD τ) none) Set.univ
          (.op (.load aM (Rect.unit (s := Shape.mk 2 ![1024, 1024]) off ![256, w] inb).toLoadRect hl) kk) Q) := by
  subst hw
  simp only [St]
  iintro ⟨Hc, Ha, Hr⟩ Hk
  iapply (load_pc (w := wid p) (r := kQrt p c) (k := col p) aM fullShare c (x c) ho) $$ Ha
  iintro Ha
  iapply Hk $$ [Hc Ha Hr]
  isplitl [Hc]; · iexact Hc
  isplitl [Ha]; · iexact Ha
  iexact Hr

/-- Load what landed and the accumulator again, store the sum. -/
theorem st_add5 (p : Fin 3) (c : Dev nD) {w : ℕ} (hw : w = wid p) {b : ℕ} (bd : Memref sig .tc .vmem ⟨2, ![1024, b]⟩ .bf16)
    (hb : ∀ r n v, (rsPt p r n c v : sProp 𝕄) = pc bd fullShare r n 0 (wid p) c v)
    {a : (Shape.mk 2 ![256, w]).Idx → F .bf16} {pay : ((Shape.mk 2 ![256, w]).Idx → F .bf16) → (Shape.mk 2 ![256, w]).Idx → F .bf16}
    (hpay : ∀ t, pay t = fun i => FloatOps.addf (a i) (t i)) (ha : a = wnd (x c) (kQrt p c) (col p))
    {off off₂ off₃ : Fin 2 → ℕ} {inb : ∀ i, off i + (![256, w] : Fin 2 → ℕ) i ≤ (Shape.mk 2 ![1024, 1024]).size i}
    {inb₂ : ∀ i, off₂ i + (![256, w] : Fin 2 → ℕ) i ≤ (Shape.mk 2 ![1024, b]).size i}
    {inb₃ : ∀ i, off₃ i + (![256, w] : Fin 2 → ℕ) i ≤ (Shape.mk 2 ![1024, 1024]).size i}
    (ho : off = ![kQrt p c, col p]) (ho₂ : off₂ = ![kQrt p c - kHalf p c, 0]) (ho₃ : off₃ = ![kQrt p c, col p])
    {hl₂ : bd.view.LoadsAt (Rect.unit (s := Shape.mk 2 ![1024, b]) off₂ ![256, w] inb₂).toLoadRect}
    {hl₃ : aM.view.LoadsAt (Rect.unit (s := Shape.mk 2 ![1024, 1024]) off₃ ![256, w] inb₃).toLoadRect}
    {hx : (aM.access (Rect.unit (s := Shape.mk 2 ![1024, 1024]) off ![256, w] inb)).Stores Finset.univ}
    {hm : (Finset.univ : Finset (Shape.mk 2 ![256, w]).Idx) = Finset.univ
      ∨ ∀ i, (Rect.unit (s := Shape.mk 2 ![1024, 1024]) off ![256, w] inb).stride i = 1}
    {α : Type} {kk : PUnit → Prog (TpuEff nD τ sig (Elt F) Λ₀ .tc) α} {Q : α → sProp 𝕄} :
    St x p c 5 ⊢ iprop((St x p c 6
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.load bd (Rect.unit (s := Shape.mk 2 ![1024, b]) off₂ ![256, w] inb₂).toLoadRect hl₂) fun (t : (Shape.mk 2 ![256, w]).Idx → Elt F .bf16) =>
            .op (.load aM (Rect.unit (s := Shape.mk 2 ![1024, 1024]) off₃ ![256, w] inb₃).toLoadRect hl₃) fun _ =>
            .op (.store aM (Rect.unit (s := Shape.mk 2 ![1024, 1024]) off ![256, w] inb) (pay t) Finset.univ hx hm) kk) Q) := by
  subst hw
  simp only [St, got0]
  iintro ⟨Hc, Ha, ⟨Hb', Hb⟩, Hr⟩ Hk
  ihave Hb := (Entails.of_eq (hb _ _ _)) $$ Hb
  iapply (add_op bd c (x c) (R0 x p c) (S1 x p c) hpay ha (fun i j _ => by
    unfold S1 R0
    rw [show kHalf p c + (kQrt p c - kHalf p c + i) = kQrt p c + i by rcases qrt_cases p c with ⟨h1, h2⟩ | ⟨h1, h2⟩ <;> omega,
      Nat.zero_add]) ho ho₂ ho₃) $$ Ha Hb
  iintro Ha Hb
  ihave Hb := (Entails.of_eq (hb _ _ _).symm) $$ Hb
  iapply Hk $$ [Hc Ha Hb Hb' Hr]
  isplitl [Hc]; · iexact Hc
  isplitl [Ha]; · iexact Ha
  isplitl [Hb Hb']
  · isplitl [Hb']; · iexact Hb'
    iexact Hb
  iexact Hr

/-- Load the rows of the accumulator at row `kQrt p c`. -/
theorem st_ld8 (p : Fin 3) (c : Dev nD) {w : ℕ} (hw : w = wid p) {off : Fin 2 → ℕ}
    {inb : ∀ i, off i + (![256, w] : Fin 2 → ℕ) i ≤ (Shape.mk 2 ![1024, 1024]).size i} (ho : off = ![kQrt p c, col p])
    {hl : aM.view.LoadsAt (Rect.unit (s := Shape.mk 2 ![1024, 1024]) off ![256, w] inb).toLoadRect}
    {α : Type} {kk : ((Shape.mk 2 ![256, w]).Idx → Elt F .bf16) → Prog (TpuEff nD τ sig (Elt F) Λ₀ .tc) α} {Q : α → sProp 𝕄} :
    St x p c 8 ⊢ iprop((St x p c 8
        -∗ wp frame (wpE (defs₀ (F := F)) 𝒱₀ (c : Thread nD τ) none) Set.univ (kk (wnd (S1 x p c) (kQrt p c) (col p))) Q)
      -∗ wp frame (wpE (defs₀ (F := F)) 𝒱₀ (c : Thread nD τ) none) Set.univ
          (.op (.load aM (Rect.unit (s := Shape.mk 2 ![1024, 1024]) off ![256, w] inb).toLoadRect hl) kk) Q) := by
  subst hw
  simp only [St]
  iintro ⟨Hc, Ha, Hr⟩ Hk
  iapply (load_pc (w := wid p) (r := kQrt p c) (k := col p) aM fullShare c (S1 x p c) ho) $$ Ha
  iintro Ha
  iapply Hk $$ [Hc Ha Hr]
  isplitl [Hc]; · iexact Hc
  isplitl [Ha]; · iexact Ha
  iexact Hr

/-- Load what landed and the accumulator again, store the sum. -/
theorem st_add8 (p : Fin 3) (c : Dev nD) {w : ℕ} (hw : w = wid p) {b : ℕ} (bd : Memref sig .tc .vmem ⟨2, ![1024, b]⟩ .bf16)
    (hb : ∀ r n v, (rsPt p r n c v : sProp 𝕄) = pc bd fullShare r n 0 (wid p) c v)
    {a : (Shape.mk 2 ![256, w]).Idx → F .bf16} {pay : ((Shape.mk 2 ![256, w]).Idx → F .bf16) → (Shape.mk 2 ![256, w]).Idx → F .bf16}
    (hpay : ∀ t, pay t = fun i => FloatOps.addf (a i) (t i)) (ha : a = wnd (S1 x p c) (kQrt p c) (col p))
    {off off₂ off₃ : Fin 2 → ℕ} {inb : ∀ i, off i + (![256, w] : Fin 2 → ℕ) i ≤ (Shape.mk 2 ![1024, 1024]).size i}
    {inb₂ : ∀ i, off₂ i + (![256, w] : Fin 2 → ℕ) i ≤ (Shape.mk 2 ![1024, b]).size i}
    {inb₃ : ∀ i, off₃ i + (![256, w] : Fin 2 → ℕ) i ≤ (Shape.mk 2 ![1024, 1024]).size i}
    (ho : off = ![kQrt p c, col p]) (ho₂ : off₂ = ![512, 0]) (ho₃ : off₃ = ![kQrt p c, col p])
    {hl₂ : bd.view.LoadsAt (Rect.unit (s := Shape.mk 2 ![1024, b]) off₂ ![256, w] inb₂).toLoadRect}
    {hl₃ : aM.view.LoadsAt (Rect.unit (s := Shape.mk 2 ![1024, 1024]) off₃ ![256, w] inb₃).toLoadRect}
    {hx : (aM.access (Rect.unit (s := Shape.mk 2 ![1024, 1024]) off ![256, w] inb)).Stores Finset.univ}
    {hm : (Finset.univ : Finset (Shape.mk 2 ![256, w]).Idx) = Finset.univ
      ∨ ∀ i, (Rect.unit (s := Shape.mk 2 ![1024, 1024]) off ![256, w] inb).stride i = 1}
    {α : Type} {kk : PUnit → Prog (TpuEff nD τ sig (Elt F) Λ₀ .tc) α} {Q : α → sProp 𝕄} :
    St x p c 8 ⊢ iprop((St x p c 9
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.load bd (Rect.unit (s := Shape.mk 2 ![1024, b]) off₂ ![256, w] inb₂).toLoadRect hl₂) fun (t : (Shape.mk 2 ![256, w]).Idx → Elt F .bf16) =>
            .op (.load aM (Rect.unit (s := Shape.mk 2 ![1024, 1024]) off₃ ![256, w] inb₃).toLoadRect hl₃) fun _ =>
            .op (.store aM (Rect.unit (s := Shape.mk 2 ![1024, 1024]) off ![256, w] inb) (pay t) Finset.univ hx hm) kk) Q) := by
  subst hw
  simp only [St, got0]
  iintro ⟨Hc, Ha, Hg, Hb, Hr⟩ Hk
  ihave Hb := (Entails.of_eq (hb _ _ _)) $$ Hb
  iapply (add_op bd c (S1 x p c) (R1 x p c) (S2 x p c) hpay ha (fun i j _ => by
    unfold S2 R1; rw [Nat.add_sub_cancel_left, Nat.zero_add]) ho ho₂ ho₃) $$ Ha Hb
  iintro Ha Hb
  ihave Hb := (Entails.of_eq (hb _ _ _).symm) $$ Hb
  iapply Hk $$ [Hc Ha Hg Hb Hr]
  isplitl [Hc]; · iexact Hc
  isplitl [Ha]; · iexact Ha
  isplitl [Hg]; · iexact Hg
  isplitl [Hb]; · iexact Hb
  iexact Hr

/-- Load the rows of the accumulator at row `kQrt p c`. -/
theorem st_ld12 (p : Fin 3) (c : Dev nD) {w : ℕ} (hw : w = wid p) {off : Fin 2 → ℕ}
    {inb : ∀ i, off i + (![256, w] : Fin 2 → ℕ) i ≤ (Shape.mk 2 ![1024, 1024]).size i} (ho : off = ![kQrt p c, col p])
    {hl : aM.view.LoadsAt (Rect.unit (s := Shape.mk 2 ![1024, 1024]) off ![256, w] inb).toLoadRect}
    {α : Type} {kk : ((Shape.mk 2 ![256, w]).Idx → Elt F .bf16) → Prog (TpuEff nD τ sig (Elt F) Λ₀ .tc) α} {Q : α → sProp 𝕄} :
    St x p c 12 ⊢ iprop((St x p c 12
        -∗ wp frame (wpE (defs₀ (F := F)) 𝒱₀ (c : Thread nD τ) none) Set.univ (kk (wnd (S2 x p c) (kQrt p c) (col p))) Q)
      -∗ wp frame (wpE (defs₀ (F := F)) 𝒱₀ (c : Thread nD τ) none) Set.univ
          (.op (.load aM (Rect.unit (s := Shape.mk 2 ![1024, 1024]) off ![256, w] inb).toLoadRect hl) kk) Q) := by
  subst hw
  simp only [St]
  iintro ⟨Hc, Ha, Hr⟩ Hk
  iapply (load_pc (w := wid p) (r := kQrt p c) (k := col p) aM fullShare c (S2 x p c) ho) $$ Ha
  iintro Ha
  iapply Hk $$ [Hc Ha Hr]
  isplitl [Hc]; · iexact Hc
  isplitl [Ha]; · iexact Ha
  iexact Hr

/-- Load what landed and the accumulator again, store the sum. -/
theorem st_add12 (p : Fin 3) (c : Dev nD) {w : ℕ} (hw : w = wid p) {b : ℕ} (bd : Memref sig .tc .vmem ⟨2, ![1024, b]⟩ .bf16)
    (hb : ∀ r n v, (rsPt p r n c v : sProp 𝕄) = pc bd fullShare r n 0 (wid p) c v)
    {a : (Shape.mk 2 ![256, w]).Idx → F .bf16} {pay : ((Shape.mk 2 ![256, w]).Idx → F .bf16) → (Shape.mk 2 ![256, w]).Idx → F .bf16}
    (hpay : ∀ t, pay t = fun i => FloatOps.addf (a i) (t i)) (ha : a = wnd (S2 x p c) (kQrt p c) (col p))
    {off off₂ off₃ : Fin 2 → ℕ} {inb : ∀ i, off i + (![256, w] : Fin 2 → ℕ) i ≤ (Shape.mk 2 ![1024, 1024]).size i}
    {inb₂ : ∀ i, off₂ i + (![256, w] : Fin 2 → ℕ) i ≤ (Shape.mk 2 ![1024, b]).size i}
    {inb₃ : ∀ i, off₃ i + (![256, w] : Fin 2 → ℕ) i ≤ (Shape.mk 2 ![1024, 1024]).size i}
    (ho : off = ![kQrt p c, col p]) (ho₂ : off₂ = ![768, 0]) (ho₃ : off₃ = ![kQrt p c, col p])
    {hl₂ : bd.view.LoadsAt (Rect.unit (s := Shape.mk 2 ![1024, b]) off₂ ![256, w] inb₂).toLoadRect}
    {hl₃ : aM.view.LoadsAt (Rect.unit (s := Shape.mk 2 ![1024, 1024]) off₃ ![256, w] inb₃).toLoadRect}
    {hx : (aM.access (Rect.unit (s := Shape.mk 2 ![1024, 1024]) off ![256, w] inb)).Stores Finset.univ}
    {hm : (Finset.univ : Finset (Shape.mk 2 ![256, w]).Idx) = Finset.univ
      ∨ ∀ i, (Rect.unit (s := Shape.mk 2 ![1024, 1024]) off ![256, w] inb).stride i = 1}
    {α : Type} {kk : PUnit → Prog (TpuEff nD τ sig (Elt F) Λ₀ .tc) α} {Q : α → sProp 𝕄} :
    St x p c 12 ⊢ iprop((St x p c 13
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.load bd (Rect.unit (s := Shape.mk 2 ![1024, b]) off₂ ![256, w] inb₂).toLoadRect hl₂) fun (t : (Shape.mk 2 ![256, w]).Idx → Elt F .bf16) =>
            .op (.load aM (Rect.unit (s := Shape.mk 2 ![1024, 1024]) off₃ ![256, w] inb₃).toLoadRect hl₃) fun _ =>
            .op (.store aM (Rect.unit (s := Shape.mk 2 ![1024, 1024]) off ![256, w] inb) (pay t) Finset.univ hx hm) kk) Q) := by
  subst hw
  simp only [St, got0]
  iintro ⟨Hc, Ha, Hg, Hg', Hb, Hr⟩ Hk
  ihave Hb := (Entails.of_eq (hb _ _ _)) $$ Hb
  iapply (add_op bd c (S2 x p c) (R2 x p c) (S3 x p c) hpay ha (fun i j _ => by
    unfold S3 R2; rw [Nat.add_sub_cancel_left, Nat.zero_add]) ho ho₂ ho₃) $$ Ha Hb
  iintro Ha Hb
  ihave Hb := (Entails.of_eq (hb _ _ _).symm) $$ Hb
  iapply Hk $$ [Hc Ha Hg Hg' Hb Hr]
  isplitl [Hc]; · iexact Hc
  isplitl [Ha]; · iexact Ha
  isplitl [Hg]; · iexact Hg
  isplitl [Hg']; · iexact Hg'
  isplitl [Hb]; · iexact Hb
  iexact Hr

/-- Load the rows of the accumulator at row `kHalf p c`. -/
theorem st_ld17 (p : Fin 3) (c : Dev nD) {w : ℕ} (hw : w = wid p) {off : Fin 2 → ℕ}
    {inb : ∀ i, off i + (![512, w] : Fin 2 → ℕ) i ≤ (Shape.mk 2 ![1024, 1024]).size i} (ho : off = ![kHalf p c, col p])
    {hl : aM.view.LoadsAt (Rect.unit (s := Shape.mk 2 ![1024, 1024]) off ![512, w] inb).toLoadRect}
    {α : Type} {kk : ((Shape.mk 2 ![512, w]).Idx → Elt F .bf16) → Prog (TpuEff nD τ sig (Elt F) Λ₀ .tc) α} {Q : α → sProp 𝕄} :
    St x p c 17 ⊢ iprop((St x p c 17
        -∗ wp frame (wpE (defs₀ (F := F)) 𝒱₀ (c : Thread nD τ) none) Set.univ (kk (wnd (G2 x p c) (kHalf p c) (col p))) Q)
      -∗ wp frame (wpE (defs₀ (F := F)) 𝒱₀ (c : Thread nD τ) none) Set.univ
          (.op (.load aM (Rect.unit (s := Shape.mk 2 ![1024, 1024]) off ![512, w] inb).toLoadRect hl) kk) Q) := by
  subst hw
  simp only [St]
  iintro ⟨Hc, Ha, Hr⟩ Hk
  iapply (load_pc (w := wid p) (r := kHalf p c) (k := col p) aM fullShare.left c (G2 x p c) ho) $$ Ha
  iintro Ha
  iapply Hk $$ [Hc Ha Hr]
  isplitl [Hc]; · iexact Hc
  isplitl [Ha]; · iexact Ha
  iexact Hr

/-- Load the staged result at row `kHalf p c`, store over it the widened sums. -/
theorem st_out17 (p : Fin 3) (c : Dev nD) {w : ℕ} (hw : w = wid p)
    {a : (Shape.mk 2 ![512, w]).Idx → F .bf16} {W : (Shape.mk 2 ![512, w]).Idx → F .f32}
    (hW : W = fun i => FloatOps.extf .f32 bitsLt_bf16_f32 (a i)) (ha : a = wnd (G2 x p c) (kHalf p c) (col p))
    {off off₃ : Fin 2 → ℕ} {inb : ∀ i, off i + (![512, w] : Fin 2 → ℕ) i ≤ (Shape.mk 2 ![1024, 1024]).size i}
    {inb₃ : ∀ i, off₃ i + (![512, w] : Fin 2 → ℕ) i ≤ (Shape.mk 2 ![1024, 1024]).size i}
    (ho : off = ![kHalf p c, col p]) (ho₃ : off₃ = ![kHalf p c, col p])
    {hl₃ : oM.view.LoadsAt (Rect.unit (s := Shape.mk 2 ![1024, 1024]) off₃ ![512, w] inb₃).toLoadRect}
    {hx : (oM.access (Rect.unit (s := Shape.mk 2 ![1024, 1024]) off ![512, w] inb)).Stores Finset.univ}
    {hm : (Finset.univ : Finset (Shape.mk 2 ![512, w]).Idx) = Finset.univ
      ∨ ∀ i, (Rect.unit (s := Shape.mk 2 ![1024, 1024]) off ![512, w] inb).stride i = 1}
    {α : Type} {kk : PUnit → Prog (TpuEff nD τ sig (Elt F) Λ₀ .tc) α} {Q : α → sProp 𝕄} :
    St x p c 17 ⊢ iprop((St x p c 18
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.load oM (Rect.unit (s := Shape.mk 2 ![1024, 1024]) off₃ ![512, w] inb₃).toLoadRect hl₃) fun _ =>
            .op (.store oM (Rect.unit (s := Shape.mk 2 ![1024, 1024]) off ![512, w] inb) W Finset.univ hx hm) kk) Q) := by
  subst hw
  simp only [St, outAny]
  iintro ⟨Hc, Ha, Hg, Hg', Hg'', Ho, Hr⟩ Hk
  icases Ho with ⟨%v, Ho⟩
  iapply (out_op c (G2 x p c) v hW ha ho ho₃) $$ Ho
  iintro Ho
  iapply Hk $$ [Hc Ha Hg Hg' Hg'' Ho Hr]
  isplitl [Hc]; · iexact Hc
  isplitl [Ha]; · iexact Ha
  isplitl [Hg]; · iexact Hg
  isplitl [Hg']; · iexact Hg'
  isplitl [Hg'']; · iexact Hg''
  isplitl [Ho]; · iexact Ho
  iexact Hr

/-- Load the rows of the accumulator at row `sHalf p c`. -/
theorem st_ld20 (p : Fin 3) (c : Dev nD) {w : ℕ} (hw : w = wid p) {off : Fin 2 → ℕ}
    {inb : ∀ i, off i + (![512, w] : Fin 2 → ℕ) i ≤ (Shape.mk 2 ![1024, 1024]).size i} (ho : off = ![sHalf p c, col p])
    {hl : aM.view.LoadsAt (Rect.unit (s := Shape.mk 2 ![1024, 1024]) off ![512, w] inb).toLoadRect}
    {α : Type} {kk : ((Shape.mk 2 ![512, w]).Idx → Elt F .bf16) → Prog (TpuEff nD τ sig (Elt F) Λ₀ .tc) α} {Q : α → sProp 𝕄} :
    St x p c 20 ⊢ iprop((St x p c 20
        -∗ wp frame (wpE (defs₀ (F := F)) 𝒱₀ (c : Thread nD τ) none) Set.univ (kk (wnd (G2 x p (par p 0 c)) (sHalf p c) (col p))) Q)
      -∗ wp frame (wpE (defs₀ (F := F)) 𝒱₀ (c : Thread nD τ) none) Set.univ
          (.op (.load aM (Rect.unit (s := Shape.mk 2 ![1024, 1024]) off ![512, w] inb).toLoadRect hl) kk) Q) := by
  subst hw
  simp only [St]
  iintro ⟨Hc, Hs, Ha, Hr⟩ Hk
  iapply (load_pc (w := wid p) (r := sHalf p c) (k := col p) aM fullShare c (G2 x p (par p 0 c)) ho) $$ Ha
  iintro Ha
  iapply Hk $$ [Hc Hs Ha Hr]
  isplitl [Hc]; · iexact Hc
  isplitl [Hs]; · iexact Hs
  isplitl [Ha]; · iexact Ha
  iexact Hr

/-- Load the staged result at row `sHalf p c`, store over it the widened sums. -/
theorem st_out20 (p : Fin 3) (c : Dev nD) {w : ℕ} (hw : w = wid p)
    {a : (Shape.mk 2 ![512, w]).Idx → F .bf16} {W : (Shape.mk 2 ![512, w]).Idx → F .f32}
    (hW : W = fun i => FloatOps.extf .f32 bitsLt_bf16_f32 (a i)) (ha : a = wnd (G2 x p (par p 0 c)) (sHalf p c) (col p))
    {off off₃ : Fin 2 → ℕ} {inb : ∀ i, off i + (![512, w] : Fin 2 → ℕ) i ≤ (Shape.mk 2 ![1024, 1024]).size i}
    {inb₃ : ∀ i, off₃ i + (![512, w] : Fin 2 → ℕ) i ≤ (Shape.mk 2 ![1024, 1024]).size i}
    (ho : off = ![sHalf p c, col p]) (ho₃ : off₃ = ![sHalf p c, col p])
    {hl₃ : oM.view.LoadsAt (Rect.unit (s := Shape.mk 2 ![1024, 1024]) off₃ ![512, w] inb₃).toLoadRect}
    {hx : (oM.access (Rect.unit (s := Shape.mk 2 ![1024, 1024]) off ![512, w] inb)).Stores Finset.univ}
    {hm : (Finset.univ : Finset (Shape.mk 2 ![512, w]).Idx) = Finset.univ
      ∨ ∀ i, (Rect.unit (s := Shape.mk 2 ![1024, 1024]) off ![512, w] inb).stride i = 1}
    {α : Type} {kk : PUnit → Prog (TpuEff nD τ sig (Elt F) Λ₀ .tc) α} {Q : α → sProp 𝕄} :
    St x p c 20 ⊢ iprop((St x p c 21
        -∗ wp frame (wpE (defs₀ (F := F)) 𝒱₀ (c : Thread nD τ) none) Set.univ (kk ⟨⟩) Q)
      -∗ wp frame (wpE (defs₀ (F := F)) 𝒱₀ (c : Thread nD τ) none) Set.univ
          (.op (.load oM (Rect.unit (s := Shape.mk 2 ![1024, 1024]) off₃ ![512, w] inb₃).toLoadRect hl₃) fun _ =>
            .op (.store oM (Rect.unit (s := Shape.mk 2 ![1024, 1024]) off ![512, w] inb) W Finset.univ hx hm) kk) Q) := by
  subst hw
  simp only [St, outAny]
  iintro ⟨Hc, Hs, Ha, Hg, Hg', Hg'', Hr, Ho⟩ Hk
  icases Ho with ⟨%v, Ho⟩
  iapply (out_op c (G2 x p (par p 0 c)) v hW ha ho ho₃) $$ Ho
  iintro Ho
  iapply Hk $$ [Hc Hs Ha Hg Hg' Hg'' Hr Ho]
  isplitl [Hc]; · iexact Hc
  isplitl [Hs]; · iexact Hs
  isplitl [Ha]; · iexact Ha
  isplitl [Hg]; · iexact Hg
  isplitl [Hg']; · iexact Hg'
  isplitl [Hg'']; · iexact Hg''
  isplitl [Hr]; · iexact Hr
  iexact Ho

end Cert.EmbedProof

end
-- ==== Proof.Rows.lean ====
/-
# Rows and columns of whole buffers

Pieces over any set of a buffer's indices; a whole buffer as a piece; a piece cut by columns; a list of distinct rows
taken out of a whole buffer; and the shares of the table a list of row copies reads.
-/
module

public import proofs.«01_k».proof.Proof.Ops

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {sp : Space} {a b : ℕ} {e : EltTy} (m : Memref sig .tc sp ⟨2, ![a, b]⟩ e)

/-- The elements of a buffer at the indices `S`, at the values `u`. -/
def pcs (q : PosShare TreeShare) (S : Finset (Shape.mk 2 ![a, b]).Idx) (c : Dev nD) (u : ℕ → ℕ → Elt F e) : sProp 𝕄 :=
  iprop(∃ f, ⌜∀ j ∈ S, m.view.read (Elt F) f j = mat u j⌝ ∗ (m.view.loc (c : Thread nD τ) ↦[S.map m.view.emb]{q} f))

theorem pc_eq_pcs (q : PosShare TreeShare) (r n k w : ℕ) (c : Dev nD) (u : ℕ → ℕ → Elt F e) :
    (pc m q r n k w c u : sProp 𝕄) = pcs m q (box r n k w) c u := rfl

theorem pcs_split (q : PosShare TreeShare) {S T : Finset (Shape.mk 2 ![a, b]).Idx} (h : Disjoint S T) (c : Dev nD)
    (u : ℕ → ℕ → Elt F e) :
    (pcs m q (S ∪ T) c u : sProp 𝕄) ⊢ iprop(pcs m q S c u ∗ pcs m q T c u) := by
  unfold pcs
  iintro ⟨%f, %hf, H⟩
  rw [Finset.map_union]
  ihave H := (pointsTo_union ((Finset.disjoint_map _).mpr h)).1 $$ H
  icases H with ⟨H1, H2⟩
  isplitl [H1]
  · iexists f
    isplitr
    · ipureintro
      exact fun j hj => hf j (Finset.mem_union_left _ hj)
    · iexact H1
  · iexists f
    isplitr
    · ipureintro
      exact fun j hj => hf j (Finset.mem_union_right _ hj)
    · iexact H2

theorem pcs_join (q : PosShare TreeShare) {S T : Finset (Shape.mk 2 ![a, b]).Idx} (h : Disjoint S T) (c : Dev nD)
    (u : ℕ → ℕ → Elt F e) :
    iprop(pcs m q S c u ∗ pcs m q T c u) ⊢ (pcs m q (S ∪ T) c u : sProp 𝕄) := by
  unfold pcs
  iintro ⟨⟨%f, %hf, H1⟩, ⟨%g, %hg, H2⟩⟩
  ihave H := (pointsTo_join (ℓ := m.view.loc (c : Thread nD τ)) (f := f) (g := g) (q := q) ((Finset.disjoint_map m.view.emb).mpr h)) $$ [H1 H2]
  · isplitl [H1]
    · iexact H1
    · iexact H2
  rw [← Finset.map_union]
  iexists _
  isplitr
  rotate_left
  · iexact H
  · ipureintro
    intro j hj
    rw [View.read_apply]
    by_cases h' : j ∈ T
    · rw [Finset.piecewise_eq_of_mem _ _ _ (Finset.mem_map_of_mem _ h'), ← View.read_apply]; exact hg j h'
    · rw [Finset.piecewise_eq_of_notMem _ _ _ (fun h'' => h' ((Finset.mem_map' _).mp h'')), ← View.read_apply]
      exact hf j ((Finset.mem_union.mp hj).resolve_right h')

theorem pcs_congr (q : PosShare TreeShare) {S : Finset (Shape.mk 2 ![a, b]).Idx} (c : Dev nD) {u u' : ℕ → ℕ → Elt F e}
    (h : ∀ j ∈ S, mat u j = mat u' j) : (pcs m q S c u : sProp 𝕄) ⊢ pcs m q S c u' := by
  unfold pcs
  iintro ⟨%f, %hf, H⟩
  iexists f
  isplitr
  · ipureintro; exact fun j hj => (hf j hj).trans (h j hj)
  · iexact H

/-- A whole buffer is a piece, and back. -/
theorem box_univ : (box 0 a 0 b : Finset (Shape.mk 2 ![a, b]).Idx) = Finset.univ :=
  Finset.eq_univ_iff_forall.mpr fun j => mem_box.mpr
    ⟨⟨Nat.zero_le _, by rw [Nat.zero_add]; exact (j 0).isLt⟩, ⟨Nat.zero_le _, by rw [Nat.zero_add]; exact (j 1).isLt⟩⟩

/-- A value for each index, as a value for each row and column. -/
def flat {V : Type} (ha : 0 < a) (hb : 0 < b) (g : (Shape.mk 2 ![a, b]).Idx → V) : ℕ → ℕ → V := fun i j =>
  g (Fin.cons (⟨i % a, Nat.mod_lt _ ha⟩ : Fin a) (Fin.cons (⟨j % b, Nat.mod_lt _ hb⟩ : Fin b) (fun i => i.elim0)))
theorem mat_flat {V : Type} (ha : 0 < a) (hb : 0 < b) (g : (Shape.mk 2 ![a, b]).Idx → V) : mat (flat ha hb g) = g := by
  funext j
  unfold mat flat
  congr 1
  funext i
  refine Fin.cases ?_ (fun i => ?_) i
  · exact Fin.ext (Nat.mod_eq_of_lt (j 0).isLt)
  · have hi : i = 0 := Subsingleton.elim _ _
    subst hi
    exact Fin.ext (Nat.mod_eq_of_lt (j 1).isLt)

theorem pc_of_whole (q : PosShare TreeShare) (c : Dev nD) (f : m.view.ty.Contents (Elt F)) (u : ℕ → ℕ → Elt F e)
    (hu : m.view.read (Elt F) f = mat u) :
    (m.view.loc (c : Thread nD τ) ↦[m.view.set]{q} f) ⊢ (pc m q 0 a 0 b c u : sProp 𝕄) := by
  unfold pc
  rw [box_univ]
  iintro H
  iexists f
  isplitr
  · ipureintro; exact fun j _ => congrFun hu j
  · iexact H
theorem pc_any (q : PosShare TreeShare) (c : Dev nD) (ha : 0 < a) (hb : 0 < b) (f : m.view.ty.Contents (Elt F)) :
    (m.view.loc (c : Thread nD τ) ↦[m.view.set]{q} f) ⊢ (iprop(∃ u, pc m q 0 a 0 b c u) : sProp 𝕄) := by
  iintro H
  iexists (flat ha hb (m.view.read (Elt F) f))
  iapply (pc_of_whole m q c f _ (mat_flat ha hb _).symm) $$ H
theorem whole_of_pc (q : PosShare TreeShare) (c : Dev nD) (u : ℕ → ℕ → Elt F e) :
    (pc m q 0 a 0 b c u : sProp 𝕄) ⊢ iprop(∃ f, ⌜m.view.read (Elt F) f = mat u⌝ ∗ (m.view.loc (c : Thread nD τ) ↦[m.view.set]{q} f)) := by
  unfold pc
  rw [box_univ]
  iintro ⟨%f, %hf, H⟩
  iexists f
  isplitr
  · ipureintro; exact funext fun j => hf j (Finset.mem_univ j)
  · iexact H

theorem cols_split (r n k w w' : ℕ) :
    (box r n k (w + w') : Finset (Shape.mk 2 ![a, b]).Idx) = box r n k w ∪ box r n (k + w) w' := by
  ext j
  rw [Finset.mem_union, mem_box, mem_box, mem_box]
  omega
theorem cols_disj (r n k w w' : ℕ) :
    Disjoint (box r n k w : Finset (Shape.mk 2 ![a, b]).Idx) (box r n (k + w) w') := by
  refine Finset.disjoint_left.mpr fun j h h' => ?_
  rw [mem_box] at h h'
  omega

/-- A piece of 1024 columns is its three column groups, and back. -/
theorem groups_split (q : PosShare TreeShare) (r n : ℕ) (c : Dev nD) (u : ℕ → ℕ → Elt F e) :
    (pc m q r n 0 1024 c u : sProp 𝕄)
      ⊢ iprop(pc m q r n (col 0) (wid 0) c u ∗ pc m q r n (col 1) (wid 1) c u ∗ pc m q r n (col 2) (wid 2) c u) := by
  refine BIBase.Entails.trans (show _ ⊢ pcs m q (box r n 0 384 ∪ box r n (0 + 384) 640) c u
    from Entails.of_eq (by rw [← cols_split]; rfl)) (BIBase.Entails.trans (pcs_split m q (cols_disj r n 0 384 640) c u) ?_)
  refine BIClass.sep_mono (BI.Entails.refl _) (BIBase.Entails.trans
    (show _ ⊢ pcs m q (box r n (0 + 384) 384 ∪ box r n (0 + 384 + 384) 256) c u from Entails.of_eq (by rw [← cols_split])) ?_)
  exact pcs_split m q (cols_disj r n (0 + 384) 384 256) c u
theorem groups_join (q : PosShare TreeShare) (r n : ℕ) (c : Dev nD) (u : ℕ → ℕ → Elt F e) :
    iprop(pc m q r n (col 0) (wid 0) c u ∗ pc m q r n (col 1) (wid 1) c u ∗ pc m q r n (col 2) (wid 2) c u)
      ⊢ (pc m q r n 0 1024 c u : sProp 𝕄) := by
  refine BIBase.Entails.trans ?_ (show pcs m q (box r n 0 384 ∪ box r n (0 + 384) 640) c u ⊢ _
    from Entails.of_eq (by rw [← cols_split]; rfl))
  refine BIBase.Entails.trans ?_ (pcs_join m q (cols_disj r n 0 384 640) c u)
  refine BIClass.sep_mono (BI.Entails.refl _) (BIBase.Entails.trans ?_
    (show pcs m q (box r n (0 + 384) 384 ∪ box r n (0 + 384 + 384) 256) c u ⊢ _ from Entails.of_eq (by rw [← cols_split])))
  exact pcs_join m q (cols_disj r n (0 + 384) 384 256) c u

/-! ## A list of distinct rows -/

/-- The indices of the rows none of the first `t` of a list hits. -/
def missed (row : ℕ → ℕ) (t : ℕ) : Finset (Shape.mk 2 ![a, b]).Idx := Finset.univ.filter fun j => ∀ k < t, row k ≠ (j 0).val

theorem missed_zero (row : ℕ → ℕ) : (missed row 0 : Finset (Shape.mk 2 ![a, b]).Idx) = box 0 a 0 b := by
  rw [box_univ]; exact Finset.filter_true_of_mem fun j _ k hk => absurd hk (Nat.not_lt_zero k)
theorem missed_succ (row : ℕ → ℕ) {t : ℕ} (h : ∀ k < t, row k ≠ row t) :
    (missed row t : Finset (Shape.mk 2 ![a, b]).Idx) = missed row (t + 1) ∪ box (row t) 1 0 b := by
  ext j
  rw [Finset.mem_union, mem_box]
  unfold missed
  rw [Finset.mem_filter, Finset.mem_filter]
  have hj : (j 1).val < b := (j 1).isLt
  constructor
  · rintro ⟨-, hk⟩
    by_cases he : row t = (j 0).val
    · exact Or.inr ⟨⟨he.le, by omega⟩, Nat.zero_le _, by omega⟩
    · refine Or.inl ⟨Finset.mem_univ _, fun k hk' => ?_⟩
      rcases Nat.lt_succ_iff_lt_or_eq.mp hk' with h1 | h1
      · exact hk k h1
      · subst h1; exact he
  · rintro (⟨-, hk⟩ | ⟨⟨h1, h2⟩, -⟩)
    · exact ⟨Finset.mem_univ _, fun k hk' => hk k (Nat.lt_succ_of_lt hk')⟩
    · refine ⟨Finset.mem_univ _, fun k hk' he => h k hk' ?_⟩
      omega
theorem missed_disj (row : ℕ → ℕ) (t : ℕ) :
    Disjoint (missed row (t + 1) : Finset (Shape.mk 2 ![a, b]).Idx) (box (row t) 1 0 b) := by
  refine Finset.disjoint_left.mpr fun j h h' => ?_
  rw [mem_box] at h'
  unfold missed at h
  exact (Finset.mem_filter.mp h).2 t (Nat.lt_succ_self t) (by omega)

theorem range_step (Φ : ℕ → sProp 𝕄) (n : ℕ) :
    bigSep (Finset.range (n + 1)) Φ = iprop(Φ n ∗ bigSep (Finset.range n) Φ) := by
  rw [Finset.range_add_one, bigSep_insert Finset.notMem_range_self]; rfl

theorem big_sep (s : Finset ℕ) (Φ Ψ : ℕ → sProp 𝕄) :
    bigSep s (fun k => iprop(Φ k ∗ Ψ k)) = iprop(bigSep s Φ ∗ bigSep s Ψ) := bigSep_sep _ _ _

theorem rows_split (q : PosShare TreeShare) (c : Dev nD) (u : ℕ → ℕ → Elt F e) (row : ℕ → ℕ) (n : ℕ)
    (h : ∀ t < n, ∀ k < t, row k ≠ row t) :
    (pc m q 0 a 0 b c u : sProp 𝕄)
      ⊢ iprop(pcs m q (missed row n) c u ∗ bigSep (Finset.range n) fun t => pc m q (row t) 1 0 b c u) := by
  induction n with
  | zero =>
    rw [pc_eq_pcs, missed_zero, Finset.range_zero, bigSep_empty]
    iintro H
    isplitl [H]; · iexact H
    iempintro
  | succ n ih =>
    refine BIBase.Entails.trans (ih fun t ht => h t (Nat.lt_succ_of_lt ht)) ?_
    rw [missed_succ row (h n (Nat.lt_succ_self n)), range_step]
    iintro ⟨H, Hr⟩
    ihave H := (show _ ⊢ iprop(pcs m q (missed row (n + 1)) c u ∗ pc m q (row n) 1 0 b c u)
      from pcs_split m q (missed_disj row n) c u) $$ H
    icases H with ⟨H1, H2⟩
    isplitl [H1]; · iexact H1
    isplitl [H2]; · iexact H2
    iexact Hr
theorem rows_join (q : PosShare TreeShare) (c : Dev nD) (u : ℕ → ℕ → Elt F e) (row : ℕ → ℕ) (n : ℕ)
    (h : ∀ t < n, ∀ k < t, row k ≠ row t) :
    iprop(pcs m q (missed row n) c u ∗ bigSep (Finset.range n) fun t => pc m q (row t) 1 0 b c u)
      ⊢ (pc m q 0 a 0 b c u : sProp 𝕄) := by
  induction n with
  | zero =>
    rw [pc_eq_pcs, missed_zero, Finset.range_zero, bigSep_empty]
    iintro ⟨H, -⟩
    iexact H
  | succ n ih =>
    refine BIBase.Entails.trans ?_ (ih fun t ht => h t (Nat.lt_succ_of_lt ht))
    rw [missed_succ row (h n (Nat.lt_succ_self n)), range_step]
    iintro ⟨H1, H2, Hr⟩
    isplitr [Hr]
    · iapply (show iprop(pcs m q (missed row (n + 1)) c u ∗ pc m q (row n) 1 0 b c u) ⊢ _
        from pcs_join m q (missed_disj row n) c u)
      isplitl [H1]; · iexact H1
      iexact H2
    · iexact Hr

/-- The share of row `r` the `k`-th reader of a buffer takes; and what is left when `n` readers took theirs. -/
def rowTok (c : Dev nD) (f : m.view.ty.Contents (Elt F)) (row : ℕ → ℕ) (k : ℕ) : sProp 𝕄 :=
  (m.view.loc (c : Thread nD τ) ↦[(box (row k) 1 0 b : Finset (Shape.mk 2 ![a, b]).Idx).map m.view.emb]{Transfers.shareTokN fullShare k} f)
def rowRest (c : Dev nD) (f : m.view.ty.Contents (Elt F)) (row : ℕ → ℕ) (n : ℕ) : sProp 𝕄 :=
  iprop((m.view.loc (c : Thread nD τ) ↦[m.view.set]{Transfers.shareDrop fullShare n} f)
    ∗ bigSep (Finset.range n) fun k =>
      (m.view.loc (c : Thread nD τ) ↦[m.view.set \ (box (row k) 1 0 b : Finset (Shape.mk 2 ![a, b]).Idx).map m.view.emb]{Transfers.shareTokN fullShare k} f))

theorem toks_split (c : Dev nD) (f : m.view.ty.Contents (Elt F)) (row : ℕ → ℕ) (n : ℕ) :
    (m.view.loc (c : Thread nD τ) ↦[m.view.set]{fullShare} f : sProp 𝕄)
      ⊣⊢ iprop(rowRest m c f row n ∗ bigSep (Finset.range n) fun k => rowTok m c f row k) := by
  have hs : ∀ k, (m.view.loc (c : Thread nD τ) ↦[m.view.set]{Transfers.shareTokN fullShare k} f : sProp 𝕄)
      ⊣⊢ iprop(rowTok m c f row k
        ∗ (m.view.loc (c : Thread nD τ) ↦[m.view.set \ (box (row k) 1 0 b : Finset (Shape.mk 2 ![a, b]).Idx).map m.view.emb]{Transfers.shareTokN fullShare k} f)) :=
    fun k => pointsTo_split_subset (Finset.map_subset_map.mpr (Finset.subset_univ _))
  have h : (m.view.loc (c : Thread nD τ) ↦[m.view.set]{fullShare} f : sProp 𝕄) ⊣⊢ _ := Transfers.pointsTo_toks_range fullShare n
  unfold rowRest
  constructor
  · refine BIBase.Entails.trans h.1 ?_
    iintro ⟨H, Hr⟩
    ihave Hr := (BIBase.Entails.trans (bigSep_mono fun k _ => (hs k).1) (Entails.of_eq (big_sep _ _ _))) $$ Hr
    icases Hr with ⟨Ht, Hr⟩
    isplitr [Ht]
    · isplitl [H] <;> iassumption
    · iexact Ht
  · refine BIBase.Entails.trans ?_ h.2
    iintro ⟨⟨H, Hr⟩, Ht⟩
    isplitl [H]; · iexact H
    iapply (BIBase.Entails.trans (Entails.of_eq (big_sep _ _ _).symm) (bigSep_mono fun k _ => (hs k).2))
    isplitl [Ht] <;> iassumption
end

end Cert.EmbedProof

end
-- ==== Proof.Gather.lean ====
/-
# The gather

The rows a device owns are copied from its block of the table into the staging buffer, one copy for each word of the
packed list.  All the copies credit one semaphore; the waits come later, and only then are the rows at their values.
-/
module

public import proofs.«01_k».proof.Proof.Ops
public import proofs.«01_k».proof.Proof.Rows
public import Idealize.ShloMosaic.Lib.LoopRemainder
public import Idealize.ShloMosaic.Lib.Ring
public import proofs.«01_k».proof.Proof.Gen.KernelIdeal.Skeleton

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {arg0 : Memref sig .tc .smem S1024 .i32} {harg0 : arg0.IsWhole} {arg1 : Memref sig .tc .smem Cert.KernelIdeal.S1 .i32}
  {harg1 : arg1.IsWhole}
  {arg3 : Memref sig .tc .vmem S1024x1024 .f32} {harg3 : arg3.IsWhole}
  {arg5 : Memref sig .tc .vmem S1024x1024 .bf16} {harg5 : arg5.IsWhole}
  {arg6 : Memref sig .tc .vmem S1024x384 .bf16} {harg6 : arg6.IsWhole}
  {arg7 : Memref sig .tc .vmem S1024x384 .bf16} {harg7 : arg7.IsWhole}
  {arg8 : Memref sig .tc .vmem S1024x256 .bf16} {harg8 : arg8.IsWhole}
  {arg10 : DmaSems sig Cert.KernelIdeal.S3} {arg11 : DmaSems sig S3x3} {arg12 : DmaSems sig S2x3}

/-- The staging buffer of the gather, and the device's block of the table. -/
abbrev stM : Memref sig .tc .vmem ⟨2, ![1024, 1024]⟩ .f32 := Memref.whole cc0_scratch0
abbrev eM : Memref sig .tc .hbm ⟨2, ![8192, 1024]⟩ .f32 := Memref.whole main_arg1

/-- The two rows a packed word names. -/
def dstRow (v : BitVec 32) : ℕ := (Scalar.andi v 1023#32).toNat
def srcRow (v : BitVec 32) : ℕ := (Scalar.shrsi v 10#32).toNat

/-- The first `n` words of the packed list name, each once, the rows that have a source, each with its source. -/
structure Plan (n : ℕ) (w : ℕ → BitVec 32) (src : ℕ → Option ℕ) : Prop where
  le : n ≤ 1024
  dst : ∀ k < n, dstRow (w k) < 1024
  row : ∀ k < n, srcRow (w k) < 8192
  src_eq : ∀ k < n, src (dstRow (w k)) = some (srcRow (w k))
  inj : ∀ t < n, ∀ k < t, dstRow (w k) ≠ dstRow (w t)
  rest : ∀ i < 1024, (∀ k < n, dstRow (w k) ≠ i) → src i = none

/-- The zero of the staging buffer, and what it holds once the rows are in. -/
def zeroF : F .f32 := Scalar.ofBits .f32 0x00000000#32
def staged (e : ℕ → ℕ → F .f32) (src : ℕ → Option ℕ) : ℕ → ℕ → F .f32 := fun i j =>
  match src i with
  | some r => e r j
  | none => zeroF

/-! ## The loops' operands -/

theorem toInt_small {v : BitVec 32} (h : v.toNat ≤ 1024) : v.toInt = v.toNat :=
  BitVec.toInt_eq_toNat_of_lt (by omega)
theorem main_ub (v : BitVec 32) : Scalar.addi 0#32 (Scalar.muli (Scalar.divsi (Scalar.subi v 0#32) 1#32) 1#32) = v := by
  rw [Scalar.muli_divsi_one]
  show 0#32 + (v - 0#32) = v
  rw [BitVec.zero_add, BitVec.sub_zero]
theorem main_trips {v : BitVec 32} (h : v.toNat ≤ 1024) :
    Scf.trips 0#32 (Scalar.addi 0#32 (Scalar.muli (Scalar.divsi (Scalar.subi v 0#32) 1#32) 1#32)) 1#32 = v.toNat := by
  rw [main_ub]
  unfold Scf.trips
  rw [toInt_small h, show (0#32 : BitVec 32).toInt = 0 from rfl, show (1#32 : BitVec 32).toInt = 1 from rfl]
  omega
theorem main_ok {v : BitVec 32} (h : v.toNat ≤ 1024) :
    Scf.OK 0#32 (Scalar.addi 0#32 (Scalar.muli (Scalar.divsi (Scalar.subi v 0#32) 1#32) 1#32)) 1#32 := by
  unfold Scf.OK
  rw [main_trips h, show (0#32 : BitVec 32).toInt = 0 from rfl, show (1#32 : BitVec 32).toInt = 1 from rfl]
  refine ⟨by omega, ?_⟩
  show (0 : Int) + (v.toNat : Int) * 1 < 2147483648
  omega
theorem t1_trips {v : BitVec 32} (h : v.toNat ≤ 1024) : (k0_t1_loop v).trips = v.toNat := main_trips h
theorem t3_trips {v : BitVec 32} (h : v.toNat ≤ 1024) : (k0_t3_loop v).trips = v.toNat := main_trips h
theorem off1_eq {v : BitVec 32} (h : v.toNat ≤ 1024) (k : Fin (k0_t1_loop v).trips) : k0_off1 v k = ![k.val] := by
  have hk : k.val < v.toNat := lt_of_lt_of_eq k.isLt (t1_trips h)
  show ![(Scf.iv 0#32 1#32 k.val).toNat] = _
  rw [show (Scf.iv 0#32 1#32 k.val).toNat = k.val from by
    simp only [Scf.iv, BitVec.toNat_add, BitVec.toNat_mul, BitVec.toNat_ofNat]; omega]
theorem chk1 {v : BitVec 32} (h : v.toNat ≤ 1024) : k0_chk1 v := by
  refine ⟨main_ok h, fun k a => ?_, Scf.rem_ok _ _, fun k => (Scf.rem_no_trip _ _ k).elim, main_ok h, Scf.rem_ok _ _⟩
  have hk : k.val < v.toNat := lt_of_lt_of_eq k.isLt (t1_trips h)
  rw [off1_eq h k, show a = 0 from Subsingleton.elim _ _]
  show k.val + 1 ≤ 1024
  omega
theorem chk2 {n : ℕ} {w : ℕ → BitVec 32} {src : ℕ → Option ℕ} (hP : Plan n w src) {k : ℕ} (hk : k < n) : k0_chk2 (w k) := by
  refine ⟨Fin.forall_fin_two.mpr ⟨?_, Nat.le_refl 1024⟩, Fin.forall_fin_two.mpr ⟨?_, Nat.le_refl 1024⟩⟩
  · show dstRow (w k) + 1 ≤ 1024
    exact hP.dst k hk
  · show srcRow (w k) + 1 ≤ 8192
    exact hP.row k hk

/-! ## The copies in flight -/

/-- What the copy of one row credits. -/
def rowAmt : ℕ := stM.view.ref.dmaCredit ⟨2, ![1, 1024]⟩ .f32
theorem rowAmt_pos : 0 < rowAmt := sig.dmaCredit_pos _ _ _ _ _ (by decide)

section
variable (c : Dev nD) (w : ℕ → BitVec 32) (src : ℕ → Option ℕ) (e : ℕ → ℕ → F .f32) (fE : eM.view.ty.Contents (Elt F))

/-- Row `k` of the list before its copy; and once landed. -/
def Ready (k : ℕ) : sProp 𝕄 :=
  iprop((∃ u, pc stM fullShare (dstRow (w k)) 1 0 1024 c u) ∗ rowTok eM c fE (fun k => srcRow (w k)) k)
def Land (k : ℕ) : sProp 𝕄 :=
  iprop(pc stM fullShare (dstRow (w k)) 1 0 1024 c (staged e src) ∗ rowTok eM c fE (fun k => srcRow (w k)) k)
instance Land_storable (k : ℕ) : BI.Storable (upEmb : UEmb _ 𝕄) (Land c w src e fE k) := by
  unfold Land rowTok; infer_instance

abbrev Flight (n k u : ℕ) : sProp 𝕄 :=
  Transfers.Batch (countersEmb (U := UU)) (c : Thread nD τ) (.dma gS) () rowAmt (fun t : Fin n => Land c w src e fE t.val) k u

variable {n : ℕ} {w src e fE}

theorem issue_one (hP : Plan n w src) (hE : eM.view.read (Elt F) fE = mat e) {k : ℕ} (hk : k < n) {qd : DmaSem sig} (hq : qd = gS)
    {sr : Memref sig .tc .hbm ⟨2, ![1, 1024]⟩ .f32} {ds : Memref sig .tc .vmem ⟨2, ![1, 1024]⟩ .f32}
    (hs : Win sr eM (srcRow (w k)) 0) (hd : Win ds stM (dstRow (w k)) 0)
    {hsrc : sr.view.WordExact} {hdst : ds.view.WordExact} {hsem : DmaTarget.Typed (nD := nD) (τ := τ) (p := .tc) .hbm (.dma qd) (.here ds)}
    {α : Type} {kk : PUnit → Prog (TpuEff nD τ sig (Elt F) Λ₀ .tc) α} {Q : α → sProp 𝕄} :
    Ready c w fE k ⊢ iprop(Flight c w src e fE n k 0
      -∗ (Flight c w src e fE n (k + 1) 0 -∗ wp frame (wpE (defs₀ (F := F)) 𝒱₀ (c : Thread nD τ) none) Set.univ (kk ⟨⟩) Q)
      -∗ wp frame (wpE (defs₀ (F := F)) 𝒱₀ (c : Thread nD τ) none) Set.univ
        (.op (.enqueueDma sr (.here ds) (.dma qd) hsrc hdst hsem) kk) Q) := by
  subst hq
  unfold Ready
  iintro ⟨⟨%u, Hr⟩, Ht⟩ HB Hk
  ihave Hr := (win_open hd fullShare c u) $$ Hr
  icases Hr with ⟨%fd, -, Hr⟩
  have hc := win_close hd fullShare c (staged e src)
  obtain ⟨off', inb', h', ho', rfl⟩ := hd
  obtain ⟨off, inb, h, ho, rfl⟩ := hs
  have hset : (eM.slice (Rect.unit (s := Shape.mk 2 ![8192, 1024]) off ![1, 1024] inb) h).view.set
      = (box (srcRow (w k)) 1 0 1024 : Finset (Shape.mk 2 ![8192, 1024]).Idx).map eM.view.emb := by
    rw [← unit_set inb ho]; exact View.set_slice _ _
  have ht : (rowTok eM c fE (fun k => srcRow (w k)) k : sProp 𝕄)
      = ((eM.slice (Rect.unit (s := Shape.mk 2 ![8192, 1024]) off ![1, 1024] inb) h).view.loc (c : Thread nD τ)
          ↦[(eM.slice (Rect.unit (s := Shape.mk 2 ![8192, 1024]) off ![1, 1024] inb) h).view.set]{Transfers.shareTokN fullShare k} fE) := by
    rw [hset]; rfl
  ihave Ht := (Entails.of_eq ht) $$ Ht
  iapply (Transfers.wp_dmaBatch (countersEmb (U := UU)) 𝒱₀ (c : Thread nD τ) none
    (src := eM.slice (Rect.unit (s := Shape.mk 2 ![8192, 1024]) off ![1, 1024] inb) h)
    (dst := stM.slice (Rect.unit (s := Shape.mk 2 ![1024, 1024]) off' ![1, 1024] inb') h')
    (sm := .dma gS) (q := Transfers.shareTokN fullShare k) (fs := fE) (fd := fd)
    (D := fun t : Fin n => Land c w src e fE t.val) (j := k) (u := 0)
    () rowAmt rfl (Finset.Subset.refl _) hk (Nat.zero_le _) ?_) $$ [Hr Ht HB]
  · unfold Land
    refine BIClass.sep_mono ?_ (Entails.of_eq ht.symm)
    refine hc _ ?_
    rw [View.read_write_univ]
    funext j
    have h1 : eM.view.read (Elt F) fE ((Rect.unit (s := Shape.mk 2 ![8192, 1024]) off ![1, 1024] inb).emb j) = _ := congrFun hE _
    rw [unit_emb inb ho] at h1
    refine h1.trans ?_
    have hj : (j 0).val = 0 := Nat.lt_one_iff.mp (j 0).isLt
    unfold wnd staged
    rw [hj, Nat.add_zero, Nat.add_zero, hP.src_eq k hk]
  · isplitl [Ht]; · iexact Ht
    isplitl [Hr]; · iexact Hr
    iexact HB
  · iexact Hk

theorem issue_loop (hP : Plan n w src) (hE : eM.view.read (Elt F) fE = mat e) {v8 : BitVec 32} (hv : v8.toNat = n)
    (hw : k0_chk1 v8) {q : PosShare TreeShare} {f0 : arg0.view.ty.Contents (Elt F)} (hf0 : ∀ j, arg0.view.read (Elt F) f0 j = w (j 0).val)
    {harg2 : eM.IsWhole} {harg4 : stM.IsWhole} {arg9 : DmaSems sig S_} (hg : arg9.sem = gS)
    {α : Type} {K : Unit → Prog (TpuEff nD τ sig (Elt F) Λ₀ .tc) α} {Q : α → sProp 𝕄} :
    (arg0.view.loc (c : Thread nD τ) ↦[arg0.view.set]{q} f0 : sProp 𝕄) ⊢ iprop(Flight c w src e fE n 0 0
      -∗ (bigSep Finset.univ fun t : Fin n => Ready c w fE t.val)
      -∗ ((arg0.view.loc (c : Thread nD τ) ↦[arg0.view.set]{q} f0) -∗ Flight c w src e fE n n 0
        -∗ wp frame (wpE (defs₀ (F := F)) 𝒱₀ (c : Thread nD τ) none) Set.univ (K ⟨⟩) Q)
      -∗ wp frame (wpE (defs₀ (F := F)) 𝒱₀ (c : Thread nD τ) none) Set.univ
        (Scf.Loop.for (k0_t1_loop v8) (k0_t1_ok v8 hw) ⟨⟩ (k0_t1_body arg0 harg0 arg1 harg1 eM harg2 arg3 harg3 stM harg4
          arg5 harg5 arg6 harg6 arg7 harg7 arg8 harg8 arg9 arg10 arg11 arg12 v8 hw) >>= K) Q) := by
  have hn : (k0_t1_loop v8).trips = n := (t1_trips (by rw [hv]; exact hP.le)).trans hv
  iintro H0 HB HR Hk
  iapply (Scf.wp_for_bind frame (wpE (defs₀ (F := F)) 𝒱₀ (c : Thread nD τ) none) Set.univ _ _ _ (k0_t1_ok v8 hw) ⟨⟩ _
    (fun k _ => iprop((arg0.view.loc (c : Thread nD τ) ↦[arg0.view.set]{q} f0) ∗ Flight c w src e fE n k 0
      ∗ bigSep (Transfers.pending k) fun t : Fin n => Ready c w fE t.val)) ?_) $$ [H0 HB HR] [Hk]
  · intro k _
    have hk : k.val < n := lt_of_lt_of_eq k.isLt hn
    have h8 : v8.toNat ≤ 1024 := by rw [hv]; exact hP.le
    rw [Transfers.bigSep_pending_step _ k.val hk]
    iintro ⟨H0, HB, ⟨Hr, HR⟩⟩
    unfold k0_t1_body
    simp only [smemLoad, smemLoadElt, Prog.lift, Prog.bind_op, Prog.bind_ret, Prog.pure_eq_ret]
    iapply (wp_load_rect 𝒱₀ (c : Thread nD τ) none Set.univ (m := arg0)
      (r := Rect.unit (s := S1024) (k0_off1 v8 k) Cert.KernelIdeal.S1.size (k0_off1_inb v8 hw k)) (S := arg0.view.set)
      (by rw [View.set_slice]; exact Finset.map_subset_map.mpr (Finset.subset_univ _))) $$ H0
    iintro H0
    have hwd : (arg0.access (Rect.unit (s := S1024) (k0_off1 v8 k) Cert.KernelIdeal.S1.size (k0_off1_inb v8 hw k))).read (Elt F) f0
        (Shape.Idx.first (numel1_S1.symm ▸ Nat.one_pos)) = w k.val := by
      refine (hf0 _).trans (congrArg w ?_)
      show k0_off1 v8 k 0 + 1 * ((Shape.Idx.first (s := Cert.KernelIdeal.S1) (numel1_S1.symm ▸ Nat.one_pos)) 0).val = k.val
      have h1 : ((Shape.Idx.first (s := Cert.KernelIdeal.S1) (numel1_S1.symm ▸ Nat.one_pos)) 0).val < 1 := Fin.isLt _
      rw [off1_eq h8 k]
      show k.val + 1 * _ = _
      omega
    rw [hwd]
    iapply (Entails.of_eq (wp_assume_of 𝒱₀ (c : Thread nD τ) none Set.univ (chk2 hP hk)).symm)
    iapply (issue_one c hP hE hk hg ⟨_, _, _, rfl, rfl⟩ ⟨_, _, _, rfl, rfl⟩) $$ Hr HB
    iintro HB
    rw [wp_ret]
    imodintro
    isplitl [H0]; · iexact H0
    isplitl [HB]; · iexact HB
    iexact HR
  · isplitl [H0]; · iexact H0
    isplitl [HB]; · iexact HB
    rw [← Transfers.bigSep_pending_zero]
    iexact HR
  · iintro %_ ⟨H0, HB, -⟩
    rw [show Scf.trips (k0_t1_loop v8).lb (k0_t1_loop v8).ub (k0_t1_loop v8).st = n from hn]
    iapply Hk $$ H0 HB

theorem drain_loop (κ : GSem nD τ sig → ℕ) (x : Dev nD → MV F) (hle : n ≤ 1024) {v8 : BitVec 32} (hv : v8.toNat = n)
    (hw : k0_chk1 v8) (T : Finset Due)
    {arg0 : Memref sig .tc .smem S1024 .i32} {harg0 : arg0.IsWhole} {harg2 : eM.IsWhole} {harg4 : stM.IsWhole}
    {arg9 : DmaSems sig S_} (hg : arg9.sem = gS) {v2 v5 v7 v26 : BitVec 32} {v18 : Sems sig S_}
    {α : Type} {K : Unit → Prog (TpuEff nD τ sig (Elt F) Λ₀ .tc) α} {Q : α → sProp 𝕄} :
    Inv x κ ⊢ iprop(Flight c w src e fE n n 0 -∗ Owe (F := F) c T
      -∗ ((bigSep Finset.univ fun t : Fin n => Land c w src e fE t.val) -∗ semVal (gCell c) 0 -∗ Owe (F := F) c T
        -∗ wp frame (wpE (defs₀ (F := F)) 𝒱₀ (c : Thread nD τ) none) Set.univ (K ⟨⟩) Q)
      -∗ wp frame (wpE (defs₀ (F := F)) 𝒱₀ (c : Thread nD τ) none) Set.univ
        (Scf.Loop.for (k0_t3_loop v8) (k0_t3_ok v8 hw) ⟨⟩ (k0_t3_body arg0 harg0 arg1 harg1 eM harg2 arg3 harg3 stM harg4
          arg5 harg5 arg6 harg6 arg7 harg7 arg8 harg8 arg9 arg10 arg11 arg12 c v2 v5 v7 v8 hw v18 v26) >>= K) Q) := by
  have hn : Scf.trips (k0_t3_loop v8).lb (k0_t3_loop v8).ub (k0_t3_loop v8).st = n := (t3_trips (by rw [hv]; exact hle)).trans hv
  iintro #HI HB HO Hk
  iapply (Scf.wp_for_bind frame (wpE (defs₀ (F := F)) 𝒱₀ (c : Thread nD τ) none) Set.univ _ _ _ (k0_t3_ok v8 hw) ⟨⟩ _
    (fun k _ => iprop(Inv x κ ∗ Flight c w src e fE n n (k * rowAmt) ∗ Owe (F := F) c T)) ?_) $$ [HB HO] [Hk]
  · intro k _
    have hk : k.val < n := lt_of_lt_of_eq k.isLt hn
    unfold Owe
    iintro ⟨#HI, HB, ⟨%W, HO⟩⟩
    unfold k0_t3_body
    simp only [Prog.lift, Prog.bind_op, Prog.bind_ret, Prog.pure_eq_ret]
    iapply (Transfers.wp_waitBatchMulO (countersEmb (U := UU)) 𝒱₀ (c : Thread nD τ) none (sem := arg9.sem) () (N := rowAmt) 1
      (hJ := (Nat.one_mul _).symm) (D := fun t : Fin n => Land c w src e fE t.val) (j := n) (u := k.val * rowAmt) ?_ (O := Ow c T) (W := W)) $$ [HB HO]
    · have h := Nat.mul_le_mul_left rowAmt (Nat.succ_le_of_lt hk)
      rw [Nat.mul_succ, Nat.mul_comm] at h
      rw [Nat.one_mul]; exact h
    · rw [hg]
      isplitl [HB]; · iexact HB
      isplitl [HO]; · iexact HO
      iapply (mayWait c (.dma gS) T (fun d _ => by
        rw [show levOf (.dma gS) = 0 from rfl]; obtain ⟨o, _⟩ := d; cases o <;> simp [dueLev]))
      iapply (inv_lev x κ); iexact HI
    iintro ⟨HB, HO⟩
    rw [wp_ret, hg]
    imodintro
    isplitr; · iexact HI
    rw [Nat.one_mul, Nat.succ_mul]
    isplitl [HB]; · iexact HB
    iexists _; iexact HO
  · isplitr; · iexact HI
    rw [Nat.zero_mul]
    isplitl [HB] <;> iassumption
  · rw [hn]
    iintro %_ ⟨-, HB, HO⟩
    rw [Nat.mul_comm n rowAmt]
    imod (Transfers.batch_collect' (countersEmb (U := UU)) (c : Thread nD τ) rowAmt_pos) $$ HB with ⟨HD, Hs⟩
    iapply Hk $$ HD Hs HO

/-! ## The buffers before and after -/

/-- What stays out of the copies in flight: the rows no copy writes, and the table's other shares. -/
def Aside (w : ℕ → BitVec 32) (fE : eM.view.ty.Contents (Elt F)) (n : ℕ) : sProp 𝕄 :=
  iprop(pcs stM fullShare (missed (fun k => dstRow (w k)) n) c (fun _ _ => zeroF) ∗ rowRest eM c fE (fun k => srcRow (w k)) n)

theorem ready_of (t : ℕ) :
    iprop(pc stM fullShare (dstRow (w t)) 1 0 1024 c (fun _ _ => zeroF) ∗ rowTok eM c fE (fun k => srcRow (w k)) t)
      ⊢ (Ready c w fE t : sProp 𝕄) := by
  unfold Ready
  iintro ⟨H1, H2⟩
  isplitl [H1]
  · iexists _; iexact H1
  · iexact H2

theorem gather_open (hP : Plan n w src) :
    iprop(pc stM fullShare 0 1024 0 1024 c (fun _ _ => zeroF) ∗ (eM.view.loc (c : Thread nD τ) ↦[eM.view.set]{fullShare} fE))
      ⊢ (iprop(Aside c w fE n ∗ bigSep Finset.univ fun t : Fin n => Ready c w fE t.val) : sProp 𝕄) := by
  rw [Ring.bigSep_fin_eq_range n _ (fun t => Ready c w fE t) (fun _ _ => rfl)]
  iintro ⟨H, HE⟩
  ihave H := (rows_split stM fullShare c (fun _ _ => zeroF) (fun k => dstRow (w k)) n hP.inj) $$ H
  icases H with ⟨Hm, Hr⟩
  ihave HE := (toks_split eM c fE (fun k => srcRow (w k)) n).1 $$ HE
  icases HE with ⟨He, Ht⟩
  unfold Aside
  isplitl [Hm He]
  · isplitl [Hm] <;> iassumption
  · iapply (show iprop((bigSep (Finset.range n) fun t => pc stM fullShare (dstRow (w t)) 1 0 1024 c (fun _ _ => zeroF))
        ∗ bigSep (Finset.range n) fun k => rowTok eM c fE (fun k => srcRow (w k)) k) ⊢ bigSep (Finset.range n) fun t => Ready c w fE t
      from BIBase.Entails.trans (Entails.of_eq (big_sep _ _ _).symm) (bigSep_mono fun t _ => ready_of c t))
    isplitl [Hr] <;> iassumption

theorem gather_close (hP : Plan n w src) :
    iprop(Aside c w fE n ∗ bigSep Finset.univ fun t : Fin n => Land c w src e fE t.val)
      ⊢ (iprop(pc stM fullShare 0 1024 0 1024 c (staged e src) ∗ (eM.view.loc (c : Thread nD τ) ↦[eM.view.set]{fullShare} fE)) : sProp 𝕄) := by
  rw [Ring.bigSep_fin_eq_range n _ (fun t => Land c w src e fE t) (fun _ _ => rfl)]
  unfold Aside
  iintro ⟨⟨Hm, He⟩, H⟩
  ihave H := (show (bigSep (Finset.range n) fun t => Land c w src e fE t) ⊢ iprop((bigSep (Finset.range n) fun t =>
      pc stM fullShare (dstRow (w t)) 1 0 1024 c (staged e src)) ∗ bigSep (Finset.range n) fun k => rowTok eM c fE (fun k => srcRow (w k)) k)
    from Entails.of_eq (big_sep _ _ _)) $$ H
  icases H with ⟨Hr, Ht⟩
  isplitl [Hm Hr]
  · iapply (rows_join stM fullShare c (staged e src) (fun k => dstRow (w k)) n hP.inj)
    isplitl [Hm]
    · iapply (pcs_congr stM fullShare c (u := fun _ _ => zeroF) (fun j hj => by
        unfold mat staged
        rw [hP.rest (j 0).val (j 0).isLt (fun k hk => by
          unfold missed at hj; exact (Finset.mem_filter.mp hj).2 k hk)])) $$ Hm
    · iexact Hr
  · iapply (toks_split eM c fE (fun k => srcRow (w k)) n).2
    isplitl [He] <;> iassumption

/-! ## The barrier -/

/-- What the device's unit to its partner along axis `k` takes with it. -/
def Unit1 (k : Fin 3) : sProp 𝕄 := iprop(dutyTok (ER (F := F)) (barCell (flip k c)) 0 k ∗ landRows (F := F) k c)

theorem signal_bar (κ : GSem nD τ sig → ℕ) (x : Dev nD → MV F) (k : Fin 3) {T T' : Finset Due} (hT : (none, k) ∈ T) (hT' : T.erase (none, k) = T')
    {d : Dev nD} (hd : d = flip k c) {sm : Sem sig} (hs : sm = barS)
    {α : Type} {K : PUnit → Prog (TpuEff nD τ sig (Elt F) Λ₀ .tc) α} {Q : α → sProp 𝕄} :
    Inv x κ ⊢ iprop(recvOpen (F := F) c -∗ Unit1 (F := F) c k -∗ Owe (F := F) c T
      -∗ (Owe (F := F) c T' -∗ wp frame (wpE (defs₀ (F := F)) 𝒱₀ (c : Thread nD τ) none) Set.univ (K ⟨⟩) Q)
      -∗ wp frame (wpE (defs₀ (F := F)) 𝒱₀ (c : Thread nD τ) none) Set.univ (.op (.semSignal (d, .tc) sm (1#32 : BitVec 32).toInt) K) Q) := by
  subst hd hs hT'
  unfold Unit1 Owe
  iintro #HI #Hopen ⟨Htok, Hland⟩ ⟨%W, HO⟩ Hk
  iapply (Rounds.wp_signal 𝒱₀ ER (Rd x) (c : Thread nD τ) none (dst := (flip k c : Thread nD τ)) (sem := barS) (r := 0) (d := k)
    (k' := 1) (κ := κ (barCell (flip k c)))
    (by rw [duties_bar]; exact Finset.mem_univ k) (amount_bar x (flip k c) 0 k) () (Ow c (T.erase (none, k))) (Ow_erase c hT) (W := W))
    $$ [HO Htok Hland]
  · isplitr; · iapply (inv_at x κ (bar_mem (flip k c))); iexact HI
    isplitl [HO]; · iexact HO
    isplitl [Htok]; · iexact Htok
    isplitl [Hland]
    · rw [payload_bar]
      unfold barPay
      rw [flip_flip]
      isplitl [Hland]; · iexact Hland
      iexact Hopen
    · iapply (inv_bar x κ (flip k c)); iexact HI
  iintro HO
  iapply Hk
  iexists _; iexact HO

/-- The landing rows the partners handed over, by column group and step. -/
def Lands : sProp 𝕄 := bigSep Finset.univ fun p : Fin 3 => iprop(landAny (F := F) p 0 c ∗ landAny (F := F) p 1 c ∗ landAny (F := F) p 2 c)

theorem land_one (p i k : Fin 3) (h : k = axis p i) :
    (iprop(∃ v : MV F, rsPt p (lo (who k p)) (ln (who k p)) (flip k c) v) : sProp 𝕄) ⊢ landAny (F := F) p i c := by
  subst h
  rw [who_axis]
  exact BI.Entails.refl _
theorem lands_of : (bigSep Finset.univ fun k : Fin 3 => landRows (F := F) k (flip k c)) ⊢ (Lands c : sProp 𝕄) := by
  unfold Lands landRows
  rw [Ring.bigSep_fin3, Ring.bigSep_fin3, Ring.bigSep_fin3, Ring.bigSep_fin3, Ring.bigSep_fin3]
  iintro ⟨⟨H00, H01, H02⟩, ⟨H10, H11, H12⟩, ⟨H20, H21, H22⟩⟩
  isplitl [H00 H10 H20]
  · isplitl [H00]; · iapply (land_one c 0 0 0 rfl) $$ H00
    isplitl [H10]; · iapply (land_one c 0 1 1 rfl) $$ H10
    iapply (land_one c 0 2 2 rfl) $$ H20
  isplitl [H01 H11 H21]
  · isplitl [H11]; · iapply (land_one c 1 0 1 rfl) $$ H11
    isplitl [H21]; · iapply (land_one c 1 1 2 rfl) $$ H21
    iapply (land_one c 1 2 0 rfl) $$ H01
  · isplitl [H22]; · iapply (land_one c 2 0 2 rfl) $$ H22
    isplitl [H02]; · iapply (land_one c 2 1 0 rfl) $$ H02
    iapply (land_one c 2 2 1 rfl) $$ H12

theorem wait_bar (κ : GSem nD τ sig → ℕ) (x : Dev nD → MV F) {T : Finset Due} (hT : ∀ d ∈ T, 1 < dueLev d)
    {sm : Sem sig} (hs : sm = barS)
    {α : Type} {K : PUnit → Prog (TpuEff nD τ sig (Elt F) Λ₀ .tc) α} {Q : α → sProp 𝕄} :
    Inv x κ ⊢ iprop(atPos (ER (F := F)) (barCell c) 0 ∅ 0 -∗ cred (tallyAt (barCell c) () 3) -∗ Owe (F := F) c T
      -∗ (Cx x κ c -∗ Lands (F := F) c -∗ atPos (ER (F := F)) (barCell c) 1 ∅ 0 -∗ Owe (F := F) c T
          -∗ wp frame (wpE (defs₀ (F := F)) 𝒱₀ (c : Thread nD τ) none) Set.univ (K ⟨⟩) Q)
      -∗ wp frame (wpE (defs₀ (F := F)) 𝒱₀ (c : Thread nD τ) none) Set.univ (.op (.semWait sm (3#32 : BitVec 32).toInt) K) Q) := by
  subst hs
  unfold Owe
  iintro #HI Hat Hcr ⟨%W, HO⟩ Hk
  iapply (Rounds.wp_wait_rest_token 𝒱₀ ER (Rd x) (c : Thread nD τ) none (κ := κ (barCell c))
      (wpE_semWait_eq 𝒱₀ (c : Thread nD τ) none Set.univ) (Set.mem_univ _) () (O := Ow c T) (W := W) (R := 0) (m := 0) (T := ∅)
      (by rw [expect_bar]; decide)) $$ [Hcr HO Hat]
  · isplitr; · iapply (inv_at x κ (bar_mem c)); iexact HI
    isplitl [Hcr]; · iexact Hcr
    isplitl [HO]; · iexact HO
    isplitr
    · iapply (mayWait c (.reg barS) T (fun d hd => hT d hd))
      iapply (inv_lev x κ); iexact HI
    iexact Hat
  iintro ⟨HO, Hat, -, Hpay⟩
  ihave Hpay := (Entails.of_eq (rest_bar x c)) $$ Hpay
  ihave Hpay := (show (bigSep Finset.univ fun k : Fin 3 => barPay (F := F) k c)
      ⊢ iprop((bigSep Finset.univ fun k : Fin 3 => landRows (F := F) k (flip k c)) ∗ bigSep Finset.univ fun k : Fin 3 => recvOpen (F := F) (flip k c))
    from Entails.of_eq (bigSep_sep _ _ _)) $$ Hpay
  icases Hpay with ⟨Hl, #Ho⟩
  iapply Hk $$ [] [Hl] Hat [HO]
  · unfold Cx
    isplitr
    · iexact HI
    · iexact Ho
  · iapply (lands_of c) $$ Hl
  · iexists _; iexact HO
end

end Cert.EmbedProof

end
-- ==== Proof.Packed.lean ====
/-
# The list of packed words

From the batch's ids each device makes a list: the places whose id names a row of its own block, each with that row, both packed in
one word.  Here the list is described by itself, shown to name every own place once, and read off the arrays the host makes it with.
-/
module

public import proofs.«01_k».proof.Proof.Gather
public import Idealize.ShloMosaic.Lib.Routing.OpsSet
public import Idealize.ShloMosaic.Lib.WordArith
public import proofs.«01_k».proof.Proof.Gen.KernelIdeal.Launch

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → MV F)

open Idealize.ShloMosaic.Routing Idealize.ShloMosaic.ValueIdx Idealize.ShloMosaic.WordArith

/-! ## The words by themselves

`lw t` is the row, within the device's block of the table, that the id at place `t` would be: the id less the block's first row. -/

section words
variable (lw : ℕ → BitVec 32)

/-- The id at place `t` names a row of the device's own block. -/
def Own (t : ℕ) : Prop := (lw t).toNat < 8192
instance : DecidablePred (Own lw) := fun t => inferInstanceAs (Decidable ((lw t).toNat < 8192))

/-- Every number below the count is the count at some own place. -/
theorem exists_own : ∀ (N k : ℕ), k < Nat.count (Own lw) N → ∃ t, t < N ∧ Own lw t ∧ Nat.count (Own lw) t = k
  | 0, k, h => by rw [Nat.count_zero] at h; omega
  | N + 1, k, h => by
    by_cases hk : k < Nat.count (Own lw) N
    · obtain ⟨t, h1, h2⟩ := exists_own N k hk
      exact ⟨t, by omega, h2⟩
    · rw [Nat.count_succ] at h
      by_cases ho : Own lw N
      · rw [if_pos ho] at h
        exact ⟨N, by omega, ho, by omega⟩
      · rw [if_neg ho] at h
        omega

/-- How many of the ids are the device's own. -/
def ownCount : ℕ := Nat.count (Own lw) 1024
open Classical in
/-- The `k`-th of the own places. -/
def place (k : ℕ) : ℕ := if h : k < ownCount lw then (exists_own lw 1024 k h).choose else 0
/-- The packed word of place `t`: the place in its low ten bits, the row above them. -/
def packW (t : ℕ) : BitVec 32 := BitVec.ofNat 32 (t + 1024 * (lw t).toNat)
/-- Where the list of packed words keeps the word of its position `k`. -/
def listW (k : ℕ) : BitVec 32 := if k < ownCount lw then packW lw (place lw k) else 0#32
/-- Which row each place of the batch takes from the device's block. -/
def srcW (i : ℕ) : Option ℕ := if i < 1024 ∧ Own lw i then some (lw i).toNat else none

theorem own_count_le : ownCount lw ≤ 1024 := Nat.count_le _

theorem count_lt {t : ℕ} (ht : t < 1024) (h : Own lw t) : Nat.count (Own lw) t < ownCount lw := by
  have h1 : Nat.count (Own lw) (t + 1) ≤ ownCount lw := Nat.count_monotone _ (by omega)
  rw [Nat.count_succ, if_pos h] at h1
  omega

/-- The `k`-th own place: below the batch's length, its own, and its count is `k`. -/
theorem nth_own {k : ℕ} (hk : k < ownCount lw) :
    place lw k < 1024 ∧ Own lw (place lw k) ∧ Nat.count (Own lw) (place lw k) = k := by
  have e : place lw k = (exists_own lw 1024 k hk).choose := dif_pos hk
  rw [e]
  exact (exists_own lw 1024 k hk).choose_spec
theorem place_count {t : ℕ} (ht : t < 1024) (h : Own lw t) : place lw (Nat.count (Own lw) t) = t := by
  obtain ⟨-, h2, h3⟩ := nth_own lw (count_lt lw ht h)
  exact Nat.count_injective h2 h h3

theorem pack_dst {t : ℕ} (ht : t < 1024) (h : Own lw t) : dstRow (packW lw t) = t := by
  unfold Own at h
  have e : dstRow (packW lw t) = (packW lw t).toNat &&& (2 ^ 10 - 1) := rfl
  rw [e, Nat.and_two_pow_sub_one_eq_mod]
  unfold packW
  rw [BitVec.toNat_ofNat]
  omega
theorem pack_src {t : ℕ} (ht : t < 1024) (h : Own lw t) : srcRow (packW lw t) = (lw t).toNat := by
  unfold Own at h
  have e : srcRow (packW lw t) = ((packW lw t).sshiftRight 10).toNat := rfl
  have en : (packW lw t).toNat = t + 1024 * (lw t).toNat := by
    unfold packW
    rw [BitVec.toNat_ofNat]
    omega
  rw [e, BitVec.sshiftRight_eq_of_msb_false (by rw [BitVec.msb_eq_decide]; simp only [decide_eq_false_iff_not]; omega),
    BitVec.toNat_ushiftRight, Nat.shiftRight_eq_div_pow, en]
  omega

theorem list_at {k : ℕ} (hk : k < ownCount lw) : listW lw k = packW lw (place lw k) := if_pos hk
theorem list_dst {k : ℕ} (hk : k < ownCount lw) : dstRow (listW lw k) = place lw k := by
  obtain ⟨h1, h2, -⟩ := nth_own lw hk
  rw [list_at lw hk, pack_dst lw h1 h2]

/-- The list names every own place once, with its row. -/
theorem list_plan : Plan (BitVec.ofNat 32 (ownCount lw)).toNat (listW lw) (srcW lw) := by
  have hle := own_count_le lw
  have en : (BitVec.ofNat 32 (ownCount lw)).toNat = ownCount lw := by rw [BitVec.toNat_ofNat]; omega
  rw [en]
  refine ⟨hle, fun k hk => ?_, fun k hk => ?_, fun k hk => ?_, fun t ht k hk => ?_, fun i hi h => ?_⟩
  · rw [list_dst lw hk]; exact (nth_own lw hk).1
  · obtain ⟨h1, h2, -⟩ := nth_own lw hk
    rw [list_at lw hk, pack_src lw h1 h2]; exact h2
  · obtain ⟨h1, h2, -⟩ := nth_own lw hk
    rw [list_dst lw hk, list_at lw hk, pack_src lw h1 h2]
    exact if_pos ⟨h1, h2⟩
  · rw [list_dst lw ht, list_dst lw (by omega)]
    intro e
    have e1 := (nth_own lw (k := k) (by omega)).2.2
    have e2 := (nth_own lw ht).2.2
    rw [e] at e1
    omega
  · refine if_neg fun ⟨_, ho⟩ => ?_
    have hc := count_lt lw hi ho
    refine h _ hc ?_
    rw [list_dst lw hc, place_count lw hi ho]

end words

/-! ## The same as the host computes it, array by array -/

section arrays
variable (l : IVec Cert.KernelIdeal.S1024 32)

/-- The constant vector of a word. -/
abbrev allW (b : BitVec 32) : IVec Cert.KernelIdeal.S1024 32 := broadcastInDim Cert.KernelIdeal.S1024 ![] bcast_S_S1024 (constantI Cert.KernelIdeal.S_ 32 b)
/-- Which places are the device's own. -/
abbrev ownV : IVec Cert.KernelIdeal.S1024 1 := andi (cmpi .sge l (allW 0#32)) (cmpi .slt l (allW 8192#32))
/-- How many there are. -/
abbrev cntV : IVec Cert.KernelIdeal.S_ 32 :=
  Host.reduce IntOp.addi (extui 32 (ownV l) natLt_1_32) (constantI Cert.KernelIdeal.S_ 32 0#32) reducesTo_S1024_S_d0 h_S_
/-- How many there are up to each place, that place included. -/
abbrev runV : IVec Cert.KernelIdeal.S1024 32 :=
  Host.reduceWindow IntOp.addi ![1024] ![1] ![1023] ![0] (extui 32 (ownV l) natLt_1_32)
    (broadcastInDim Cert.KernelIdeal.S_ ![] bcast_S_S_ (constantI Cert.KernelIdeal.S_ 32 0#32)) reduceWindows_S1024_S1024_w1024s1p1023_0 h_S_
/-- Each own place's position in the list; past its end for the others. -/
abbrev slotV : IVec Cert.KernelIdeal.S1024 32 := select (ownV l) (subi (runV l) (allW 1#32)) (allW 1024#32)
/-- The place and the row of each place, in one word. -/
abbrev packV : IVec Cert.KernelIdeal.S1024 32 :=
  ori (iotaInDim Cert.KernelIdeal.S1024 32 0) (Host.shli (minsi (allW 8191#32) (maxsi (allW 0#32) l)) (allW 10#32))
/-- An index counted from the end where it is negative. -/
abbrev wrapV (s : IVec Cert.KernelIdeal.S1024 32) : IVec Cert.KernelIdeal.S1024 32 := select (cmpi .slt s (allW 0#32)) (addi s (allW 1024#32)) s
/-- The list of packed words. -/
abbrev listV : IVec Cert.KernelIdeal.S1024 32 :=
  Host.scatter scatter_S1024_S1024x1_S1024_n_0_0_1 (fun _ b => b) (allW 0#32)
    (broadcastInDim Cert.KernelIdeal.S1024x1 ![0] bcast_S1024_S1024x1_0 (wrapV (slotV l))) (packV l)

variable (lw : ℕ → BitVec 32) (hl : ∀ i : Fin 1024, l (ix1 i) = lw i.val)

theorem all_at (b : BitVec 32) (i : Cert.KernelIdeal.S1024.Idx) : allW b i = b := rfl

theorem own_word (v : BitVec 32) : IntOp.andi (IntOp.cmpi .sge v 0#32) (IntOp.cmpi .slt v 8192#32) = 1#1 ↔ v.toNat < 8192 := by
  unfold IntOp.cmpi
  rw [andi_ofBool, ofBool_eq_one_iff, Bool.and_eq_true]
  constructor
  · exact fun h => toNat_lt_of_zero_sle_of_slt_ofNat v 8192 (by decide) h.1 h.2
  · intro h
    have e : v.toInt = v.toNat := BitVec.toInt_eq_toNat_of_lt (by omega)
    show (0#32 : BitVec 32).sle v = true ∧ v.slt 8192#32 = true
    rw [BitVec.sle_eq_decide, BitVec.slt_eq_decide, decide_eq_true_eq, decide_eq_true_eq, e]
    have e0 : (0#32 : BitVec 32).toInt = 0 := by decide
    have e1 : (8192#32 : BitVec 32).toInt = 8192 := by decide
    rw [e0, e1]
    omega

include hl

theorem own_at (i : Fin 1024) : ownV l (ix1 i) = 1#1 ↔ Own lw i.val := by
  show IntOp.andi (IntOp.cmpi .sge (l (ix1 i)) 0#32) (IntOp.cmpi .slt (l (ix1 i)) 8192#32) = 1#1 ↔ _
  rw [own_word, hl]
  rfl

theorem ext_at (i : Fin 1024) : (extui 32 (ownV l) natLt_1_32) (ix1 i) = BitVec.ofNat 32 (if Own lw i.val then 1 else 0) := by
  have h := own_at l lw hl i
  show (ownV l (ix1 i)).setWidth 32 = _
  by_cases ho : Own lw i.val
  · rw [h.2 ho, if_pos ho]; rfl
  · rw [if_neg ho, eq_zero_of_ne_one (fun e => ho (h.1 e))]; rfl

theorem cnt_at (j : Cert.KernelIdeal.S_.Idx) : cntV l j = BitVec.ofNat 32 (ownCount lw) := by
  rw [eq_ix0 j]
  refine (reduce_sum _ (fun t => if Own lw t then 1 else 0) (ext_at l lw hl) _ _).trans ?_
  rw [sum_map_ite]
  rfl

theorem run_at (i : Fin 1024) : runV l (ix1 i) = BitVec.ofNat 32 (Nat.count (Own lw) (i.val + 1)) := by
  refine (cumsum1 (N := 1024) (Nm1 := 1023) rfl _ (fun t => if Own lw t then 1 else 0) (ext_at l lw hl) _ rfl _ _ i).trans ?_
  rw [sum_map_ite]

theorem slot_at (i : Fin 1024) : slotV l (ix1 i) = BitVec.ofNat 32 (if Own lw i.val then Nat.count (Own lw) i.val else 1024) := by
  have h := own_at l lw hl i
  show Scalar.select (ownV l (ix1 i)) (runV l (ix1 i) - 1#32) 1024#32 = _
  by_cases ho : Own lw i.val
  · rw [h.2 ho, if_pos ho, run_at l lw hl, Nat.count_succ, if_pos ho]
    show BitVec.ofNat 32 (Nat.count (Own lw) i.val + 1) - 1#32 = _
    rw [BitVec.ofNat_add, BitVec.add_sub_cancel]
  · rw [if_neg ho]
    exact if_neg fun e => ho (h.1 e)

theorem wrap_at (i : Fin 1024) : wrapV (slotV l) (ix1 i) = BitVec.ofNat 32 (if Own lw i.val then Nat.count (Own lw) i.val else 1024) := by
  have hs := slot_at l lw hl i
  have hb : (if Own lw i.val then Nat.count (Own lw) i.val else 1024) < 2 ^ 31 := by
    have := Nat.count_le (p := Own lw) (n := i.val)
    split <;> omega
  show Scalar.select (IntOp.cmpi .slt (slotV l (ix1 i)) 0#32) _ (slotV l (ix1 i)) = _
  rw [hs]
  refine if_neg fun e => ?_
  have e' := (ofBool_eq_one_iff _).1 e
  rw [BitVec.slt_eq_decide, decide_eq_true_eq, toInt_ofNat_small _ hb] at e'
  have e0 : (0#32 : BitVec 32).toInt = 0 := by decide
  omega

theorem pack_at (i : Fin 1024) (ho : Own lw i.val) : packV l (ix1 i) = packW lw i.val := by
  show IntOp.ori (BitVec.ofNat 32 i.val) (IntOp.shli .host (IntOp.minsi 8191#32 (IntOp.maxsi 0#32 (l (ix1 i)))) 10#32) = _
  rw [hl]
  unfold Own at ho
  have e : (lw i.val).toInt = (lw i.val).toNat := BitVec.toInt_eq_toNat_of_lt (by omega)
  have e0 : (0#32 : BitVec 32).toInt = 0 := by decide
  have e1 : (8191#32 : BitVec 32).toInt = 8191 := by decide
  have h1 : IntOp.maxsi 0#32 (lw i.val) = lw i.val := by
    unfold IntOp.maxsi
    refine if_neg ?_
    rw [BitVec.slt_eq_decide, decide_eq_true_eq, e, e0]
    omega
  have h2 : IntOp.minsi 8191#32 (lw i.val) = lw i.val := by
    unfold IntOp.minsi
    refine if_neg ?_
    rw [BitVec.slt_eq_decide, decide_eq_true_eq, e, e1]
    omega
  rw [h1, h2]
  have hi := i.isLt
  apply BitVec.eq_of_toNat_eq
  show (BitVec.ofNat 32 i.val ||| lw i.val <<< 10).toNat = _
  unfold packW
  rw [BitVec.toNat_or, BitVec.toNat_shiftLeft, BitVec.toNat_ofNat, BitVec.toNat_ofNat, Nat.shiftLeft_eq, Nat.mod_eq_of_lt (by omega : i.val < 2 ^ 32),
    Nat.mod_eq_of_lt (by omega : (lw i.val).toNat * 2 ^ 10 < 2 ^ 32), Nat.mod_eq_of_lt (by omega : i.val + 1024 * (lw i.val).toNat < 2 ^ 32),
    Nat.or_comm, Nat.mul_comm, ← Nat.two_pow_add_eq_or_of_lt (i := 10) (by omega : i.val < 2 ^ 10)]
  omega

theorem list_word (k : Fin 1024) : listV l (ix1 k) = listW lw k.val := by
  have hgi : ∀ i : Fin 1024, (broadcastInDim Cert.KernelIdeal.S1024x1 ![0] bcast_S1024_S1024x1_0 (wrapV (slotV l))) (ix2 i (0 : Fin 1))
      = BitVec.ofNat 32 ((fun t => if Own lw t then Nat.count (Own lw) t else 1024) i.val) := fun i =>
    (bcCol bcast_S1024_S1024x1_0 _ i).trans (wrap_at l lw hl i)
  have hown : ∀ i : Fin 1024, (if Own lw i.val then Nat.count (Own lw) i.val else 1024) = k.val → Own lw i.val ∧ Nat.count (Own lw) i.val = k.val := by
    intro i h
    by_cases ho : Own lw i.val
    · rw [if_pos ho] at h; exact ⟨ho, h⟩
    · rw [if_neg ho] at h; have := k.isLt; omega
  have key := scatter_set scatter_S1024_S1024x1_S1024_n_0_0_1 rfl rfl rfl (allW 0#32) _ (packV l)
    (fun t => if Own lw t then Nat.count (Own lw) t else 1024) hgi (fun i => by
      have := Nat.count_le (p := Own lw) (n := i.val)
      have := i.isLt
      split <;> omega) k (packW lw (place lw k.val)) (fun i h => by
      obtain ⟨ho, hc⟩ := hown i h
      rw [pack_at l lw hl i ho, ← hc, place_count lw i.isLt ho])
  by_cases hk : k.val < ownCount lw
  · rw [list_at lw hk]
    obtain ⟨h1, h2, h3⟩ := nth_own lw hk
    exact key.1 ⟨⟨_, h1⟩, by rw [if_pos h2, h3]⟩
  · unfold listW
    rw [if_neg hk]
    refine key.2 fun i h => ?_
    obtain ⟨ho, hc⟩ := hown i h
    have := count_lt lw i.isLt ho
    omega

end arrays

end Cert.EmbedProof

end
-- ==== Proof.Body.lean ====
/-
# The body, part by part

Each part of the body, run from what the device holds of the three column groups and owes before it.
-/
module

public import proofs.«01_k».proof.Proof.Ops
public import proofs.«01_k».proof.Proof.Gen.KernelIdeal.Skeleton

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → MV F)

/-- Two vectors added, and a vector widened, by element. -/
theorem pay_add {s : Shape} {a b : FVec F s .bf16} (h : s.ShapeCasts s) :
    shapeCast s (addf a b) h = fun i => FloatOps.addf (a i) (b i) :=
  funext fun i => congrArg (addf a b) (Shape.reshapeEquiv_self _ i)

variable {arg0 : Memref sig .tc .smem S1024 .i32} {harg0 : arg0.IsWhole} {arg1 : Memref sig .tc .smem Cert.KernelIdeal.S1 .i32}
  {harg1 : arg1.IsWhole} {arg2 : Memref sig .tc .hbm S8192x1024 .f32} {harg2 : arg2.IsWhole}
  {arg3 : Memref sig .tc .vmem S1024x1024 .f32} {harg3 : arg3.IsWhole} {arg4 : Memref sig .tc .vmem S1024x1024 .f32}
  {harg4 : arg4.IsWhole} {hout : oM.IsWhole} {harg5 : aM.IsWhole} {harg6 : (Memref.whole cc0_scratch2).IsWhole}
  {harg7 : (Memref.whole cc0_scratch3).IsWhole} {harg8 : (Memref.whole cc0_scratch4).IsWhole} {arg9 : DmaSems sig S_}

theorem part3 (κ : GSem nD τ sig → ℕ) (c : Dev nD) {v2 v5 v6 v7 v38 c3 : BitVec 32}
    {α : Type} {K : (Σ' (v54 : BitVec 32) (v66 : BitVec 32) (v76 : BitVec 32) (v78 : BitVec 32) (v80 : BitVec 32) (v82 : BitVec 32) (v84 : BitVec 32), BitVec 32) → Prog (TpuEff nD τ sig (Elt F) Λ₀ .tc) α} {Q : α → sProp 𝕄} :
    Cx x κ c ⊢ iprop(St x 1 c 0 -∗ St x 2 c 0 -∗ Owe (F := F) c (Tl 4)
      -∗ (∀ r, St x 1 c 1 -∗ St x 2 c 1 -∗ Owe (F := F) c (Tl 6) -∗ wp frame (wpE (defs₀ (F := F)) 𝒱₀ (c : Thread nD τ) none) Set.univ (K r) Q)
      -∗ wp frame (wpE (defs₀ (F := F)) 𝒱₀ (c : Thread nD τ) none) Set.univ (k0_part3 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v5 v6 v7 v38 c3 >>= K) Q) := by
  rw [k0_part3_eq_skeleton]
  simp only [k0_part3_skel, Prog.lift, Prog.bind_op, Prog.bind_ret, Prog.pure_eq_ret]
  iintro #HC H1 H2 HO Hk
  iapply (st_ex x κ 1 c (t := 4) (t' := 5) rfl rfl (w := 384) rfl (dev5_eq c) rfl rfl ⟨_, _, _, off8_eq c, rfl⟩ ⟨_, _, _, rfl, rfl⟩ rfl) $$ HC H1 HO
  iintro H1 HO
  iapply (st_ex x κ 2 c (t := 5) (t' := 6) rfl rfl (w := 256) rfl (dev6_eq c) rfl rfl ⟨_, _, _, off9_eq c, rfl⟩ ⟨_, _, _, rfl, rfl⟩ rfl) $$ HC H2 HO
  iintro H2 HO
  iapply Hk $$ H1 H2 HO

theorem part4 (κ : GSem nD τ sig → ℕ) (c : Dev nD) {v2 v5 v42 v76 : BitVec 32}
    {α : Type} {K : BitVec 32 → Prog (TpuEff nD τ sig (Elt F) Λ₀ .tc) α} {Q : α → sProp 𝕄} :
    Cx x κ c ⊢ iprop(St x 0 c 1 -∗ Owe (F := F) c (Tl 6)
      -∗ (∀ r, St x 0 c 4 -∗ Owe (F := F) c (Tl 6) -∗ wp frame (wpE (defs₀ (F := F)) 𝒱₀ (c : Thread nD τ) none) Set.univ (K r) Q)
      -∗ wp frame (wpE (defs₀ (F := F)) 𝒱₀ (c : Thread nD τ) none) Set.univ (k0_part4 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v5 v42 v76 >>= K) Q) := by
  rw [k0_part4_eq_skeleton]
  simp only [k0_part4_skel, Prog.lift, Prog.bind_op, Prog.bind_ret, Prog.pure_eq_ret]
  iintro #HC H0 HO Hk
  iapply (st_sent0 x κ 0 c 6 rfl rfl) $$ HC H0 HO
  iintro H0 HO
  iapply (st_got0 x κ 0 c 6 (by decide) rfl rfl) $$ HC H0 HO
  iintro H0 HO
  iapply (st_ld3 x 0 c (w := 384) rfl (off10_eq c)) $$ H0
  iintro H0
  iapply (st_add3 x 0 c (w := 384) rfl (Memref.whole cc0_scratch2) (fun _ _ _ => rfl)
    (pay := fun t => k0_pay4 (wnd (x c) (sQrt 0 c) (col 0)) t) (fun t => pay_add _) rfl (off10_eq c) (off11_eq c) (off10_eq c)) $$ H0
  iintro H0
  iapply Hk $$ H0 HO

theorem part5 (κ : GSem nD τ sig → ℕ) (c : Dev nD) {v6 v54 v76 v78 v82 : BitVec 32}
    {α : Type} {K : (Σ' (v143 : BitVec 32), BitVec 32) → Prog (TpuEff nD τ sig (Elt F) Λ₀ .tc) α} {Q : α → sProp 𝕄} :
    Cx x κ c ⊢ iprop(St x 0 c 4 -∗ St x 1 c 1 -∗ Owe (F := F) c (Tl 6)
      -∗ (∀ r, St x 0 c 6 -∗ St x 1 c 3 -∗ Owe (F := F) c (Tl 7) -∗ wp frame (wpE (defs₀ (F := F)) 𝒱₀ (c : Thread nD τ) none) Set.univ (K r) Q)
      -∗ wp frame (wpE (defs₀ (F := F)) 𝒱₀ (c : Thread nD τ) none) Set.univ (k0_part5 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v6 v54 v76 v78 v82 >>= K) Q) := by
  rw [k0_part5_eq_skeleton]
  simp only [k0_part5_skel, Prog.lift, Prog.bind_op, Prog.bind_ret, Prog.pure_eq_ret]
  iintro #HC H0 H1 HO Hk
  iapply (st_ex1 x κ 0 c (t := 6) (t' := 7) rfl rfl (w := 384) rfl (dev7_eq c) rfl rfl ⟨_, _, _, off12_eq c, rfl⟩ ⟨_, _, _, rfl, rfl⟩ rfl) $$ HC H0 HO
  iintro H0 HO
  iapply (st_ld5 x 0 c (w := 384) rfl (off13_eq c)) $$ H0
  iintro H0
  iapply (st_add5 x 0 c (w := 384) rfl (Memref.whole cc0_scratch2) (fun _ _ _ => rfl)
    (pay := fun t => k0_pay5 (wnd (x c) (kQrt 0 c) (col 0)) t) (fun t => pay_add _) rfl (off13_eq c) (off14_eq c) (off13_eq c)) $$ H0
  iintro H0
  iapply (st_sent0 x κ 1 c 7 rfl rfl) $$ HC H1 HO
  iintro H1 HO
  iapply (st_got0 x κ 1 c 7 (by decide) rfl rfl) $$ HC H1 HO
  iintro H1 HO
  iapply Hk $$ H0 H1 HO

theorem part6 (κ : GSem nD τ sig → ℕ) (c : Dev nD) {v2 v78 v84 v143 v145 : BitVec 32}
    {α : Type} {K : BitVec 32 → Prog (TpuEff nD τ sig (Elt F) Λ₀ .tc) α} {Q : α → sProp 𝕄} :
    Cx x κ c ⊢ iprop(St x 1 c 3 -∗ St x 2 c 1 -∗ Owe (F := F) c (Tl 7)
      -∗ (∀ r, St x 1 c 6 -∗ St x 2 c 2 -∗ Owe (F := F) c (Tl 8) -∗ wp frame (wpE (defs₀ (F := F)) 𝒱₀ (c : Thread nD τ) none) Set.univ (K r) Q)
      -∗ wp frame (wpE (defs₀ (F := F)) 𝒱₀ (c : Thread nD τ) none) Set.univ (k0_part6 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v78 v84 v143 v145 >>= K) Q) := by
  rw [k0_part6_eq_skeleton]
  simp only [k0_part6_skel, Prog.lift, Prog.bind_op, Prog.bind_ret, Prog.pure_eq_ret]
  iintro #HC H1 H2 HO Hk
  iapply (st_ld3 x 1 c (w := 384) rfl (off15_eq c)) $$ H1
  iintro H1
  iapply (st_add3 x 1 c (w := 384) rfl (Memref.whole cc0_scratch3) (fun _ _ _ => rfl)
    (pay := fun t => k0_pay6 (wnd (x c) (sQrt 1 c) (col 1)) t) (fun t => pay_add _) rfl (off15_eq c) (off16_eq c) (off15_eq c)) $$ H1
  iintro H1
  iapply (st_ex1 x κ 1 c (t := 7) (t' := 8) rfl rfl (w := 384) rfl (dev8_eq c) rfl rfl ⟨_, _, _, off17_eq c, rfl⟩ ⟨_, _, _, rfl, rfl⟩ rfl) $$ HC H1 HO
  iintro H1 HO
  iapply (st_ld5 x 1 c (w := 384) rfl (off18_eq c)) $$ H1
  iintro H1
  iapply (st_add5 x 1 c (w := 384) rfl (Memref.whole cc0_scratch3) (fun _ _ _ => rfl)
    (pay := fun t => k0_pay7 (wnd (x c) (kQrt 1 c) (col 1)) t) (fun t => pay_add _) rfl (off18_eq c) (off19_eq c) (off18_eq c)) $$ H1
  iintro H1
  iapply (st_sent0 x κ 2 c 8 rfl rfl) $$ HC H2 HO
  iintro H2 HO
  iapply Hk $$ H1 H2 HO

theorem part7 (κ : GSem nD τ sig → ℕ) (c : Dev nD) {v2 v7 v66 v80 v86 : BitVec 32}
    {α : Type} {K : (Σ' (v199 : BitVec 32), Vec F S256x256 .bf16) → Prog (TpuEff nD τ sig (Elt F) Λ₀ .tc) α} {Q : α → sProp 𝕄} :
    Cx x κ c ⊢ iprop(St x 2 c 2 -∗ Owe (F := F) c (Tl 8)
      -∗ (∀ r, ⌜r.2 = wnd (x c) (kQrt 2 c) (col 2)⌝ -∗ St x 2 c 5 -∗ Owe (F := F) c (Tl 9) -∗ wp frame (wpE (defs₀ (F := F)) 𝒱₀ (c : Thread nD τ) none) Set.univ (K r) Q)
      -∗ wp frame (wpE (defs₀ (F := F)) 𝒱₀ (c : Thread nD τ) none) Set.univ (k0_part7 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v7 v66 v80 v86 >>= K) Q) := by
  rw [k0_part7_eq_skeleton]
  simp only [k0_part7_skel, Prog.lift, Prog.bind_op, Prog.bind_ret, Prog.pure_eq_ret]
  iintro #HC H2 HO Hk
  iapply (st_got0 x κ 2 c 8 (by decide) rfl rfl) $$ HC H2 HO
  iintro H2 HO
  iapply (st_ld3 x 2 c (w := 256) rfl (off20_eq c)) $$ H2
  iintro H2
  iapply (st_add3 x 2 c (w := 256) rfl (Memref.whole cc0_scratch4) (fun _ _ _ => rfl)
    (pay := fun t => k0_pay8 (wnd (x c) (sQrt 2 c) (col 2)) t) (fun t => pay_add _) rfl (off20_eq c) (off21_eq c) (off20_eq c)) $$ H2
  iintro H2
  iapply (st_ex1 x κ 2 c (t := 8) (t' := 9) rfl rfl (w := 256) rfl (dev9_eq c) rfl rfl ⟨_, _, _, off22_eq c, rfl⟩ ⟨_, _, _, rfl, rfl⟩ rfl) $$ HC H2 HO
  iintro H2 HO
  iapply (st_ld5 x 2 c (w := 256) rfl (off23_eq c)) $$ H2
  iintro H2
  iapply Hk $$ %_ %rfl H2 HO

theorem part8 (κ : GSem nD τ sig → ℕ) (c : Dev nD) {v2 v82 v86 v111 : BitVec 32} {v211 : Vec F S256x256 .bf16} (hv : v211 = wnd (x c) (kQrt 2 c) (col 2))
    {α : Type} {K : BitVec 32 → Prog (TpuEff nD τ sig (Elt F) Λ₀ .tc) α} {Q : α → sProp 𝕄} :
    Cx x κ c ⊢ iprop(St x 0 c 6 -∗ St x 2 c 5 -∗ Owe (F := F) c (Tl 9)
      -∗ (∀ r, St x 0 c 9 -∗ St x 2 c 6 -∗ Owe (F := F) c (Tl 9) -∗ wp frame (wpE (defs₀ (F := F)) 𝒱₀ (c : Thread nD τ) none) Set.univ (K r) Q)
      -∗ wp frame (wpE (defs₀ (F := F)) 𝒱₀ (c : Thread nD τ) none) Set.univ (k0_part8 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v82 v86 v111 v211 >>= K) Q) := by
  rw [k0_part8_eq_skeleton]
  simp only [k0_part8_skel, Prog.lift, Prog.bind_op, Prog.bind_ret, Prog.pure_eq_ret]
  iintro #HC H0 H2 HO Hk
  iapply (st_add5 x 2 c (w := 256) rfl (Memref.whole cc0_scratch4) (fun _ _ _ => rfl)
    (pay := fun t => k0_pay9 v211 t) (fun t => pay_add _) hv (off23_eq c) (off24_eq c) (off23_eq c)) $$ H2
  iintro H2
  iapply (st_sent1 x κ 0 c 9 rfl rfl) $$ HC H0 HO
  iintro H0 HO
  iapply (st_got1 x κ 0 c 9 (by decide) rfl rfl) $$ HC H0 HO
  iintro H0 HO
  iapply (st_ld8 x 0 c (w := 384) rfl (off13_eq c)) $$ H0
  iintro H0
  iapply (st_add8 x 0 c (w := 384) rfl (Memref.whole cc0_scratch2) (fun _ _ _ => rfl)
    (pay := fun t => k0_pay10 (wnd (S1 x 0 c) (kQrt 0 c) (col 0)) t) (fun t => pay_add _) rfl (off13_eq c) rfl (off13_eq c)) $$ H0
  iintro H0
  iapply Hk $$ H0 H2 HO

theorem part9 (κ : GSem nD τ sig → ℕ) (c : Dev nD) {v2 v84 v155 : BitVec 32}
    {α : Type} {K : BitVec 32 → Prog (TpuEff nD τ sig (Elt F) Λ₀ .tc) α} {Q : α → sProp 𝕄} :
    Cx x κ c ⊢ iprop(St x 0 c 9 -∗ St x 1 c 6 -∗ Owe (F := F) c (Tl 9)
      -∗ (∀ r, St x 0 c 10 -∗ St x 1 c 9 -∗ Owe (F := F) c (Tl 10) -∗ wp frame (wpE (defs₀ (F := F)) 𝒱₀ (c : Thread nD τ) none) Set.univ (K r) Q)
      -∗ wp frame (wpE (defs₀ (F := F)) 𝒱₀ (c : Thread nD τ) none) Set.univ (k0_part9 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v84 v155 >>= K) Q) := by
  rw [k0_part9_eq_skeleton]
  simp only [k0_part9_skel, Prog.lift, Prog.bind_op, Prog.bind_ret, Prog.pure_eq_ret]
  iintro #HC H0 H1 HO Hk
  iapply (st_exm x κ 0 c (t := 9) (t' := 10) rfl rfl (w := 384) rfl (dev10_eq c) rfl rfl ⟨_, _, _, off25_eq c, rfl⟩ ⟨_, _, _, rfl, rfl⟩ rfl) $$ HC H0 HO
  iintro H0 HO
  iapply (st_sent1 x κ 1 c 10 rfl rfl) $$ HC H1 HO
  iintro H1 HO
  iapply (st_got1 x κ 1 c 10 (by decide) rfl rfl) $$ HC H1 HO
  iintro H1 HO
  iapply (st_ld8 x 1 c (w := 384) rfl (off18_eq c)) $$ H1
  iintro H1
  iapply (st_add8 x 1 c (w := 384) rfl (Memref.whole cc0_scratch3) (fun _ _ _ => rfl)
    (pay := fun t => k0_pay11 (wnd (S1 x 1 c) (kQrt 1 c) (col 1)) t) (fun t => pay_add _) rfl (off18_eq c) rfl (off18_eq c)) $$ H1
  iintro H1
  iapply Hk $$ H0 H1 HO

theorem part10 (κ : GSem nD τ sig → ℕ) (c : Dev nD) {v2 v86 v199 : BitVec 32}
    {α : Type} {K : BitVec 32 → Prog (TpuEff nD τ sig (Elt F) Λ₀ .tc) α} {Q : α → sProp 𝕄} :
    Cx x κ c ⊢ iprop(St x 1 c 9 -∗ St x 2 c 6 -∗ Owe (F := F) c (Tl 10)
      -∗ (∀ r, St x 1 c 10 -∗ St x 2 c 9 -∗ Owe (F := F) c (Tl 11) -∗ wp frame (wpE (defs₀ (F := F)) 𝒱₀ (c : Thread nD τ) none) Set.univ (K r) Q)
      -∗ wp frame (wpE (defs₀ (F := F)) 𝒱₀ (c : Thread nD τ) none) Set.univ (k0_part10 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v86 v199 >>= K) Q) := by
  rw [k0_part10_eq_skeleton]
  simp only [k0_part10_skel, Prog.lift, Prog.bind_op, Prog.bind_ret, Prog.pure_eq_ret]
  iintro #HC H1 H2 HO Hk
  iapply (st_exm x κ 1 c (t := 10) (t' := 11) rfl rfl (w := 384) rfl (dev11_eq c) rfl rfl ⟨_, _, _, off26_eq c, rfl⟩ ⟨_, _, _, rfl, rfl⟩ rfl) $$ HC H1 HO
  iintro H1 HO
  iapply (st_sent1 x κ 2 c 11 rfl rfl) $$ HC H2 HO
  iintro H2 HO
  iapply (st_got1 x κ 2 c 11 (by decide) rfl rfl) $$ HC H2 HO
  iintro H2 HO
  iapply (st_ld8 x 2 c (w := 256) rfl (off23_eq c)) $$ H2
  iintro H2
  iapply (st_add8 x 2 c (w := 256) rfl (Memref.whole cc0_scratch4) (fun _ _ _ => rfl)
    (pay := fun t => k0_pay12 (wnd (S1 x 2 c) (kQrt 2 c) (col 2)) t) (fun t => pay_add _) rfl (off23_eq c) rfl (off23_eq c)) $$ H2
  iintro H2
  iapply Hk $$ H1 H2 HO

theorem part11 (κ : GSem nD τ sig → ℕ) (c : Dev nD) {v2 v82 v237 : BitVec 32}
    {α : Type} {K : BitVec 32 → Prog (TpuEff nD τ sig (Elt F) Λ₀ .tc) α} {Q : α → sProp 𝕄} :
    Cx x κ c ⊢ iprop(St x 0 c 10 -∗ St x 2 c 9 -∗ Owe (F := F) c (Tl 11)
      -∗ (∀ r, St x 0 c 13 -∗ St x 2 c 10 -∗ Owe (F := F) c (Tl 12) -∗ wp frame (wpE (defs₀ (F := F)) 𝒱₀ (c : Thread nD τ) none) Set.univ (K r) Q)
      -∗ wp frame (wpE (defs₀ (F := F)) 𝒱₀ (c : Thread nD τ) none) Set.univ (k0_part11 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v82 v237 >>= K) Q) := by
  rw [k0_part11_eq_skeleton]
  simp only [k0_part11_skel, Prog.lift, Prog.bind_op, Prog.bind_ret, Prog.pure_eq_ret]
  iintro #HC H0 H2 HO Hk
  iapply (st_exm x κ 2 c (t := 11) (t' := 12) rfl rfl (w := 256) rfl (dev12_eq c) rfl rfl ⟨_, _, _, off27_eq c, rfl⟩ ⟨_, _, _, rfl, rfl⟩ rfl) $$ HC H2 HO
  iintro H2 HO
  iapply (st_sent2 x κ 0 c 12 rfl rfl) $$ HC H0 HO
  iintro H0 HO
  iapply (st_got2 x κ 0 c 12 (by decide) rfl rfl) $$ HC H0 HO
  iintro H0 HO
  iapply (st_ld12 x 0 c (w := 384) rfl (off13_eq c)) $$ H0
  iintro H0
  iapply (st_add12 x 0 c (w := 384) rfl (Memref.whole cc0_scratch2) (fun _ _ _ => rfl)
    (pay := fun t => k0_pay13 (wnd (S2 x 0 c) (kQrt 0 c) (col 0)) t) (fun t => pay_add _) rfl (off13_eq c) rfl (off13_eq c)) $$ H0
  iintro H0
  iapply Hk $$ H0 H2 HO

theorem part12 (κ : GSem nD τ sig → ℕ) (c : Dev nD) {v2 v84 v264 : BitVec 32}
    {α : Type} {K : BitVec 32 → Prog (TpuEff nD τ sig (Elt F) Λ₀ .tc) α} {Q : α → sProp 𝕄} :
    Cx x κ c ⊢ iprop(St x 0 c 13 -∗ St x 1 c 10 -∗ Owe (F := F) c (Tl 12)
      -∗ (∀ r, St x 0 c 14 -∗ St x 1 c 13 -∗ Owe (F := F) c (Tl 13) -∗ wp frame (wpE (defs₀ (F := F)) 𝒱₀ (c : Thread nD τ) none) Set.univ (K r) Q)
      -∗ wp frame (wpE (defs₀ (F := F)) 𝒱₀ (c : Thread nD τ) none) Set.univ (k0_part12 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v84 v264 >>= K) Q) := by
  rw [k0_part12_eq_skeleton]
  simp only [k0_part12_skel, Prog.lift, Prog.bind_op, Prog.bind_ret, Prog.pure_eq_ret]
  iintro #HC H0 H1 HO Hk
  iapply (st_exa1 x κ 0 c (t := 12) (t' := 13) rfl rfl (w := 384) rfl (dev13_eq c) rfl rfl ⟨_, _, _, off25_eq c, rfl⟩ ⟨_, _, _, off25_eq c, rfl⟩ rfl) $$ HC H0 HO
  iintro H0 HO
  iapply (st_sent2 x κ 1 c 13 rfl rfl) $$ HC H1 HO
  iintro H1 HO
  iapply (st_got2 x κ 1 c 13 (by decide) rfl rfl) $$ HC H1 HO
  iintro H1 HO
  iapply (st_ld12 x 1 c (w := 384) rfl (off18_eq c)) $$ H1
  iintro H1
  iapply (st_add12 x 1 c (w := 384) rfl (Memref.whole cc0_scratch3) (fun _ _ _ => rfl)
    (pay := fun t => k0_pay14 (wnd (S2 x 1 c) (kQrt 1 c) (col 1)) t) (fun t => pay_add _) rfl (off18_eq c) rfl (off18_eq c)) $$ H1
  iintro H1
  iapply Hk $$ H0 H1 HO

theorem part13 (κ : GSem nD τ sig → ℕ) (c : Dev nD) {v2 v86 v291 : BitVec 32}
    {α : Type} {K : BitVec 32 → Prog (TpuEff nD τ sig (Elt F) Λ₀ .tc) α} {Q : α → sProp 𝕄} :
    Cx x κ c ⊢ iprop(St x 1 c 13 -∗ St x 2 c 10 -∗ Owe (F := F) c (Tl 13)
      -∗ (∀ r, St x 1 c 14 -∗ St x 2 c 14 -∗ Owe (F := F) c (Tl 15) -∗ wp frame (wpE (defs₀ (F := F)) 𝒱₀ (c : Thread nD τ) none) Set.univ (K r) Q)
      -∗ wp frame (wpE (defs₀ (F := F)) 𝒱₀ (c : Thread nD τ) none) Set.univ (k0_part13 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v86 v291 >>= K) Q) := by
  rw [k0_part13_eq_skeleton]
  simp only [k0_part13_skel, Prog.lift, Prog.bind_op, Prog.bind_ret, Prog.pure_eq_ret]
  iintro #HC H1 H2 HO Hk
  iapply (st_exa1 x κ 1 c (t := 13) (t' := 14) rfl rfl (w := 384) rfl (dev14_eq c) rfl rfl ⟨_, _, _, off26_eq c, rfl⟩ ⟨_, _, _, off26_eq c, rfl⟩ rfl) $$ HC H1 HO
  iintro H1 HO
  iapply (st_sent2 x κ 2 c 14 rfl rfl) $$ HC H2 HO
  iintro H2 HO
  iapply (st_got2 x κ 2 c 14 (by decide) rfl rfl) $$ HC H2 HO
  iintro H2 HO
  iapply (st_ld12 x 2 c (w := 256) rfl (off23_eq c)) $$ H2
  iintro H2
  iapply (st_add12 x 2 c (w := 256) rfl (Memref.whole cc0_scratch4) (fun _ _ _ => rfl)
    (pay := fun t => k0_pay15 (wnd (S2 x 2 c) (kQrt 2 c) (col 2)) t) (fun t => pay_add _) rfl (off23_eq c) rfl (off23_eq c)) $$ H2
  iintro H2
  iapply (st_exa1 x κ 2 c (t := 14) (t' := 15) rfl rfl (w := 256) rfl (dev15_eq c) rfl rfl ⟨_, _, _, off27_eq c, rfl⟩ ⟨_, _, _, off27_eq c, rfl⟩ rfl) $$ HC H2 HO
  iintro H2 HO
  iapply Hk $$ H1 H2 HO

theorem part14 (κ : GSem nD τ sig → ℕ) (c : Dev nD) {v2 v318 v345 : BitVec 32}
    {α : Type} {K : (Σ' (v391 : BitVec 32) (v404 : BitVec 32), BitVec 32) → Prog (TpuEff nD τ sig (Elt F) Λ₀ .tc) α} {Q : α → sProp 𝕄} :
    Cx x κ c ⊢ iprop(St x 0 c 14 -∗ St x 1 c 14 -∗ Owe (F := F) c (Tl 15)
      -∗ (∀ r, St x 0 c 17 -∗ St x 1 c 15 -∗ Owe (F := F) c (Tl 16) -∗ wp frame (wpE (defs₀ (F := F)) 𝒱₀ (c : Thread nD τ) none) Set.univ (K r) Q)
      -∗ wp frame (wpE (defs₀ (F := F)) 𝒱₀ (c : Thread nD τ) none) Set.univ (k0_part14 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v318 v345 >>= K) Q) := by
  rw [k0_part14_eq_skeleton]
  simp only [k0_part14_skel, Prog.lift, Prog.bind_op, Prog.bind_ret, Prog.pure_eq_ret]
  iintro #HC H0 H1 HO Hk
  iapply (st_sent3 x κ 0 c 15 rfl rfl) $$ HC H0 HO
  iintro H0 HO
  iapply (st_got3 x κ 0 c 15 (by decide) rfl rfl) $$ HC H0 HO
  iintro H0 HO
  iapply (st_exa0 x κ 0 c (t := 15) (t' := 16) rfl rfl (w := 384) rfl (dev16_eq c) rfl rfl ⟨_, _, _, off28_eq c, rfl⟩ ⟨_, _, _, off28_eq c, rfl⟩ rfl) $$ HC H0 HO
  iintro H0 HO
  iapply (st_sent3 x κ 1 c 16 rfl rfl) $$ HC H1 HO
  iintro H1 HO
  iapply Hk $$ H0 H1 HO

theorem part15 (κ : GSem nD τ sig → ℕ) (c : Dev nD) {v2 v372 v404 c0 : BitVec 32}
    {α : Type} {K : (Σ' (v410 : BitVec 32), BitVec 32) → Prog (TpuEff nD τ sig (Elt F) Λ₀ .tc) α} {Q : α → sProp 𝕄} :
    Cx x κ c ⊢ iprop(St x 1 c 15 -∗ St x 2 c 14 -∗ Owe (F := F) c (Tl 16)
      -∗ (∀ r, St x 1 c 17 -∗ St x 2 c 16 -∗ Owe (F := F) c (Tl 17) -∗ wp frame (wpE (defs₀ (F := F)) 𝒱₀ (c : Thread nD τ) none) Set.univ (K r) Q)
      -∗ wp frame (wpE (defs₀ (F := F)) 𝒱₀ (c : Thread nD τ) none) Set.univ (k0_part15 arg0 harg0 arg1 harg1 arg2 harg2 arg3 harg3 arg4 harg4 aM harg5 (Memref.whole cc0_scratch2) harg6
            (Memref.whole cc0_scratch3) harg7 (Memref.whole cc0_scratch4) harg8 arg9 cc0_scratch6 cc0_scratch7 cc0_scratch8 c v2 v372 v404 c0 >>= K) Q) := by
  rw [k0_part15_eq_skeleton]
  simp only [k0_part15_skel, Prog.lift, Prog.bind_op, Prog.bind_ret, Prog.pure_eq_ret]
  iintro #HC H1 H2 HO Hk
  iapply (st_got3 x κ 1 c 16 (by decide) rfl rfl) $$ HC H1 HO
  iintro H1 HO
  iapply (st_exa0 x κ 1 c (t := 16) (t' := 17) rfl rfl (w := 384) rfl (dev17_eq c) rfl rfl ⟨_, _, _, off29_eq c, rfl⟩ ⟨_, _, _, off29_eq c, rfl⟩ rfl) $$ HC H1 HO
  iintro H1 HO
  iapply (st_sent3 x κ 2 c 17 rfl rfl) $$ HC H2 HO
  iintro H2 HO
  iapply (st_got3 x κ 2 c 17 (by decide) rfl rfl) $$ HC H2 HO
  iintro H2 HO
  iapply Hk $$ H1 H2 HO

theorem part16 (κ : GSem nD τ sig → ℕ) (c : Dev nD) {v7 v76 v78 v80 v391 : BitVec 32}
    {α : Type} {K : BitVec 32 → Prog (TpuEff nD τ sig (Elt F) Λ₀ .tc) α} {Q : α → sProp 𝕄} :
    Cx x κ c ⊢ iprop(St x 0 c 17 -∗ St x 1 c 17 -∗ St x 2 c 16 -∗ Owe (F := F) c (Tl 17)
      -∗ (∀ r, St x 0 c 20 -∗ St x 1 c 18 -∗ St x 2 c 18 -∗ Owe (F := F) c (Tl 18) -∗ wp frame (wpE (defs₀ (F := F)) 𝒱₀ (c : Thread nD τ) none) Set.univ (K r) Q)
      -∗ wp frame (wpE (defs₀ (F := F)) 𝒱₀ (c : Thread nD τ) none) Set.univ (k0_part16 arg0 harg0 arg1 harg1 arg2 harg2 oM hout arg4 harg4 aM harg5 (Memref.whole cc0_scratch2) harg6
            (Memref.whole cc0_scratch3) harg7 (Memref.whole cc0_scratch4) harg8 arg9 cc0_scratch6 cc0_scratch7 cc0_scratch8 c v7 v76 v78 v80 v391 >>= K) Q) := by
  rw [k0_part16_eq_skeleton]
  simp only [k0_part16_skel, Prog.lift, Prog.bind_op, Prog.bind_ret, Prog.pure_eq_ret]
  iintro #HC H0 H1 H2 HO Hk
  iapply (st_exa0 x κ 2 c (t := 17) (t' := 18) rfl rfl (w := 256) rfl (dev18_eq c) rfl rfl ⟨_, _, _, off30_eq c, rfl⟩ ⟨_, _, _, off30_eq c, rfl⟩ rfl) $$ HC H2 HO
  iintro H2 HO
  iapply (st_ld17 x 0 c (w := 384) rfl (off31_eq c)) $$ H0
  iintro H0
  iapply (st_out17 x 0 c (w := 384) rfl (W := k0_pay16 (wnd (G2 x 0 c) (kHalf 0 c) (col 0))) rfl rfl (off31_eq c) (off31_eq c)) $$ H0
  iintro H0
  iapply (st_ld17 x 1 c (w := 384) rfl (off32_eq c)) $$ H1
  iintro H1
  iapply (st_out17 x 1 c (w := 384) rfl (W := k0_pay17 (wnd (G2 x 1 c) (kHalf 1 c) (col 1))) rfl rfl (off32_eq c) (off32_eq c)) $$ H1
  iintro H1
  iapply (st_ld17 x 2 c (w := 256) rfl (off33_eq c)) $$ H2
  iintro H2
  iapply (st_out17 x 2 c (w := 256) rfl (W := k0_pay18 (wnd (G2 x 2 c) (kHalf 2 c) (col 2))) rfl rfl (off33_eq c) (off33_eq c)) $$ H2
  iintro H2
  iapply (st_sent4 x κ 0 c 18 rfl rfl) $$ HC H0 HO
  iintro H0 HO
  iapply (st_got4 x κ 0 c 18 (by decide) rfl rfl) $$ HC H0 HO
  iintro H0 HO
  iapply Hk $$ H0 H1 H2 HO

theorem part17 (κ : GSem nD τ sig → ℕ) (c : Dev nD) {v5 v38 v410 v463 : BitVec 32}
    {α : Type} {K : PUnit → Prog (TpuEff nD τ sig (Elt F) Λ₀ .tc) α} {Q : α → sProp 𝕄} :
    Cx x κ c ⊢ iprop(St x 0 c 20 -∗ St x 1 c 18 -∗ St x 2 c 18 -∗ Owe (F := F) c (Tl 18)
      -∗ (∀ r, St x 0 c 21 -∗ St x 1 c 21 -∗ St x 2 c 19 -∗ Owe (F := F) c (Tl 18) -∗ wp frame (wpE (defs₀ (F := F)) 𝒱₀ (c : Thread nD τ) none) Set.univ (K r) Q)
      -∗ wp frame (wpE (defs₀ (F := F)) 𝒱₀ (c : Thread nD τ) none) Set.univ (k0_part17 arg0 harg0 arg1 harg1 arg2 harg2 oM hout arg4 harg4 aM harg5 (Memref.whole cc0_scratch2) harg6
            (Memref.whole cc0_scratch3) harg7 (Memref.whole cc0_scratch4) harg8 arg9 cc0_scratch6 cc0_scratch7 cc0_scratch8 c v5 v38 v410 v463 >>= K) Q) := by
  rw [k0_part17_eq_skeleton]
  simp only [k0_part17_skel, Prog.lift, Prog.bind_op, Prog.bind_ret, Prog.pure_eq_ret]
  iintro #HC H0 H1 H2 HO Hk
  iapply (st_ld20 x 0 c (w := 384) rfl (off34_eq c)) $$ H0
  iintro H0
  iapply (st_out20 x 0 c (w := 384) rfl (W := k0_pay19 (wnd (G2 x 0 (par 0 0 c)) (sHalf 0 c) (col 0))) rfl rfl (off34_eq c) (off34_eq c)) $$ H0
  iintro H0
  iapply (st_sent4 x κ 1 c 18 rfl rfl) $$ HC H1 HO
  iintro H1 HO
  iapply (st_got4 x κ 1 c 18 (by decide) rfl rfl) $$ HC H1 HO
  iintro H1 HO
  iapply (st_ld20 x 1 c (w := 384) rfl (off35_eq c)) $$ H1
  iintro H1
  iapply (st_out20 x 1 c (w := 384) rfl (W := k0_pay20 (wnd (G2 x 1 (par 1 0 c)) (sHalf 1 c) (col 1))) rfl rfl (off35_eq c) (off35_eq c)) $$ H1
  iintro H1
  iapply (st_sent4 x κ 2 c 18 rfl rfl) $$ HC H2 HO
  iintro H2 HO
  iapply Hk $$ H0 H1 H2 HO

end Cert.EmbedProof

end
-- ==== Proof.Front.lean ====
/-
# The kernel's first two parts, and the kernel

The gather's copies and the barrier, up to the first exchange; then all the parts in order.
-/
module

public import proofs.«01_k».proof.Proof.Ops
public import proofs.«01_k».proof.Proof.Gather
public import proofs.«01_k».proof.Proof.Body
public import proofs.«01_k».proof.Proof.Gen.KernelIdeal.Skeleton

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → MV F)

variable {arg0 : Memref sig .tc .smem S1024 .i32} {harg0 : arg0.IsWhole} {arg1 : Memref sig .tc .smem Cert.KernelIdeal.S1 .i32}
  {harg1 : arg1.IsWhole} {harg2 : eM.IsWhole} {hout : oM.IsWhole} {harg4 : stM.IsWhole} {harg5 : aM.IsWhole}
  {harg6 : (Memref.whole cc0_scratch2).IsWhole} {harg7 : (Memref.whole cc0_scratch3).IsWhole}
  {harg8 : (Memref.whole cc0_scratch4).IsWhole}

variable {n : ℕ} {w : ℕ → BitVec 32} {src : ℕ → Option ℕ} {e : ℕ → ℕ → F .f32} {fE : eM.view.ty.Contents (Elt F)}

theorem part1 (κ : GSem nD τ sig → ℕ) (c : Dev nD) (hP : Plan n w src) (hE : eM.view.read (Elt F) fE = mat e) {v8 : BitVec 32} (hv : v8.toNat = n)
    {q0 q1 : PosShare TreeShare} {f0 : arg0.view.ty.Contents (Elt F)} (hf0 : ∀ j, arg0.view.read (Elt F) f0 j = w (j 0).val)
    {f1 : arg1.view.ty.Contents (Elt F)} (hf1 : ∀ j, arg1.view.read (Elt F) f1 j = v8)
    {α : Type} {K : (Σ' (d0 : Dev nD) (v2 : BitVec 32) (v5 : BitVec 32) (v6 : BitVec 32) (v7 : BitVec 32) (v8 : Elt F .i32) (k0_hw1 : k0_chk1 v8) (v18 : Sems sig S_), BitVec 32) → Prog (TpuEff nD τ sig (Elt F) Λ₀ .tc) α} {Q : α → sProp 𝕄} :
    Inv x κ ⊢ iprop(recvOpen (F := F) c -∗ (arg0.view.loc (c : Thread nD τ) ↦[arg0.view.set]{q0} f0)
      -∗ (arg1.view.loc (c : Thread nD τ) ↦[arg1.view.set]{q1} f1)
      -∗ (∃ u, pc stM fullShare 0 1024 0 1024 c u) -∗ (eM.view.loc (c : Thread nD τ) ↦[eM.view.set]{fullShare} fE)
      -∗ semVal (gCell c) 0 -∗ Unit1 (F := F) c 0 -∗ Unit1 (F := F) c 1 -∗ Owe (F := F) c (Tl 0)
      -∗ (∀ v2 v5 v6 v7 hw v26, (arg0.view.loc (c : Thread nD τ) ↦[arg0.view.set]{q0} f0)
        -∗ (arg1.view.loc (c : Thread nD τ) ↦[arg1.view.set]{q1} f1) -∗ Aside c w fE n -∗ Flight c w src e fE n n 0 -∗ Owe (F := F) c (Tl 2)
        -∗ wp frame (wpE (defs₀ (F := F)) 𝒱₀ (c : Thread nD τ) none) Set.univ (K ⟨c, v2, v5, v6, v7, v8, hw, SemArray.scalar (sig.barrier 0 rfl), v26⟩) Q)
      -∗ wp frame (wpE (defs₀ (F := F)) 𝒱₀ (c : Thread nD τ) none) Set.univ (k0_part1 arg0 harg0 arg1 harg1 eM harg2 oM hout stM harg4 aM harg5 (Memref.whole cc0_scratch2) harg6
            (Memref.whole cc0_scratch3) harg7 (Memref.whole cc0_scratch4) harg8 cc0_scratch5 cc0_scratch6 cc0_scratch7 cc0_scratch8 >>= K) Q) := by
  have h8 : v8.toNat ≤ 1024 := by rw [hv]; exact hP.le
  rw [k0_part1_eq_skeleton]
  simp only [k0_part1_skel, smemLoad, smemLoadElt, semSignalWord, Prog.lift, Prog.bind_op, Prog.bind_ret, Prog.pure_eq_ret, Prog.bind_assoc, wp_deviceId]
  iintro #HI #Hopen H0 H1 ⟨%u, Hs⟩ HE Hg HU0 HU1 HO Hk
  iapply (wp_load_rect 𝒱₀ (c : Thread nD τ) none Set.univ (m := arg1)
      (r := Rect.unit (s := Cert.KernelIdeal.S1) ![0] Cert.KernelIdeal.S1.size inb_S1_S1_0) (S := arg1.view.set)
      (by rw [View.set_slice]; exact Finset.map_subset_map.mpr (Finset.subset_univ _))) $$ H1
  iintro H1
  rw [show (arg1.access (Rect.unit (s := Cert.KernelIdeal.S1) ![0] Cert.KernelIdeal.S1.size inb_S1_S1_0)).read (Elt F) f1
    (Shape.Idx.first (numel1_S1.symm ▸ Nat.one_pos)) = v8 from hf1 _]
  iapply (Entails.of_eq (wp_assume_of 𝒱₀ (c : Thread nD τ) none Set.univ (chk1 h8)).symm)
  iapply (load_pc stM fullShare c u rfl) $$ Hs
  iintro Hs
  iapply (store_pc stM c u (fun _ _ => zeroF) rfl (W := k0_pay2) rfl) $$ Hs
  iintro Hs
  ihave H := (gather_open c (fE := fE) hP) $$ [Hs HE]
  · isplitl [Hs] <;> iassumption
  icases H with ⟨Ha, Hr⟩
  imod (Transfers.batch_alloc' (countersEmb (U := UU)) (c : Thread nD τ) () rowAmt (fun t : Fin n => Land c w src e fE t.val) (sm := .dma gS) (E := Set.univ)) $$ Hg with HB
  iapply (issue_loop c hP hE hv (chk1 h8) hf0 rfl) $$ H0 HB Hr
  iintro H0 HB
  rw [show (k0_t2_loop v8).for (k0_t2_ok v8 (chk1 h8)) PUnit.unit (k0_t2_body arg0 harg0 arg1 harg1 eM harg2 oM hout stM harg4 aM harg5
    (Memref.whole cc0_scratch2) harg6 (Memref.whole cc0_scratch3) harg7 (Memref.whole cc0_scratch4) harg8 cc0_scratch5 cc0_scratch6 cc0_scratch7
    cc0_scratch8 v8 (chk1 h8)) = Prog.ret (PUnit.unit : Unit) from Scf.for_rem_eq _ _ _ _ _]
  rw [Prog.bind_ret]
  iapply (signal_bar c κ x 0 (T := Tl 0) (T' := Tl 1) (Tl_mem (none, 0)) (Tl_erase (none, 0)) (dev1_eq c) rfl) $$ HI Hopen HU0 HO
  iintro HO
  iapply (signal_bar c κ x 1 (T := Tl 1) (T' := Tl 2) (Tl_mem (none, 1)) (Tl_erase (none, 1)) (dev2_eq c) rfl) $$ HI Hopen HU1 HO
  iintro HO
  iapply Hk $$ H0 H1 Ha HB HO

theorem lands_unroll (c : Dev nD) : Lands (F := F) c ⊢ iprop((landAny (F := F) 0 0 c ∗ landAny (F := F) 0 1 c ∗ landAny (F := F) 0 2 c)
    ∗ (landAny (F := F) 1 0 c ∗ landAny (F := F) 1 1 c ∗ landAny (F := F) 1 2 c)
    ∗ (landAny (F := F) 2 0 c ∗ landAny (F := F) 2 1 c ∗ landAny (F := F) 2 2 c)) := by
  unfold Lands
  exact Entails.of_eq (Ring.bigSep_fin3 _)

theorem first_state (p : Fin 3) (c : Dev nD) :
    iprop(Cs0 (F := F) p c 0 ∗ pc aM fullShare (sHalf p c) 512 (col p) (wid p) c (x c) ∗ pc aM fullShare (kHalf p c) 512 (col p) (wid p) c (x c)
      ∗ landAny (F := F) p 0 c ∗ landAny (F := F) p 1 c ∗ landAny (F := F) p 2 c ∗ outs (F := F) p c) ⊢ St x p c 0 := BI.Entails.refl _

/-- The accumulator, column group by column group, at each group's first state. -/
theorem start_groups (c : Dev nD) :
    iprop(pc aM fullShare 0 1024 0 1024 c (x c) ∗ Lands (F := F) c ∗ (Cs0 (F := F) 0 c 0 ∗ outs (F := F) 0 c)
      ∗ (Cs0 (F := F) 1 c 0 ∗ outs (F := F) 1 c) ∗ (Cs0 (F := F) 2 c 0 ∗ outs (F := F) 2 c))
    ⊢ iprop(St x 0 c 0 ∗ St x 1 c 0 ∗ St x 2 c 0) := by
  iintro ⟨H, HL, ⟨C0, O0⟩, ⟨C1, O1⟩, ⟨C2, O2⟩⟩
  ihave HL := (lands_unroll (F := F) c) $$ HL
  icases HL with ⟨⟨A0, A1, A2⟩, ⟨B0, B1, B2⟩, ⟨D0, D1, D2⟩⟩
  ihave H := (groups_split aM fullShare 0 1024 c (x c)) $$ H
  icases H with ⟨H0, H1, H2⟩
  ihave H0 := (cut_half aM fullShare (col 0) (wid 0) 0 c c (x c)) $$ H0
  icases H0 with ⟨E0, F0⟩
  ihave H1 := (cut_half aM fullShare (col 1) (wid 1) 1 c c (x c)) $$ H1
  icases H1 with ⟨E1, F1⟩
  ihave H2 := (cut_half aM fullShare (col 2) (wid 2) 2 c c (x c)) $$ H2
  icases H2 with ⟨E2, F2⟩
  isplitl [C0 O0 E0 F0 A0 A1 A2]
  · iapply (first_state x 0 c)
    isplitl [C0]
    · iassumption
    isplitl [E0]
    · iassumption
    isplitl [F0]
    · iassumption
    isplitl [A0]
    · iassumption
    isplitl [A1]
    · iassumption
    isplitl [A2] <;> iassumption
  isplitl [C1 O1 E1 F1 B0 B1 B2]
  · iapply (first_state x 1 c)
    isplitl [C1]
    · iassumption
    isplitl [E1]
    · iassumption
    isplitl [F1]
    · iassumption
    isplitl [B0]
    · iassumption
    isplitl [B1]
    · iassumption
    isplitl [B2] <;> iassumption
  · iapply (first_state x 2 c)
    isplitl [C2]
    · iassumption
    isplitl [E2]
    · iassumption
    isplitl [F2]
    · iassumption
    isplitl [D0]
    · iassumption
    isplitl [D1]
    · iassumption
    isplitl [D2] <;> iassumption

theorem part2 (κ : GSem nD τ sig → ℕ) (c : Dev nD) (hP : Plan n w src) {v8 : BitVec 32} (hv : v8.toNat = n) {hw : k0_chk1 v8}
    (hx : x c = fun i j => FloatOps.truncf .bf16 bitsLt_bf16_f32 (staged e src i j)) {v2 v5 v7 v26 : BitVec 32}
    {α : Type} {K : (Σ' (v38 : BitVec 32) (v42 : BitVec 32), BitVec 32) → Prog (TpuEff nD τ sig (Elt F) Λ₀ .tc) α} {Q : α → sProp 𝕄} :
    Inv x κ ⊢ iprop(recvOpen (F := F) c -∗ Unit1 (F := F) c 2 -∗ Owe (F := F) c (Tl 2)
      -∗ atPos (ER (F := F)) (barCell c) 0 ∅ 0 -∗ cred (tallyAt (barCell c) () 3)
      -∗ Aside c w fE n -∗ Flight c w src e fE n n 0
      -∗ (∃ u, pc aM fullShare 0 1024 0 1024 c u)
      -∗ (Cs0 0 c 0 ∗ outs 0 c) -∗ (Cs0 1 c 0 ∗ outs 1 c) -∗ (Cs0 2 c 0 ∗ outs 2 c)
      -∗ (∀ r, Cx x κ c -∗ St x 0 c 1 -∗ St x 1 c 0 -∗ St x 2 c 0 -∗ pc stM fullShare 0 1024 0 1024 c (staged e src)
        -∗ (eM.view.loc (c : Thread nD τ) ↦[eM.view.set]{fullShare} fE) -∗ semVal (gCell c) 0 -∗ atPos (ER (F := F)) (barCell c) 1 ∅ 0
        -∗ Owe (F := F) c (Tl 4)
        -∗ wp frame (wpE (defs₀ (F := F)) 𝒱₀ (c : Thread nD τ) none) Set.univ (K r) Q)
      -∗ wp frame (wpE (defs₀ (F := F)) 𝒱₀ (c : Thread nD τ) none) Set.univ (k0_part2 arg0 harg0 arg1 harg1 eM harg2 oM hout stM harg4 aM harg5 (Memref.whole cc0_scratch2) harg6
            (Memref.whole cc0_scratch3) harg7 (Memref.whole cc0_scratch4) harg8 cc0_scratch5 cc0_scratch6 cc0_scratch7 cc0_scratch8
            c v2 v5 v7 v8 hw (SemArray.scalar (sig.barrier 0 rfl)) v26 >>= K) Q) := by
  rw [k0_part2_eq_skeleton]
  simp only [k0_part2_skel, semSignalWord, semWaitWord, Prog.lift, Prog.bind_op, Prog.bind_ret, Prog.pure_eq_ret, Prog.bind_assoc]
  iintro #HI #Hopen HU HO Hat Hcr Ha HB ⟨%u, Hacc⟩ ⟨C0, O0⟩ ⟨C1, O1⟩ ⟨C2, O2⟩ Hk
  iapply (signal_bar c κ x 2 (T := Tl 2) (T' := Tl 3) (Tl_mem (none, 2)) (Tl_erase (none, 2)) (dev3_eq c) rfl) $$ HI Hopen HU HO
  iintro HO
  iapply (wait_bar c κ x (T := Tl 3) (by decide) rfl) $$ HI Hat Hcr HO
  iintro #HC HL Hat HO
  iapply (drain_loop c κ x hP.le hv hw (Tl 3) rfl) $$ HI HB HO
  iintro HB Hg HO
  rw [show (k0_t4_loop v8).for (k0_t4_ok v8 hw) PUnit.unit (k0_t4_body arg0 harg0 arg1 harg1 eM harg2 oM hout stM harg4 aM harg5
    (Memref.whole cc0_scratch2) harg6 (Memref.whole cc0_scratch3) harg7 (Memref.whole cc0_scratch4) harg8 cc0_scratch5 cc0_scratch6 cc0_scratch7
    cc0_scratch8 c v2 v5 v7 v8 hw (SemArray.scalar (sig.barrier 0 rfl)) v26) = Prog.ret (PUnit.unit : Unit) from Scf.for_rem_eq _ _ _ _ _]
  rw [Prog.bind_ret]
  ihave H := (gather_close c (e := e) (src := src) (fE := fE) hP) $$ [Ha HB]
  · isplitl [Ha] <;> iassumption
  icases H with ⟨Hs, HE⟩
  iapply (load_pc stM fullShare c (staged e src) rfl) $$ Hs
  iintro Hs
  iapply (load_pc aM fullShare c u rfl) $$ Hacc
  iintro Hacc
  iapply (store_pc aM c u (x c) rfl (W := k0_pay3 (wnd (staged e src) 0 0)) (by
    rw [hx]; funext j
    exact congrArg (truncf .bf16 (wnd (staged e src) 0 0) bitsLt_bf16_f32) (Shape.reshapeEquiv_self _ j))) $$ Hacc
  iintro Hacc
  ihave H := (start_groups x c) $$ [Hacc HL C0 O0 C1 O1 C2 O2]
  · isplitl [Hacc]
    · iassumption
    isplitl [HL]
    · iassumption
    isplitl [C0 O0]
    · isplitl [C0] <;> iassumption
    isplitl [C1 O1]
    · isplitl [C1] <;> iassumption
    · isplitl [C2] <;> iassumption
  icases H with ⟨H0, H1, H2⟩
  iapply (st_ex x κ 0 c (t := 3) (t' := 4) rfl rfl (w := 384) rfl (dev4_eq c) rfl rfl ⟨_, _, _, off7_eq c, rfl⟩ ⟨_, _, _, rfl, rfl⟩ rfl) $$ HC H0 HO
  iintro H0 HO
  iapply Hk $$ %_ HC H0 H1 H2 Hs HE Hg Hat HO

/-- The kernel: from the rows its copies bring to the three column groups' last state. -/
theorem body_spec (κ : GSem nD τ sig → ℕ) (c : Dev nD) (hP : Plan n w src) (hE : eM.view.read (Elt F) fE = mat e) {v8 : BitVec 32} (hv : v8.toNat = n)
    {q0 q1 : PosShare TreeShare} {f0 : arg0.view.ty.Contents (Elt F)} (hf0 : ∀ j, arg0.view.read (Elt F) f0 j = w (j 0).val)
    {f1 : arg1.view.ty.Contents (Elt F)} (hf1 : ∀ j, arg1.view.read (Elt F) f1 j = v8)
    (hx : x c = fun i j => FloatOps.truncf .bf16 bitsLt_bf16_f32 (staged e src i j)) {Q : PUnit → sProp 𝕄} :
    Inv x κ ⊢ iprop(recvOpen (F := F) c -∗ (arg0.view.loc (c : Thread nD τ) ↦[arg0.view.set]{q0} f0)
      -∗ (arg1.view.loc (c : Thread nD τ) ↦[arg1.view.set]{q1} f1)
      -∗ (∃ u, pc stM fullShare 0 1024 0 1024 c u) -∗ (∃ u, pc aM fullShare 0 1024 0 1024 c u)
      -∗ (eM.view.loc (c : Thread nD τ) ↦[eM.view.set]{fullShare} fE)
      -∗ semVal (gCell c) 0 -∗ Unit1 (F := F) c 0 -∗ Unit1 (F := F) c 1 -∗ Unit1 (F := F) c 2
      -∗ atPos (ER (F := F)) (barCell c) 0 ∅ 0 -∗ cred (tallyAt (barCell c) () 3)
      -∗ (Cs0 0 c 0 ∗ outs 0 c) -∗ (Cs0 1 c 0 ∗ outs 1 c) -∗ (Cs0 2 c 0 ∗ outs 2 c) -∗ Owe (F := F) c (Tl 0)
      -∗ ((arg0.view.loc (c : Thread nD τ) ↦[arg0.view.set]{q0} f0) -∗ (arg1.view.loc (c : Thread nD τ) ↦[arg1.view.set]{q1} f1)
        -∗ pc stM fullShare 0 1024 0 1024 c (staged e src) -∗ (eM.view.loc (c : Thread nD τ) ↦[eM.view.set]{fullShare} fE)
        -∗ semVal (gCell c) 0 -∗ atPos (ER (F := F)) (barCell c) 1 ∅ 0
        -∗ St x 0 c 21 -∗ St x 1 c 21 -∗ St x 2 c 21 -∗ Owe (F := F) c (Tl 18) -∗ Q ⟨⟩)
      -∗ wp frame (wpE (defs₀ (F := F)) 𝒱₀ (c : Thread nD τ) none) Set.univ (cc0_body arg0 harg0 arg1 harg1 eM harg2 oM hout stM harg4 aM harg5
            (Memref.whole cc0_scratch2) harg6 (Memref.whole cc0_scratch3) harg7 (Memref.whole cc0_scratch4) harg8 cc0_scratch5 cc0_scratch6
            cc0_scratch7 cc0_scratch8) Q) := by
  rw [cc0_body_eq_skeleton]
  unfold cc0_body_skel
  iintro #HI #Hopen P0 P1 Hs Hacc HE Hg U0 U1 U2 Hat Hcr C0 C1 C2 HO Hk
  iapply (part1 x κ c hP hE hv hf0 hf1) $$ HI Hopen P0 P1 Hs HE Hg U0 U1 HO
  iintro %v2 %v5 %v6 %v7 %hw %v26 P0 P1 Ha HB HO
  dsimp only
  iapply (part2 x κ c hP hv hx) $$ HI Hopen U2 HO Hat Hcr Ha HB Hacc C0 C1 C2
  iintro %r2 #HC H0 H1 H2 Hs HE Hg Hat HO
  dsimp only
  iapply (part3 x κ c) $$ HC H1 H2 HO
  iintro %r3 H1 H2 HO
  dsimp only
  iapply (part4 x κ c) $$ HC H0 HO
  iintro %r4 H0 HO
  dsimp only
  iapply (part5 x κ c) $$ HC H0 H1 HO
  iintro %r5 H0 H1 HO
  dsimp only
  iapply (part6 x κ c) $$ HC H1 H2 HO
  iintro %r6 H1 H2 HO
  dsimp only
  iapply (part7 x κ c) $$ HC H2 HO
  iintro %r7 %h211 H2 HO
  dsimp only
  iapply (part8 x κ c h211) $$ HC H0 H2 HO
  iintro %r8 H0 H2 HO
  dsimp only
  iapply (part9 x κ c) $$ HC H0 H1 HO
  iintro %r9 H0 H1 HO
  dsimp only
  iapply (part10 x κ c) $$ HC H1 H2 HO
  iintro %r10 H1 H2 HO
  dsimp only
  iapply (part11 x κ c) $$ HC H0 H2 HO
  iintro %r11 H0 H2 HO
  dsimp only
  iapply (part12 x κ c) $$ HC H0 H1 HO
  iintro %r12 H0 H1 HO
  dsimp only
  iapply (part13 x κ c) $$ HC H1 H2 HO
  iintro %r13 H1 H2 HO
  dsimp only
  iapply (part14 x κ c) $$ HC H0 H1 HO
  iintro %r14 H0 H1 HO
  dsimp only
  iapply (part15 x κ c) $$ HC H1 H2 HO
  iintro %r15 H1 H2 HO
  dsimp only
  iapply (part16 x κ c) $$ HC H0 H1 H2 HO
  iintro %r16 H0 H1 H2 HO
  dsimp only
  iapply (part17 x κ c) $$ HC H0 H1 H2 HO
  iintro %r17 H0 H1 H2 HO
  dsimp only
  simp only [Prog.lift, Prog.bind_op, Prog.bind_ret, Prog.pure_eq_ret]
  iapply (st_got4 x κ 2 c 18 (by decide) rfl rfl) $$ HC H2 HO
  iintro H2 HO
  iapply (st_ld20 x 2 c (w := 256) rfl (off36_eq c)) $$ H2
  iintro H2
  iapply (st_out20 x 2 c (w := 256) rfl (W := k0_pay1 (wnd (G2 x 2 (par 2 0 c)) (sHalf 2 c) (col 2))) rfl rfl (off36_eq c) (off36_eq c)) $$ H2
  iintro H2
  rw [wp_ret]
  imodintro
  iapply Hk $$ P0 P1 Hs HE Hg Hat H0 H1 H2 HO

end Cert.EmbedProof

end
-- ==== Proof.Ends.lean ====
/-
# Whole buffers and the pieces the kernel works on

A buffer cut into a column group's halves before the kernel, and put together again after it.
-/
module

public import proofs.«01_k».proof.Proof.Ops
public import proofs.«01_k».proof.Proof.Front
public import proofs.«01_k».proof.Proof.Gather
public import proofs.«01_k».proof.Proof.Body
public import proofs.«01_k».proof.Proof.Gen.KernelIdeal.Skeleton

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → MV F)

/-- A whole buffer at some contents. -/
abbrev someOf {sp : Space} {s : Shape} {e : EltTy} (m : Memref sig .tc sp s e) (c : Dev nD) : sProp 𝕄 :=
  iprop(∃ f : m.view.ty.Contents (Elt F), m.view.loc (c : Thread nD τ) ↦[m.view.set]{fullShare} f)

/-- The column group of a column. -/
def grp (j : ℕ) : Fin 3 := if j < 384 then 0 else if j < 768 then 1 else 2
theorem grp_of (p : Fin 3) {j : ℕ} (h : col p ≤ j) (h' : j < col p + wid p) : grp j = p := by
  unfold grp
  revert h h'
  fin_cases p
  · show 0 ≤ j → j < 0 + 384 → _
    intro _ h; rw [if_pos (by omega)]; rfl
  · show 384 ≤ j → j < 384 + 384 → _
    intro h h'; rw [if_neg (by omega), if_pos (by omega)]; rfl
  · show 768 ≤ j → j < 768 + 256 → _
    intro h h'; rw [if_neg (by omega), if_neg (by omega)]; rfl
/-- The sums of all rows, by column group; and the result. -/
def total (c : Dev nD) : MV F := fun i j => G1 x (grp j) c i j
def result (c : Dev nD) : ℕ → ℕ → F .f32 := wide (total x c)

theorem out_group (p : Fin 3) (c : Dev nD) (v : ℕ → ℕ → F .f32) :
    pc oM fullShare 0 1024 (col p) (wid p) c v ⊢ outs (F := F) p c := by
  unfold outs outAny
  iintro H
  ihave H := (cut_half oM fullShare (col p) (wid p) p c c v) $$ H
  icases H with ⟨H1, H2⟩
  isplitl [H2]
  · iexists v; iexact H2
  · iexists v; iexact H1
theorem out_open (c : Dev nD) : someOf (F := F) oM c ⊢ iprop(outs (F := F) 0 c ∗ outs (F := F) 1 c ∗ outs (F := F) 2 c) := by
  iintro ⟨%f, H⟩
  ihave H := (pc_any oM fullShare c (by decide) (by decide) f) $$ H
  icases H with ⟨%v, H⟩
  ihave H := (groups_split oM fullShare 0 1024 c v) $$ H
  icases H with ⟨H0, H1, H2⟩
  isplitl [H0]
  · iapply (out_group 0 c v) $$ H0
  isplitl [H1]
  · iapply (out_group 1 c v) $$ H1
  · iapply (out_group 2 c v) $$ H2
theorem out_close (c : Dev nD) :
    iprop((outPt (kHalf 0 c) 0 c (G2 x 0 c) ∗ outPt (sHalf 0 c) 0 c (G2 x 0 (par 0 0 c)))
      ∗ (outPt (kHalf 1 c) 1 c (G2 x 1 c) ∗ outPt (sHalf 1 c) 1 c (G2 x 1 (par 1 0 c)))
      ∗ (outPt (kHalf 2 c) 2 c (G2 x 2 c) ∗ outPt (sHalf 2 c) 2 c (G2 x 2 (par 2 0 c))))
    ⊢ pc (e := .f32) oM fullShare 0 1024 0 1024 c (result x c) := by
  have one (p : Fin 3) : iprop(outPt (kHalf p c) p c (G2 x p c) ∗ outPt (sHalf p c) p c (G2 x p (par p 0 c)))
      ⊢ pc (e := .f32) oM fullShare 0 1024 (col p) (wid p) c (result x c) := by
    refine BIBase.Entails.trans (BIClass.sep_mono
      (pc_congr (m := oM) (u' := result x c) fun i j h1 h2 h3 h4 => ?_) (pc_congr (m := oM) (u' := result x c) fun i j h1 h2 h3 h4 => ?_)) ?_
    · unfold result wide total
      rw [grp_of p h3 h4]
      exact congrArg (FloatOps.extf .f32 bitsLt_bf16_f32) (if_pos ⟨h1, h2⟩).symm
    · unfold result wide total
      rw [grp_of p h3 h4]
      refine congrArg (FloatOps.extf .f32 bitsLt_bf16_f32) (if_neg ?_).symm
      rcases half_cases p c with ⟨e1, e2⟩ | ⟨e1, e2⟩ <;> omega
    · iintro ⟨H1, H2⟩
      iapply (glue_half oM fullShare (col p) (wid p) p c c (result x c))
      isplitl [H2] <;> iassumption
  exact BIBase.Entails.trans (BIClass.sep_mono (one 0) (BIClass.sep_mono (one 1) (one 2))) (groups_join oM fullShare 0 1024 c (result x c))

theorem acc_open (c : Dev nD) : someOf (F := F) aM c ⊢ iprop(∃ u, pc aM fullShare 0 1024 0 1024 c u) := by
  iintro ⟨%f, H⟩
  iapply (pc_any aM fullShare c (by decide) (by decide) f) $$ H
theorem stage_open (c : Dev nD) : someOf (F := F) stM c ⊢ iprop(∃ u, pc stM fullShare 0 1024 0 1024 c u) := by
  iintro ⟨%f, H⟩
  iapply (pc_any stM fullShare c (by decide) (by decide) f) $$ H
theorem stage_close (c : Dev nD) (u : ℕ → ℕ → Elt F .f32) : pc stM fullShare 0 1024 0 1024 c u ⊢ someOf (F := F) stM c := by
  iintro H
  ihave H := (whole_of_pc stM fullShare c u) $$ H
  icases H with ⟨%f, -, H⟩
  iexists f
  iexact H
theorem acc_close (c : Dev nD) :
    iprop((accPt fullShare (kHalf 0 c) 512 0 c (G2 x 0 c) ∗ accPt fullShare (sHalf 0 c) 512 0 c (G2 x 0 (par 0 0 c)))
      ∗ (accPt fullShare (kHalf 1 c) 512 1 c (G2 x 1 c) ∗ accPt fullShare (sHalf 1 c) 512 1 c (G2 x 1 (par 1 0 c)))
      ∗ (accPt fullShare (kHalf 2 c) 512 2 c (G2 x 2 c) ∗ accPt fullShare (sHalf 2 c) 512 2 c (G2 x 2 (par 2 0 c))))
    ⊢ someOf (F := F) aM c := by
  have one (p : Fin 3) : iprop(accPt fullShare (kHalf p c) 512 p c (G2 x p c) ∗ accPt fullShare (sHalf p c) 512 p c (G2 x p (par p 0 c)))
      ⊢ pc (e := .bf16) aM fullShare 0 1024 (col p) (wid p) c (total x c) := by
    refine BIBase.Entails.trans (BIClass.sep_mono
      (pc_congr (m := aM) (u' := total x c) fun i j h1 h2 h3 h4 => ?_) (pc_congr (m := aM) (u' := total x c) fun i j h1 h2 h3 h4 => ?_)) ?_
    · unfold total
      rw [grp_of p h3 h4]
      exact (if_pos ⟨h1, h2⟩).symm
    · unfold total
      rw [grp_of p h3 h4]
      refine (if_neg ?_).symm
      rcases half_cases p c with ⟨e1, e2⟩ | ⟨e1, e2⟩ <;> omega
    · iintro ⟨H1, H2⟩
      iapply (glue_half aM fullShare (col p) (wid p) p c c (total x c))
      isplitl [H2] <;> iassumption
  refine BIBase.Entails.trans (BIBase.Entails.trans (BIClass.sep_mono (one 0) (BIClass.sep_mono (one 1) (one 2)))
    (groups_join aM fullShare 0 1024 c (total x c))) ?_
  iintro H
  ihave H := (whole_of_pc aM fullShare c (total x c)) $$ H
  icases H with ⟨%f, -, H⟩
  iexists f
  iexact H

/-! ## The receive buffers -/

/-- The rows of a step's landing. -/
def landed (p i : Fin 3) (d : Dev nD) : sProp 𝕄 := iprop(∃ v : MV F, rsPt p (lo i) (ln i) d v)

theorem wid_pos (p : Fin 3) : 0 < wid p := by revert p; decide
theorem rs_open (p : Fin 3) (c : Dev nD) :
    someOf (F := F) (rsM p) c ⊢ iprop(landed (F := F) p 0 c ∗ landed (F := F) p 1 c ∗ landed (F := F) p 2 c) := by
  unfold landed
  iintro ⟨%f, H⟩
  ihave H := (pc_any (rsM p) fullShare c (by decide) (wid_pos p) f) $$ H
  icases H with ⟨%v, H⟩
  ihave H := (pc_split (rsM p) fullShare 0 512 512 0 (wid p) c v) $$ H
  icases H with ⟨H0, H⟩
  ihave H := (pc_split (rsM p) fullShare 512 256 256 0 (wid p) c v) $$ H
  icases H with ⟨H1, H2⟩
  isplitl [H0]
  · iexists v; iexact H0
  isplitl [H1]
  · iexists v; iexact H1
  · iexists v; iexact H2

/-- Rows of the buffer at whatever values, from rows at two values. -/
theorem rs_two (p : Fin 3) (c : Dev nD) (r n n' : ℕ) (v v' : MV F) :
    iprop(rsPt p r n c v ∗ rsPt p (r + n) n' c v') ⊢ iprop(∃ u : MV F, rsPt p r (n + n') c u) := by
  refine BIBase.Entails.trans (BIClass.sep_mono
    (pc_congr (m := rsM p) (u' := fun i j => if i < r + n then v i j else v' i j) fun i j h1 h2 h3 h4 => (if_pos h2).symm)
    (pc_congr (m := rsM p) (u' := fun i j => if i < r + n then v i j else v' i j) fun i j h1 h2 h3 h4 => (if_neg (by omega)).symm)) ?_
  iintro H
  iexists (fun i j => if i < r + n then v i j else v' i j)
  iapply (pc_join (rsM p) fullShare r n n' 0 (wid p) c _) $$ H
theorem rs_close (p : Fin 3) (c : Dev nD) : iprop(got0 x p c ∗ got1 x p c ∗ got2 x p c) ⊢ someOf (F := F) (rsM p) c := by
  unfold got0
  iintro ⟨H0, H1, H2⟩
  ihave H0 := (glue_qrt (rsM p) fullShare 0 (wid p) (kHalf p c) p c c (R0 x p c) (Nat.le_refl _)) $$ H0
  rw [Nat.sub_self]
  ihave H1 := (rs_two p c 512 256 256 (R1 x p c) (R2 x p c)) $$ [H1 H2]
  · isplitl [H1] <;> iassumption
  icases H1 with ⟨%u, H1⟩
  ihave H := (rs_two p c 0 512 512 (R0 x p c) u) $$ [H0 H1]
  · isplitl [H0] <;> iassumption
  icases H with ⟨%u', H⟩
  ihave H := (whole_of_pc (rsM p) fullShare c u') $$ H
  icases H with ⟨%f, -, H⟩
  iexists f
  iexact H

theorem land_one_axis (k : Fin 3) (c : Dev nD) :
    iprop(landed (F := F) 0 (who k 0) c ∗ landed (F := F) 1 (who k 1) c ∗ landed (F := F) 2 (who k 2) c) ⊢ landRows (F := F) k c := by
  unfold landRows
  exact Entails.of_eq (Ring.bigSep_fin3 fun p : Fin 3 => landed (F := F) p (who k p) c).symm
theorem land_rows (c : Dev nD) :
    iprop(someOf (F := F) (rsM 0) c ∗ someOf (F := F) (rsM 1) c ∗ someOf (F := F) (rsM 2) c)
    ⊢ iprop(landRows (F := F) 0 c ∗ landRows (F := F) 1 c ∗ landRows (F := F) 2 c) := by
  iintro ⟨H0, H1, H2⟩
  ihave H0 := (rs_open 0 c) $$ H0
  icases H0 with ⟨A0, A1, A2⟩
  ihave H1 := (rs_open 1 c) $$ H1
  icases H1 with ⟨B0, B1, B2⟩
  ihave H2 := (rs_open 2 c) $$ H2
  icases H2 with ⟨C0, C1, C2⟩
  isplitl [A0 B2 C1]
  · iapply (land_one_axis 0 c)
    isplitl [A0]
    · iexact A0
    isplitl [B2]
    · iexact B2
    · iexact C1
  isplitl [A1 B0 C2]
  · iapply (land_one_axis 1 c)
    isplitl [A1]
    · iexact A1
    isplitl [B0]
    · iexact B0
    · iexact C2
  · iapply (land_one_axis 2 c)
    isplitl [A2]
    · iexact A2
    isplitl [B1]
    · iexact B1
    · iexact C0

end Cert.EmbedProof

end
-- ==== Proof.Cells.lean ====
/-
# The cells from launch to end

Opening the semaphores of the copies when the kernel starts, closing them when it ends, and what the launch deals out.
-/
module

public import proofs.«01_k».proof.Proof.Ends
public import Idealize.ShloMosaic.Lib.SparseCore.Cells

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → MV F)

/-! ## Families of updates -/

/-- An update for each member of a family, from facts that stay. -/
theorem all_update {I : Type} [DecidableEq I] {R : sProp 𝕄} [BI.Persistent R] {s : Finset I} {Φ Ψ : I → sProp 𝕄}
    (h : ∀ i ∈ s, iprop(R ∗ Φ i) ⊢ (|={Set.univ}=> Ψ i : sProp 𝕄)) :
    iprop(R ∗ bigSep s Φ) ⊢ (|={Set.univ}=> bigSep s Ψ : sProp 𝕄) := by
  induction s using Finset.induction_on with
  | empty =>
    rw [bigSep_empty, bigSep_empty]
    iintro ⟨-, H⟩
    imodintro
    iexact H
  | insert a s ha ih =>
    rw [SparseCore.bigSep_insert' ha, SparseCore.bigSep_insert' ha]
    have h1 := h a (Finset.mem_insert_self a s)
    have h2 := ih fun i hi => h i (Finset.mem_insert_of_mem hi)
    iintro ⟨#HR, Ha, Hs⟩
    imod h1 $$ [Ha] with Ha
    · isplitr
      · iexact HR
      · iexact Ha
    imod h2 $$ [Hs] with Hs
    · isplitr
      · iexact HR
      · iexact Hs
    imodintro
    isplitl [Ha] <;> iassumption

theorem zip_fam {I : Type} {s : Finset I} {Φ Ψ : I → sProp 𝕄} : iprop(bigSep s Φ ∗ bigSep s Ψ) ⊢ bigSep s fun i => iprop(Φ i ∗ Ψ i) :=
  Entails.of_eq (bigSep_sep' s Φ Ψ).symm
theorem unzip_fam {I : Type} {s : Finset I} {Φ Ψ : I → sProp 𝕄} : (bigSep s fun i => iprop(Φ i ∗ Ψ i)) ⊢ iprop(bigSep s Φ ∗ bigSep s Ψ) :=
  Entails.of_eq (bigSep_sep' s Φ Ψ)
theorem dma_ne_reg {q : DmaSem sig} {r : Sem sig} (h : (SemLoc.dma q : SemLoc sig) = .reg r) : False := by cases h

/-! ## The eighteen cells of the copies between devices -/

def cellIx : Fin 3 ⊕ (Fin 5 × Fin 3) → Fin 18
  | .inl p => kSend p
  | .inr sp => kRecv sp.1 sp.2
theorem cellIx_bij : Function.Bijective cellIx := by decide
def cellEq : Fin 3 ⊕ (Fin 5 × Fin 3) ≃ Fin 18 := Equiv.ofBijective cellIx cellIx_bij

/-- What the cells of a device hold, by what they are for. -/
theorem cells_split (Φ : GSem nD τ sig → sProp 𝕄) (c : Dev nD) :
    (bigSep Finset.univ fun k : Fin 18 => Φ ((c : Thread nD τ), scSem k))
      = iprop((bigSep Finset.univ fun p : Fin 3 => Φ (sendCell p c)) ∗ bigSep Finset.univ fun sp : Fin 5 × Fin 3 => Φ (recvCell sp.1 sp.2 c)) := by
  rw [bigSep_univ_equiv cellEq (fun k : Fin 18 => Φ ((c : Thread nD τ), scSem k)), BI.bigSep_univ_sum]
  refine congrArg (BIBase.sep (bigSep Finset.univ fun p : Fin 3 => Φ (sendCell p c))) ?_
  refine bigSep_congr fun sp _ => ?_
  exact congrArg (fun q => Φ ((c : Thread nD τ), q)) (scSem_recv sp.1 sp.2)

/-- By column group. -/
theorem steps_by_group (Φ : Fin 5 → Fin 3 → sProp 𝕄) :
    (bigSep Finset.univ fun sp : Fin 5 × Fin 3 => Φ sp.1 sp.2) = bigSep Finset.univ fun p : Fin 3 => bigSep Finset.univ fun s : Fin 5 => Φ s p := by
  rw [bigSep_univ_equiv (Equiv.prodComm (Fin 3) (Fin 5)) (fun sp : Fin 5 × Fin 3 => Φ sp.1 sp.2), bigSep_univ_prod]
  rfl

/-- The semaphores the kernel has of its own: the gather's, and the eighteen. -/
def osem (k : Fin 19) : SemLoc sig := .dma ⟨3 + k.val, by have := k.isLt; show 3 + k.val < 22; omega⟩
theorem own_split (c : Dev nD) : (Pipeline.ownSems0 osem c : sProp 𝕄)
    = iprop(semVal (gCell c) 0 ∗ bigSep Finset.univ fun k : Fin 18 => semVal ((c : Thread nD τ), scSem k) 0) := by
  unfold Pipeline.ownSems0
  rw [show (Finset.univ : Finset (Fin 19)) = insert 0 ((Finset.univ : Finset (Fin 18)).map (Fin.succEmb 18)) from by decide,
    SparseCore.bigSep_insert' (by decide), bigSep_map]
  refine congrArg (BIBase.sep (semVal (gCell c) 0 : sProp 𝕄)) (bigSep_congr fun k _ => ?_)
  refine congrArg (fun q => (semVal ((c : Thread nD τ), q) 0 : sProp 𝕄)) ?_
  unfold osem scSem
  exact congrArg SemLoc.dma (Fin.ext (by show 3 + (k.val + 1) = 4 + k.val; omega))

/-! ## Opening them -/

/-- The ghost state a device has before the kernel: its barrier position, the rights to open, the tokens of what it pays. -/
def linear (c : Dev nD) : sProp 𝕄 :=
  iprop(atPos (ER (F := F)) (barCell c) 0 ∅ 0
    ∗ (bigSep Finset.univ fun k : Fin 18 => openTok (ER (F := F)) ((c : Thread nD τ), scSem k))
    ∗ (bigSep Finset.univ fun k : Fin 3 => dutyTok (ER (F := F)) (barCell (flip k c)) 0 k)
    ∗ bigSep Finset.univ fun p : Fin 3 => bigSep Finset.univ fun s : Fin 5 => Tok (F := F) p c s)
/-- What it may wait for. -/
def credits (c : Dev nD) : sProp 𝕄 :=
  iprop(cred (tallyAt (barCell c) () 3)
    ∗ bigSep Finset.univ fun p : Fin 3 => bigSep Finset.univ fun s : Fin 5 => cred (tallyAt (recvCell s p c) () (amt s p)))
/-- Once open: the positions at the cells. -/
def opened (c : Dev nD) : sProp 𝕄 :=
  iprop(recvOpen (F := F) c ∗ atPos (ER (F := F)) (barCell c) 0 ∅ 0 ∗ cred (tallyAt (barCell c) () 3)
    ∗ (bigSep Finset.univ fun k : Fin 3 => dutyTok (ER (F := F)) (barCell (flip k c)) 0 k)
    ∗ semVal (gCell c) 0
    ∗ bigSep Finset.univ fun p : Fin 3 => Cs0 (F := F) p c 0)

theorem open_one (κ : GSem nD τ sig → ℕ) {g : GSem nD τ sig} (hg : g ∈ barCells ∪ scCells) :
    iprop(Inv x κ ∗ (openTok (ER (F := F)) g ∗ semVal g 0)) ⊢ (|={Set.univ}=> iprop(atPos (ER (F := F)) g 0 ∅ 0 ∗ reached (ER (F := F)) g 0) : sProp 𝕄) := by
  iintro ⟨#HI, Ho, Hv⟩
  ihave #Hi := (inv_at x κ hg) $$ HI
  imod (Rounds.cell_open ER (Rd x) (g := g) (Set.mem_univ (κ g))) $$ [Ho Hv] with ⟨Ha, Hr⟩
  · isplitr
    · iexact Hi
    isplitl [Ho] <;> iassumption
  imodintro
  isplitl [Ha] <;> iassumption

theorem fut_zero (p : Fin 3) (c : Dev nD) : Fut (F := F) p c 0 = bigSep Finset.univ fun s : Fin 5 => iprop(Tok (F := F) p c s ∗ Exp (F := F) p c s) := by
  unfold Fut
  rw [show (Finset.univ.filter fun s : Fin 5 => 0 ≤ s.val) = Finset.univ from by decide]
theorem past_zero (p : Fin 3) (c : Dev nD) : Past (F := F) p c 0 = (BI.emp : sProp 𝕄) := by
  unfold Past
  rw [show (Finset.univ.filter fun s : Fin 5 => s.val < 0) = ∅ from by decide, bigSep_empty]
theorem fut_five (p : Fin 3) (c : Dev nD) : Fut (F := F) p c 5 = (BI.emp : sProp 𝕄) := by
  unfold Fut
  rw [show (Finset.univ.filter fun s : Fin 5 => 5 ≤ s.val) = ∅ from by decide, bigSep_empty]
theorem past_five (p : Fin 3) (c : Dev nD) : Past (F := F) p c 5 = bigSep Finset.univ fun s : Fin 5 => Done (F := F) p c s := by
  unfold Past
  rw [show (Finset.univ.filter fun s : Fin 5 => s.val < 5) = Finset.univ from by decide]

theorem cs_start (p : Fin 3) (c : Dev nD) :
    iprop((atPos (ER (F := F)) (sendCell p c) 0 ∅ 0 ∗ reached (ER (F := F)) (sendCell p c) 0)
      ∗ (bigSep Finset.univ fun s : Fin 5 => Tok (F := F) p c s)
      ∗ (bigSep Finset.univ fun s : Fin 5 => atPos (ER (F := F)) (recvCell s p c) 0 ∅ 0)
      ∗ bigSep Finset.univ fun s : Fin 5 => cred (tallyAt (recvCell s p c) () (amt s p)))
    ⊢ Cs0 (F := F) p c 0 := by
  unfold Cs0 Pos
  rw [fut_zero, past_zero]
  iintro ⟨HP, HT, HA, HC⟩
  isplitl [HP]
  · iexact HP
  isplitl [HT HA HC]
  · iapply zip_fam
    isplitl [HT]
    · iexact HT
    unfold Exp
    iapply zip_fam
    isplitl [HA] <;> iassumption
  · iempintro

theorem start_all (c : Dev nD) :
    iprop((bigSep Finset.univ fun p : Fin 3 => iprop(atPos (ER (F := F)) (sendCell p c) 0 ∅ 0 ∗ reached (ER (F := F)) (sendCell p c) 0))
      ∗ (bigSep Finset.univ fun p : Fin 3 => bigSep Finset.univ fun s : Fin 5 => Tok (F := F) p c s)
      ∗ (bigSep Finset.univ fun p : Fin 3 => bigSep Finset.univ fun s : Fin 5 => atPos (ER (F := F)) (recvCell s p c) 0 ∅ 0)
      ∗ bigSep Finset.univ fun p : Fin 3 => bigSep Finset.univ fun s : Fin 5 => cred (tallyAt (recvCell s p c) () (amt s p)))
    ⊢ bigSep Finset.univ fun p : Fin 3 => Cs0 (F := F) p c 0 := by
  refine BIBase.Entails.trans ?_ (bigSep_mono fun p _ => cs_start p c)
  iintro ⟨H1, H2, H3, H4⟩
  iapply zip_fam
  isplitl [H1]
  · iexact H1
  iapply zip_fam
  isplitl [H2]
  · iexact H2
  iapply zip_fam
  isplitl [H3] <;> iassumption

theorem open_cells (κ : GSem nD τ sig → ℕ) (c : Dev nD) :
    iprop(Inv x κ ∗ linear (F := F) c ∗ credits (F := F) c ∗ Pipeline.ownSems0 osem c) ⊢ (|={Set.univ}=> opened (F := F) c : sProp 𝕄) := by
  rw [own_split]
  unfold linear credits
  iintro ⟨#HI, ⟨Hb, Ho, Hd, Ht⟩, ⟨Hcb, Hcr⟩, Hg, Hs⟩
  imod (show iprop(Inv x κ ∗ bigSep Finset.univ fun k : Fin 18 => iprop(openTok (ER (F := F)) ((c : Thread nD τ), scSem k) ∗ semVal ((c : Thread nD τ), scSem k) 0))
      ⊢ (|={Set.univ}=> bigSep Finset.univ fun k : Fin 18 => iprop(atPos (ER (F := F)) ((c : Thread nD τ), scSem k) 0 ∅ 0
        ∗ reached (ER (F := F)) ((c : Thread nD τ), scSem k) 0) : sProp 𝕄)
    from all_update fun k _ => open_one x κ (sc_mem c k)) $$ [Ho Hs] with H
  · isplitr
    · iexact HI
    iapply zip_fam
    isplitl [Ho] <;> iassumption
  imodintro
  ihave H := (show (bigSep Finset.univ fun k : Fin 18 => iprop(atPos (ER (F := F)) ((c : Thread nD τ), scSem k) 0 ∅ 0
        ∗ reached (ER (F := F)) ((c : Thread nD τ), scSem k) 0))
      ⊢ iprop((bigSep Finset.univ fun p : Fin 3 => iprop(atPos (ER (F := F)) (sendCell p c) 0 ∅ 0 ∗ reached (ER (F := F)) (sendCell p c) 0))
        ∗ bigSep Finset.univ fun sp : Fin 5 × Fin 3 => iprop(atPos (ER (F := F)) (recvCell sp.1 sp.2 c) 0 ∅ 0 ∗ reached (ER (F := F)) (recvCell sp.1 sp.2 c) 0))
    from Entails.of_eq (cells_split (fun g => iprop(atPos (ER (F := F)) g 0 ∅ 0 ∗ reached (ER (F := F)) g 0)) c)) $$ H
  icases H with ⟨Hsend, Hrecv⟩
  ihave Hrecv := (unzip_fam (Φ := fun sp : Fin 5 × Fin 3 => atPos (ER (F := F)) (recvCell sp.1 sp.2 c) 0 ∅ 0)
    (Ψ := fun sp : Fin 5 × Fin 3 => reached (ER (F := F)) (recvCell sp.1 sp.2 c) 0)) $$ Hrecv
  icases Hrecv with ⟨Hat, Hr⟩
  ihave Hat := (Entails.of_eq (steps_by_group fun s p => atPos (ER (F := F)) (recvCell s p c) 0 ∅ 0)) $$ Hat
  unfold opened
  isplitl [Hr]
  · unfold recvOpen
    iexact Hr
  isplitl [Hb]
  · iexact Hb
  isplitl [Hcb]
  · iexact Hcb
  isplitl [Hd]
  · iexact Hd
  isplitl [Hg]
  · iexact Hg
  iapply (start_all c)
  isplitl [Hsend]
  · iexact Hsend
  isplitl [Ht]
  · iexact Ht
  isplitl [Hat] <;> iassumption

/-! ## Closing them -/

theorem close_one (κ : GSem nD τ sig → ℕ) {g : GSem nD τ sig} (hg : g ∈ barCells ∪ scCells) {R : ℕ} (hR : ∀ r, R ≤ r → (Rd x).duties g r = ∅) :
    iprop(Inv x κ ∗ atPos (ER (F := F)) g R ∅ 0) ⊢ (|={Set.univ}=> semVal g 0 : sProp 𝕄) := by
  iintro ⟨#HI, Ha⟩
  ihave #Hi := (inv_at x κ hg) $$ HI
  imod (Rounds.cell_close ER (Rd x) (g := g) (Set.mem_univ (κ g)) id hR) $$ [Ha] with H
  · isplitr
    · iexact Hi
    · iexact Ha
  imodintro
  iexact H

theorem cs_end (p : Fin 3) (c : Dev nD) :
    Cs0 (F := F) p c 5 ⊢ iprop(atPos (ER (F := F)) (sendCell p c) 5 ∅ 0 ∗ bigSep Finset.univ fun s : Fin 5 => atPos (ER (F := F)) (recvCell s p c) 1 ∅ 0) := by
  unfold Cs0 Pos
  rw [past_five]
  iintro ⟨⟨H, -⟩, -, HD⟩
  isplitl [H]
  · iexact H
  unfold Done
  iexact HD

theorem close_cells (κ : GSem nD τ sig → ℕ) (c : Dev nD) :
    iprop(Inv x κ ∗ semVal (gCell c) 0 ∗ bigSep Finset.univ fun p : Fin 3 => Cs0 (F := F) p c 5) ⊢ (|={Set.univ}=> Pipeline.ownSems0 osem c : sProp 𝕄) := by
  rw [own_split, cells_split (fun g => (semVal g 0 : sProp 𝕄)) c]
  iintro ⟨#HI, Hg, H⟩
  ihave H := (show (bigSep Finset.univ fun p : Fin 3 => Cs0 (F := F) p c 5)
      ⊢ bigSep Finset.univ fun p : Fin 3 => iprop(atPos (ER (F := F)) (sendCell p c) 5 ∅ 0 ∗ bigSep Finset.univ fun s : Fin 5 => atPos (ER (F := F)) (recvCell s p c) 1 ∅ 0)
    from bigSep_mono fun p _ => cs_end p c) $$ H
  ihave H := unzip_fam $$ H
  icases H with ⟨Hs, Hr⟩
  imod (show iprop(Inv x κ ∗ bigSep Finset.univ fun p : Fin 3 => atPos (ER (F := F)) (sendCell p c) 5 ∅ 0)
      ⊢ (|={Set.univ}=> bigSep Finset.univ fun p : Fin 3 => semVal (sendCell p c) 0 : sProp 𝕄)
    from all_update fun p _ => close_one x κ (send_mem p c) (duties_send_later x p c)) $$ [Hs] with Hs
  · isplitr
    · iexact HI
    · iexact Hs
  imod (show iprop(Inv x κ ∗ bigSep Finset.univ fun sp : Fin 5 × Fin 3 => atPos (ER (F := F)) (recvCell sp.1 sp.2 c) 1 ∅ 0)
      ⊢ (|={Set.univ}=> bigSep Finset.univ fun sp : Fin 5 × Fin 3 => semVal (recvCell sp.1 sp.2 c) 0 : sProp 𝕄)
    from all_update fun sp _ => close_one x κ (recv_mem sp.1 sp.2 c) (duties_recv_later x sp.1 sp.2 c)) $$ [Hr] with Hr
  · isplitr
    · iexact HI
    iapply (Entails.of_eq (steps_by_group fun s p => atPos (ER (F := F)) (recvCell s p c) 1 ∅ 0).symm) $$ Hr
  imodintro
  isplitl [Hg]
  · iexact Hg
  isplitl [Hs] <;> iassumption

/-! ## The launch: tokens dealt -/

/-- The payers of a device's cells: along each axis at the barrier, each step at the receive cells, each round at the send cells. -/
abbrev TokIx : Type := Fin 3 ⊕ ((Fin 5 × Fin 3) ⊕ (Fin 5 × Fin 3))
def tokOf : TokIx → SemLoc sig × ℕ × Fin 3
  | .inl k => (.reg barS, 0, k)
  | .inr (.inl sp) => (.dma (sendS sp.2), sp.1.val, 0)
  | .inr (.inr sp) => (.dma (recvS sp.1 sp.2), 0, 0)
theorem tokOf_inj : Function.Injective tokOf := by decide
def tokEmb : Dev nD × TokIx ↪ GSem nD τ sig × ℕ × Fin 3 :=
  ⟨fun ct => (((ct.1 : Thread nD τ), (tokOf ct.2).1), (tokOf ct.2).2), fun a b h => by
    have h1 : a.1 = b.1 := congrArg (fun t : GSem nD τ sig × ℕ × Fin 3 => t.1.1.1) h
    have h2 : (tokOf a.2).1 = (tokOf b.2).1 := congrArg (fun t : GSem nD τ sig × ℕ × Fin 3 => t.1.2) h
    have h3 : (tokOf a.2).2 = (tokOf b.2).2 := congrArg (fun t : GSem nD τ sig × ℕ × Fin 3 => t.2) h
    exact Prod.ext h1 (tokOf_inj (Prod.ext h2 h3))⟩
def allToks : Finset (GSem nD τ sig × ℕ × Fin 3) := Finset.univ.map tokEmb

theorem disjoint_cells : Disjoint barCells scCells := by
  rw [Finset.disjoint_left]
  intro g h1 h2
  unfold barCells at h1
  unfold scCells at h2
  obtain ⟨c, -, rfl⟩ := Finset.mem_map.mp h1
  obtain ⟨ck, -, h⟩ := Finset.mem_map.mp h2
  have h' : scSem ck.2 = .reg barS := congrArg Prod.snd h
  unfold scSem at h'
  exact dma_ne_reg h'

/-- Flipping along an axis, and a partner, as permutations of the devices. -/
def flipE (k : Fin 3) : Dev nD ≃ Dev nD := ⟨flip k, flip k, flip_flip k, flip_flip k⟩

/-- A family over devices and axes, each taken at the neighbour along the axis. -/
theorem around_axis (Φ : Fin 3 → Dev nD → sProp 𝕄) :
    (bigSep Finset.univ fun c : Dev nD => bigSep Finset.univ fun k : Fin 3 => Φ k c)
      = bigSep Finset.univ fun c : Dev nD => bigSep Finset.univ fun k : Fin 3 => Φ k (flip k c) := by
  simp only [Ring.bigSep_fin3]
  rw [bigSep_sep', bigSep_sep', bigSep_sep', bigSep_sep', bigSep_univ_equiv (flipE 0) (Φ 0), bigSep_univ_equiv (flipE 1) (Φ 1),
    bigSep_univ_equiv (flipE 2) (Φ 2)]
  rfl
/-- The same over steps and column groups, each taken at the partner. -/
theorem around_peer (Φ : Fin 5 → Fin 3 → Dev nD → sProp 𝕄) :
    (bigSep Finset.univ fun c : Dev nD => bigSep Finset.univ fun sp : Fin 5 × Fin 3 => Φ sp.1 sp.2 c)
      = bigSep Finset.univ fun c : Dev nD => bigSep Finset.univ fun sp : Fin 5 × Fin 3 => Φ sp.1 sp.2 (peer sp.1 sp.2 c) := by
  have swap (Ψ : Fin 5 × Fin 3 → Dev nD → sProp 𝕄) : (bigSep Finset.univ fun c : Dev nD => bigSep Finset.univ fun sp => Ψ sp c)
      = bigSep Finset.univ fun sp => bigSep Finset.univ fun c : Dev nD => Ψ sp c := by
    rw [← bigSep_univ_prod (fun q : Dev nD × (Fin 5 × Fin 3) => Ψ q.2 q.1),
      bigSep_univ_equiv (Equiv.prodComm (Fin 5 × Fin 3) (Dev nD)) (fun q : Dev nD × (Fin 5 × Fin 3) => Ψ q.2 q.1), bigSep_univ_prod]
    rfl
  rw [swap (fun sp c => Φ sp.1 sp.2 c), swap (fun sp c => Φ sp.1 sp.2 (peer sp.1 sp.2 c))]
  exact bigSep_congr fun sp _ => bigSep_univ_equiv (flipE (axis sp.2 (stp sp.1))) (Φ sp.1 sp.2)

theorem toks_one (c : Dev nD) :
    iprop((bigSep Finset.univ fun k : Fin 3 => dutyTok (ER (F := F)) (barCell (flip k c)) 0 k)
        ∗ (bigSep Finset.univ fun sp : Fin 5 × Fin 3 => dutyTok (ER (F := F)) (sendCell sp.2 c) sp.1.val 0)
        ∗ bigSep Finset.univ fun sp : Fin 5 × Fin 3 => dutyTok (ER (F := F)) (recvCell sp.1 sp.2 (peer sp.1 sp.2 c)) 0 0)
      ⊢ iprop((bigSep Finset.univ fun k : Fin 3 => dutyTok (ER (F := F)) (barCell (flip k c)) 0 k)
        ∗ bigSep Finset.univ fun p : Fin 3 => bigSep Finset.univ fun s : Fin 5 => Tok (F := F) p c s) := by
  iintro ⟨H1, H2, H3⟩
  isplitl [H1]
  · iexact H1
  unfold Tok
  iapply (Entails.of_eq (steps_by_group fun s p => iprop(dutyTok (ER (F := F)) (sendCell p c) s.val 0 ∗ dutyTok (ER (F := F)) (recvCell s p (peer s p c)) 0 0)))
  iapply zip_fam
  isplitl [H2] <;> iassumption

/-- What of the launch's tokens a device pays with. -/
theorem toks_dealt :
    bigSep allToks (fun t => (dutyTok (ER (F := F)) t.1 t.2.1 t.2.2 : sProp 𝕄))
      ⊢ bigSep Finset.univ fun c : Dev nD => iprop((bigSep Finset.univ fun k : Fin 3 => dutyTok (ER (F := F)) (barCell (flip k c)) 0 k)
        ∗ bigSep Finset.univ fun p : Fin 3 => bigSep Finset.univ fun s : Fin 5 => Tok (F := F) p c s) := by
  have e1 : bigSep allToks (fun t => (dutyTok (ER (F := F)) t.1 t.2.1 t.2.2 : sProp 𝕄))
      = bigSep Finset.univ fun c : Dev nD => iprop((bigSep Finset.univ fun k : Fin 3 => dutyTok (ER (F := F)) (barCell c) 0 k)
        ∗ (bigSep Finset.univ fun sp : Fin 5 × Fin 3 => dutyTok (ER (F := F)) (sendCell sp.2 c) sp.1.val 0)
        ∗ bigSep Finset.univ fun sp : Fin 5 × Fin 3 => dutyTok (ER (F := F)) (recvCell sp.1 sp.2 c) 0 0) := by
    unfold allToks
    rw [bigSep_map, bigSep_univ_prod]
    refine bigSep_congr fun c _ => ?_
    rw [BI.bigSep_univ_sum, BI.bigSep_univ_sum]
    rfl
  rw [e1, bigSep_sep', bigSep_sep', around_axis (fun k c => dutyTok (ER (F := F)) (barCell c) 0 k),
    around_peer (fun s p c => dutyTok (ER (F := F)) (recvCell s p c) 0 0), ← bigSep_sep', ← bigSep_sep']
  exact bigSep_mono fun c _ => toks_one c

/-! ## The launch: credit -/

/-- What a device owes when the kernel starts. -/
abbrev O₀ (c : Dev nD) : CellTallies nD τ sig Unit := Ow c Finset.univ

theorem target_bar (d c : Dev nD) (q : Due) : (target d q = barCell c) ↔ q.1 = none ∧ d = flip q.2 c := by
  obtain ⟨o, k⟩ := q
  cases o with
  | none =>
    show barCell (flip k d) = barCell c ↔ _
    constructor
    · intro h
      have h' : flip k d = c := congrArg (fun g : GSem nD τ sig => g.1.1) h
      exact ⟨rfl, by rw [← h', flip_flip]⟩
    · rintro ⟨-, h⟩
      have h' : d = flip k c := h
      rw [h', flip_flip]
  | some s =>
    constructor
    · intro h
      have h' : (SemLoc.dma (recvS s k) : SemLoc sig) = .reg barS := congrArg Prod.snd h
      exact (dma_ne_reg h').elim
    · rintro ⟨h, -⟩
      exact absurd h (by simp)
theorem recvS_inj (s : Fin 5) (p : Fin 3) (s' : Fin 5) (p' : Fin 3) : recvS s p = recvS s' p' → s = s' ∧ p = p' := by revert s p s' p'; decide
theorem target_recv (s : Fin 5) (p : Fin 3) (d c : Dev nD) (q : Due) : (target d q = recvCell s p c) ↔ q = (some s, p) ∧ d = peer s p c := by
  obtain ⟨o, k⟩ := q
  cases o with
  | none =>
    constructor
    · intro h
      have h' : (SemLoc.reg barS : SemLoc sig) = .dma (recvS s p) := congrArg Prod.snd h
      exact (dma_ne_reg h'.symm).elim
    · rintro ⟨h, -⟩
      have := congrArg Prod.fst h
      exact absurd this (by simp)
  | some t =>
    constructor
    · intro h
      have h1 : (SemLoc.dma (recvS t k) : SemLoc sig) = .dma (recvS s p) := congrArg Prod.snd h
      obtain ⟨rfl, rfl⟩ := recvS_inj _ _ _ _ (SemLoc.dma.inj h1)
      have h2 : peer t k d = c := congrArg (fun g : GSem nD τ sig => g.1.1) h
      exact ⟨rfl, by rw [← h2]; exact (flip_flip _ _).symm⟩
    · rintro ⟨h, h'⟩
      have h1 : t = s := Option.some.inj (congrArg Prod.fst h)
      have h2 : k = p := congrArg Prod.snd h
      subst h1 h2
      subst h'
      exact congrArg (recvCell t k) (flip_flip _ _)

theorem owed_at (d : Dev nD) (g : GSem nD τ sig) : O₀ d g () = ∑ q : Due, if target d q = g then dueAmt q else 0 := by
  show Ow d Finset.univ g () = _
  unfold Ow
  rw [Finset.sum_apply, Finsupp.finset_sum_apply]
  refine Finset.sum_congr rfl fun q _ => ?_
  rw [tallyAt_apply]
  by_cases h : target d q = g
  · rw [if_pos ⟨h.symm, rfl⟩, if_pos h]
  · rw [if_neg fun hh => h hh.1.symm, if_neg h]

theorem credit_bar (c : Dev nD) : ∑ d : Dev nD, O₀ d (barCell c) () = 3 := by
  simp only [owed_at, target_bar]
  revert c
  decide
theorem credit_recv (s : Fin 5) (p : Fin 3) (c : Dev nD) : ∑ d : Dev nD, O₀ d (recvCell s p c) () = amt s p := by
  simp only [owed_at, target_recv]
  rw [Finset.sum_eq_single (peer s p c), Finset.sum_eq_single ((some s, p) : Due)]
  · exact if_pos ⟨rfl, rfl⟩
  · exact fun q _ hq => if_neg fun h => hq h.1
  · exact fun h => absurd (Finset.mem_univ _) h
  · exact fun d _ hd => Finset.sum_eq_zero fun q _ => if_neg fun h => hd h.2
  · exact fun h => absurd (Finset.mem_univ _) h

theorem launch_cell (g : GSem nD τ sig) (n : ℕ) (hg : g.1.2 = .tc) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem creds (c : Dev nD) : (Pipeline.launchCred O₀ c : sProp 𝕄) ⊢ credits (F := F) c := by
  unfold Pipeline.launchCred credits
  rw [bigSep_univ_at _ (SemLoc.reg barS), launch_cell (barCell c) 3 rfl (credit_bar c)]
  refine BIClass.sep_mono (BI.Entails.refl _) ?_
  refine BIBase.Entails.trans (bigSep_subset (t := (Finset.univ : Finset (Fin 5 × Fin 3)).map
    ⟨fun sp => (SemLoc.dma (recvS sp.1 sp.2) : SemLoc sig), fun a b h => by
      obtain ⟨h1, h2⟩ := recvS_inj _ _ _ _ (SemLoc.dma.inj h); exact Prod.ext h1 h2⟩) ?_) ?_
  · intro q hq
    obtain ⟨sp, -, rfl⟩ := Finset.mem_map.mp hq
    exact Finset.mem_erase.mpr ⟨fun h => dma_ne_reg h, Finset.mem_univ _⟩
  · rw [bigSep_map, ← steps_by_group (fun s p => (cred (tallyAt (recvCell s p c) () (amt s p)) : sProp 𝕄))]
    exact Entails.of_eq (bigSep_congr fun sp _ => congrArg cred (launch_cell (recvCell sp.1 sp.2 c) (amt sp.1 sp.2) rfl (credit_recv sp.1 sp.2 c)))

end Cert.EmbedProof

end
-- ==== Proof.Dats.lean ====
/-
# The kernel on one device, from launch to result

What the host's part of the program has to have computed, what a device's kernel is handed and what it hands back, and the one
lemma that runs the kernel's body between the two.
-/
module

public import proofs.«01_k».proof.Proof.Cells
public import proofs.«01_k».proof.Proof.Front
public import proofs.«01_k».proof.Proof.Gen.KernelIdeal.Regions
public import Idealize.ShloMosaic.Lib.Pipeline.RegionTalk
public import Idealize.ShloMosaic.Lib.Pipeline.ValueKit.Geometry

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the host's part of the program has to have computed on each device: how many rows the device owns, the packed words of
    those rows, and (`Plan`) that these words send every owned row to its place once. -/
structure HostFacts (v8 : Dev nD → BitVec 32) (w : Dev nD → ℕ → BitVec 32) (src : Dev nD → ℕ → Option ℕ) : Prop where
  cnt : ∀ (c : Dev nD) j, V7 m c main_v15 j = v8 c
  word : ∀ (c : Dev nD) (j : Cert.KernelIdeal.S1024.Idx), V7 m c main_v32 j = w c (j 0).val
  plan : ∀ c, Plan (v8 c).toNat (w c) (src c)

/-- A device's block of the table. -/
def tableOf (c : Dev nD) : ℕ → ℕ → F .f32 := flat (a := 8192) (b := 1024) (by decide) (by decide) (m ((c : Thread nD τ).loc main_arg1))

variable (src : Dev nD → ℕ → Option ℕ)

/-- What every device adds to the sum: its own rows, rounded. -/
def xOf (c : Dev nD) : MV F := fun i j => FloatOps.truncf .bf16 bitsLt_bf16_f32 (staged (tableOf m c) (src c) i j)
/-- What every device ends with. -/
def resOf (c : Dev nD) : (main_v33 : Ref sig .tc).ty.Contents (Elt F) := mat (a := 1024) (b := 1024) (result (xOf m src) c)

/-! ## The five scratch buffers -/

abbrev scratch (c : Dev nD) : sProp 𝕄 :=
  iprop(someOf (F := F) stM c ∗ someOf (F := F) aM c ∗ someOf (F := F) (rsM 0) c ∗ someOf (F := F) (rsM 1) c ∗ someOf (F := F) (rsM 2) c)

theorem some_whole (r : Ref sig .tc) (c : Dev nD) :
    someOf (F := F) (Memref.whole r) c = (iprop(∃ f : Buf (Elt F) ((c : Thread nD τ).loc r), ((c : Thread nD τ).loc r) ↦{fullShare} f) : sProp 𝕄) := by
  unfold someOf
  rw [Memref.view_whole, View.set_whole]

theorem scratch_eq (c : Dev nD) : (Pipeline.scopedRest (Pipeline.pin (pcfgs (F := F)) adm 0).spec c : sProp 𝕄) = scratch (F := F) c := by
  refine (scopedRest0_eq c).trans ?_
  rw [← some_whole cc0_scratch0 c, ← some_whole cc0_scratch1 c, ← some_whole cc0_scratch2 c, ← some_whole cc0_scratch3 c, ← some_whole cc0_scratch4 c]
  rfl

theorem bigSep_three (Φ : Fin 3 → sProp 𝕄) : bigSep Finset.univ Φ = iprop(Φ 0 ∗ Φ 1 ∗ Φ 2) := bigSep_W0 Φ

/-! ## The kernel, from what the launch hands it to what it hands back -/

/-- The device's block of the table, whole. -/
abbrev tablePt (c : Dev nD) : sProp 𝕄 := iprop(((c : Thread nD τ).loc main_arg1) ↦{fullShare} (V7 m c main_arg1))

/-- Before the kernel: the protocol's records, its positions and rights, the table and the scratch. -/
def before (c : Dev nD) : sProp 𝕄 :=
  iprop((∃ κ, Inv (xOf m src) κ ∗ opened (F := F) c) ∗ tablePt m c ∗ scratch (F := F) c ∗ ∃ r, prngReg c r)
/-- After it: every counter at zero again, the table as it was, the scratch at anything. -/
def afterwards (c : Dev nD) : sProp 𝕄 :=
  iprop(Pipeline.ownSems0 osem c ∗ semVal (barCell c) 0 ∗ tablePt m c ∗ scratch (F := F) c ∗ ∃ r, prngReg c r)

theorem st_end (x : Dev nD → MV F) (c : Dev nD) :
    iprop(St x 0 c 21 ∗ St x 1 c 21 ∗ St x 2 c 21)
    ⊢ iprop((bigSep Finset.univ fun p : Fin 3 => Cs0 (F := F) p c 5) ∗ someOf (F := F) aM c
      ∗ (someOf (F := F) (rsM 0) c ∗ someOf (F := F) (rsM 1) c ∗ someOf (F := F) (rsM 2) c)
      ∗ pc (e := .f32) oM fullShare 0 1024 0 1024 c (result x c)) := by
  rw [bigSep_three]
  simp only [St]
  iintro ⟨⟨C0, A0, B0, G00, G01, G02, K0, L0⟩, ⟨C1, A1, B1, G10, G11, G12, K1, L1⟩, ⟨C2, A2, B2, G20, G21, G22, K2, L2⟩⟩
  isplitl [C0 C1 C2]
  · isplitl [C0]; · iexact C0
    isplitl [C1] <;> iassumption
  isplitl [A0 B0 A1 B1 A2 B2]
  · iapply (acc_close x c)
    isplitl [A0 B0]; · isplitl [A0] <;> iassumption
    isplitl [A1 B1]; · isplitl [A1] <;> iassumption
    isplitl [A2] <;> iassumption
  isplitl [G00 G01 G02 G10 G11 G12 G20 G21 G22]
  · isplitl [G00 G01 G02]
    · iapply (rs_close x 0 c)
      isplitl [G00]; · iexact G00
      isplitl [G01] <;> iassumption
    isplitl [G10 G11 G12]
    · iapply (rs_close x 1 c)
      isplitl [G10]; · iexact G10
      isplitl [G11] <;> iassumption
    iapply (rs_close x 2 c)
    isplitl [G20]; · iexact G20
    isplitl [G21] <;> iassumption
  iapply (out_close x c)
  isplitl [K0 L0]; · isplitl [K0] <;> iassumption
  isplitl [K1 L1]; · isplitl [K1] <;> iassumption
  isplitl [K2] <;> iassumption

variable {v8 : Dev nD → BitVec 32} {w : Dev nD → ℕ → BitVec 32} {src}

theorem table_same (c : Dev nD) : V7 m c main_arg1 = m ((c : Thread nD τ).loc main_arg1) :=
  (V8_of m (fun _ r c => m ((c : Thread nD τ).loc r)) c main_arg1 (by decide)).symm.trans (V8_main_arg1 m _ c)

theorem body_run (h : HostFacts m v8 w src) (c : Dev nD)
    {h0 : (Memref.whole cc0_stg0_0).IsWhole} {h1 : (Memref.whole cc0_stg1_0).IsWhole} {h2 : eM.IsWhole} {h3 : oM.IsWhole} {h4 : stM.IsWhole}
    {h5 : aM.IsWhole} {h6 : (Memref.whole cc0_scratch2).IsWhole} {h7 : (Memref.whole cc0_scratch3).IsWhole} {h8 : (Memref.whole cc0_scratch4).IsWhole}
    {f0 : Cert.KernelIdeal.S1024.Idx → BitVec 32} (hf0 : f0 = V7 m c main_v32) {f1 : Cert.KernelIdeal.S1.Idx → BitVec 32} (hf1 : f1 = V7 m c main_v15)
    {Q : PUnit → sProp 𝕄} :
    before m src c ⊢ iprop((∃ W, owes (c : Thread nD τ) (O₀ c) W)
      -∗ (((c : Thread nD τ).loc cc0_stg0_0) ↦{fullShare} (f0 : Buf (Elt F) ((c : Thread nD τ).loc cc0_stg0_0)))
      -∗ (((c : Thread nD τ).loc cc0_stg1_0) ↦{fullShare} (f1 : Buf (Elt F) ((c : Thread nD τ).loc cc0_stg1_0)))
      -∗ someOf (F := F) oM c
      -∗ (afterwards m c -∗ (∃ W, owes (c : Thread nD τ) (0 : CellTallies nD τ sig Unit) W)
        -∗ (((c : Thread nD τ).loc cc0_stg0_0) ↦{fullShare} (f0 : Buf (Elt F) ((c : Thread nD τ).loc cc0_stg0_0)))
        -∗ (((c : Thread nD τ).loc cc0_stg1_0) ↦{fullShare} (f1 : Buf (Elt F) ((c : Thread nD τ).loc cc0_stg1_0)))
        -∗ (((c : Thread nD τ).loc cc0_stg2_0) ↦{fullShare} (resOf m src c : Buf (Elt F) ((c : Thread nD τ).loc cc0_stg2_0))) -∗ Q ⟨⟩)
      -∗ wp frame (wpE (defs₀ (F := F)) 𝒱₀ (c : Thread nD τ) none) Set.univ
        (cc0_body (Memref.whole cc0_stg0_0) h0 (Memref.whole cc0_stg1_0) h1 eM h2 oM h3 stM h4 aM h5
            (Memref.whole cc0_scratch2) h6 (Memref.whole cc0_scratch3) h7 (Memref.whole cc0_scratch4) h8 cc0_scratch5 cc0_scratch6
            cc0_scratch7 cc0_scratch8) Q) := by
  unfold before opened
  iintro ⟨⟨%κ, #HI, ⟨#Hopen, Hat, Hcr, Hd, Hg, HC⟩⟩, HE, ⟨Hs, Ha, R0, R1, R2⟩, Hp⟩
  iintro HO P0 P1 Ho Hk
  iapply (wp_fupd frame (wpE (defs₀ (F := F)) 𝒱₀ (c : Thread nD τ) none) Set.univ
    (cc0_body (Memref.whole cc0_stg0_0) h0 (Memref.whole cc0_stg1_0) h1 eM h2 oM h3 stM h4 aM h5
            (Memref.whole cc0_scratch2) h6 (Memref.whole cc0_scratch3) h7 (Memref.whole cc0_scratch4) h8 cc0_scratch5 cc0_scratch6
            cc0_scratch7 cc0_scratch8) Q)
  ihave Hd := (Entails.of_eq (bigSep_three fun k : Fin 3 => (dutyTok (ER (F := F)) (barCell (flip k c)) 0 k : sProp 𝕄))) $$ Hd
  icases Hd with ⟨D0, D1, D2⟩
  ihave HC := (Entails.of_eq (bigSep_three fun p : Fin 3 => Cs0 (F := F) p c 0)) $$ HC
  icases HC with ⟨C0, C1, C2⟩
  ihave HR := (land_rows (F := F) c) $$ [R0 R1 R2]
  · isplitl [R0]; · iexact R0
    isplitl [R1] <;> iassumption
  icases HR with ⟨R0, R1, R2⟩
  ihave Hou := (out_open (F := F) c) $$ Ho
  icases Hou with ⟨K0, K1, K2⟩
  ihave Hs := (stage_open (F := F) c) $$ Hs
  ihave Ha := (acc_open (F := F) c) $$ Ha
  ihave HE := (show tablePt m c ⊢ (eM.view.loc (c : Thread nD τ) ↦[eM.view.set]{fullShare} (V7 m c main_arg1 : eM.view.ty.Contents (Elt F)))
    from Entails.of_eq (by unfold tablePt; simp only [Memref.view_whole, View.set_whole])) $$ HE
  ihave P0 := (show (((c : Thread nD τ).loc cc0_stg0_0) ↦{fullShare} (f0 : Buf (Elt F) ((c : Thread nD τ).loc cc0_stg0_0)))
      ⊢ ((Memref.whole cc0_stg0_0).view.loc (c : Thread nD τ) ↦[(Memref.whole cc0_stg0_0).view.set]{fullShare} (f0 : (Memref.whole cc0_stg0_0).view.ty.Contents (Elt F)))
    from Entails.of_eq (by simp only [Memref.view_whole, View.set_whole])) $$ P0
  ihave P1 := (show (((c : Thread nD τ).loc cc0_stg1_0) ↦{fullShare} (f1 : Buf (Elt F) ((c : Thread nD τ).loc cc0_stg1_0)))
      ⊢ ((Memref.whole cc0_stg1_0).view.loc (c : Thread nD τ) ↦[(Memref.whole cc0_stg1_0).view.set]{fullShare} (f1 : (Memref.whole cc0_stg1_0).view.ty.Contents (Elt F)))
    from Entails.of_eq (by simp only [Memref.view_whole, View.set_whole])) $$ P1
  ihave HO := (show iprop(∃ W, owes (c : Thread nD τ) (O₀ c) W) ⊢ Owe (F := F) c (Tl 0)
    from Entails.of_eq (by unfold Owe; rw [show Tl 0 = Finset.univ from by decide])) $$ HO
  iapply (body_spec (xOf m src) κ c (h.plan c) (e := tableOf m c) (fE := (V7 m c main_arg1 : eM.view.ty.Contents (Elt F)))
    (by simp only [Memref.view_whole, View.read_whole]; rw [table_same]; exact (mat_flat _ _ _).symm) (v8 := v8 c) rfl
    (f0 := (f0 : (Memref.whole cc0_stg0_0).view.ty.Contents (Elt F)))
    (fun j => by simp only [Memref.view_whole, View.read_whole]; rw [hf0]; exact h.word c j)
    (f1 := (f1 : (Memref.whole cc0_stg1_0).view.ty.Contents (Elt F)))
    (fun j => by simp only [Memref.view_whole, View.read_whole]; rw [hf1]; exact h.cnt c j) rfl
    (Q := fun a => iprop(|={Set.univ}=> Q a)))
    $$ HI Hopen P0 P1 Hs Ha HE Hg [D0 R0] [D1 R1] [D2 R2] Hat Hcr [C0 K0] [C1 K1] [C2 K2] HO
  · unfold Unit1; isplitl [D0] <;> iassumption
  · unfold Unit1; isplitl [D1] <;> iassumption
  · unfold Unit1; isplitl [D2] <;> iassumption
  · isplitl [C0] <;> iassumption
  · isplitl [C1] <;> iassumption
  · isplitl [C2] <;> iassumption
  iintro P0 P1 Hs HE Hg Hat T0 T1 T2 HO
  ihave HT := (st_end (xOf m src) c) $$ [T0 T1 T2]
  · isplitl [T0]; · iexact T0
    isplitl [T1] <;> iassumption
  icases HT with ⟨HC, Ha, HR, Ho⟩
  imod (close_cells (xOf m src) κ c) $$ [Hg HC] with Hos
  · isplitr; · iexact HI
    isplitl [Hg] <;> iassumption
  imod (close_one (xOf m src) κ (bar_mem c) (R := 1) (duties_bar_later (xOf m src) c)) $$ [Hat] with Hb
  · isplitr; · iexact HI
    iexact Hat
  ihave Hs := (stage_close c _) $$ Hs
  ihave Ho := (whole_of_pc oM fullShare c _) $$ Ho
  icases Ho with ⟨%fo, %hfo, Ho⟩
  ihave HO := (show Owe (F := F) c (Tl 18) ⊢ iprop(∃ W, owes (c : Thread nD τ) (0 : CellTallies nD τ sig Unit) W)
    from Entails.of_eq (by unfold Owe; rw [show Tl 18 = ∅ from by decide, Ow_empty])) $$ HO
  imodintro
  iapply Hk $$ [Hos Hb HE Hs Ha HR Hp] HO [P0] [P1] [Ho]
  · unfold afterwards
    isplitl [Hos]; · iexact Hos
    isplitl [Hb]; · iexact Hb
    isplitl [HE]
    · iapply (show (eM.view.loc (c : Thread nD τ) ↦[eM.view.set]{fullShare} (V7 m c main_arg1 : eM.view.ty.Contents (Elt F))) ⊢ tablePt m c
        from Entails.of_eq (by unfold tablePt; simp only [Memref.view_whole, View.set_whole])) $$ HE
    isplitr [Hp]
    · isplitl [Hs]; · iexact Hs
      isplitl [Ha] <;> iassumption
    iexact Hp
  · iapply (show ((Memref.whole cc0_stg0_0).view.loc (c : Thread nD τ) ↦[(Memref.whole cc0_stg0_0).view.set]{fullShare} (f0 : (Memref.whole cc0_stg0_0).view.ty.Contents (Elt F)))
      ⊢ (((c : Thread nD τ).loc cc0_stg0_0) ↦{fullShare} (f0 : Buf (Elt F) ((c : Thread nD τ).loc cc0_stg0_0)))
      from Entails.of_eq (by simp only [Memref.view_whole, View.set_whole])) $$ P0
  · iapply (show ((Memref.whole cc0_stg1_0).view.loc (c : Thread nD τ) ↦[(Memref.whole cc0_stg1_0).view.set]{fullShare} (f1 : (Memref.whole cc0_stg1_0).view.ty.Contents (Elt F)))
      ⊢ (((c : Thread nD τ).loc cc0_stg1_0) ↦{fullShare} (f1 : Buf (Elt F) ((c : Thread nD τ).loc cc0_stg1_0)))
      from Entails.of_eq (by simp only [Memref.view_whole, View.set_whole])) $$ P1
  · have hfo' : fo = resOf m src c := by
      simp only [Memref.view_whole, View.read_whole] at hfo
      exact hfo
    subst hfo'
    iapply (show (oM.view.loc (c : Thread nD τ) ↦[oM.view.set]{fullShare} (resOf m src c : oM.view.ty.Contents (Elt F)))
      ⊢ (((c : Thread nD τ).loc cc0_stg2_0) ↦{fullShare} (resOf m src c : Buf (Elt F) ((c : Thread nD τ).loc cc0_stg2_0)))
      from Entails.of_eq (by simp only [Memref.view_whole, View.set_whole])) $$ Ho

end Cert.EmbedProof

end
-- ==== Proof.Host.lean ====
/-
# What the host computes before the kernel

The arrays the kernel is handed, read off the host's operations: the number of a device's own rows and the list of packed words.
-/
module

public import proofs.«01_k».proof.Proof.Packed
public import proofs.«01_k».proof.Proof.Dats

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → MV F)

open Idealize.ShloMosaic.Routing Idealize.ShloMosaic.ValueIdx Idealize.ShloMosaic.StableHlo

variable (m : (ℓ : Loc nD τ sig) → Buf (Elt F) ℓ)

/-- The batch's ids, as a device holds them. -/
def idsV (c : Dev nD) : IVec Cert.KernelIdeal.S1024 32 := m ((c : Thread nD τ).loc main_arg0)
/-- The first row of the device's block. -/
def baseV (c : Dev nD) : IVec Cert.KernelIdeal.S_ 32 :=
  muli (id (Host.remui (Host.divui (constantI Cert.KernelIdeal.S_ 32 (Dev.word c)) (constantI Cert.KernelIdeal.S_ 32 1#32)) (constantI Cert.KernelIdeal.S_ 32 8#32)))
    (constantI Cert.KernelIdeal.S_ 32 8192#32)
/-- The ids counted from that row. -/
def locV (c : Dev nD) : IVec Cert.KernelIdeal.S1024 32 := subi (idsV m c) (broadcastInDim Cert.KernelIdeal.S1024 ![] bcast_S_S1024 (baseV c))

/-! ## Stretch by stretch -/

theorem v1_7 (c : Dev nD) : V1 m c main_v7 = locV m c := by
  show StableHlo.after (hostOps0 c) (V0 m c) main_v7 = _
  after_results
  rfl
theorem v1_12 (c : Dev nD) : V1 m c main_v12 = ownV (locV m c) := by
  show StableHlo.after (hostOps0 c) (V0 m c) main_v12 = _
  after_results
  rfl
theorem v1_13 (c : Dev nD) : V1 m c main_v13 = extui 32 (ownV (locV m c)) natLt_1_32 := by
  show StableHlo.after (hostOps0 c) (V0 m c) main_v13 = _
  after_results
  rfl
theorem v1_15 (c : Dev nD) : V1 m c main_v15 = shapeCast Cert.KernelIdeal.S1 (cntV (locV m c)) shapeCasts_S_S1 := by
  show StableHlo.after (hostOps0 c) (V0 m c) main_v15 = _
  after_results
  rfl

attribute [local irreducible] Host.reduceWindow in
theorem v2_16 (V : Valuation τ sig (Elt F)) : StableHlo.after hostOps0_1 V main_v16
    = Host.reduceWindow IntOp.addi ![1024] ![1] ![1023] ![0] (V main_v13 : IVec Cert.KernelIdeal.S1024 32)
      (broadcastInDim Cert.KernelIdeal.S_ ![] bcast_S_S_ (constantI Cert.KernelIdeal.S_ 32 0#32)) reduceWindows_S1024_S1024_w1024s1p1023_0 h_S_ := by
  after_results
  rfl
theorem v3_18 (V : Valuation τ sig (Elt F)) : StableHlo.after hostOps0_2 V main_v18 = subi (V main_v16 : IVec Cert.KernelIdeal.S1024 32) (allW 1#32) := by
  after_results
theorem v3_6 (V : Valuation τ sig (Elt F)) : StableHlo.after hostOps0_2 V main_c_6 = constantI Cert.KernelIdeal.S_ 32 1024#32 := by
  after_results
theorem v4_19 (V : Valuation τ sig (Elt F)) : StableHlo.after hostOps0_3 V main_v19
    = select (V main_v12 : IVec Cert.KernelIdeal.S1024 1) (V main_v18 : IVec Cert.KernelIdeal.S1024 32)
      (broadcastInDim Cert.KernelIdeal.S1024 ![] bcast_S_S1024 (V main_c_6 : IVec Cert.KernelIdeal.S_ 32)) := by
  after_results
  rfl
theorem v5_20 (V : Valuation τ sig (Elt F)) : StableHlo.after hostOps0_4 V main_v20 = iotaInDim Cert.KernelIdeal.S1024 32 0 := by
  after_results
theorem v5_7 (V : Valuation τ sig (Elt F)) : StableHlo.after hostOps0_4 V main_c_7 = constantI Cert.KernelIdeal.S_ 32 0#32 := by
  after_results
theorem v5_8 (V : Valuation τ sig (Elt F)) : StableHlo.after hostOps0_4 V main_c_8 = constantI Cert.KernelIdeal.S_ 32 8191#32 := by
  after_results
theorem v6_21 (V : Valuation τ sig (Elt F)) : StableHlo.after hostOps0_5 V main_v21
    = minsi (broadcastInDim Cert.KernelIdeal.S1024 ![] bcast_S_S1024 (V main_c_8 : IVec Cert.KernelIdeal.S_ 32))
      (maxsi (broadcastInDim Cert.KernelIdeal.S1024 ![] bcast_S_S1024 (V main_c_7 : IVec Cert.KernelIdeal.S_ 32)) (V main_v7 : IVec Cert.KernelIdeal.S1024 32)) := by
  after_results
  rfl
theorem v7_32 (V : Valuation τ sig (Elt F)) : StableHlo.after hostOps0_6 V main_v32
    = Host.scatter scatter_S1024_S1024x1_S1024_n_0_0_1 (fun _ b => b) (allW 0#32)
      (broadcastInDim Cert.KernelIdeal.S1024x1 ![0] bcast_S1024_S1024x1_0 (wrapV (V main_v19 : IVec Cert.KernelIdeal.S1024 32)))
      (ori (V main_v20 : IVec Cert.KernelIdeal.S1024 32) (Host.shli (V main_v21 : IVec Cert.KernelIdeal.S1024 32) (allW 10#32))) := by
  after_results

/-! ## The whole line -/

theorem v4_slot (c : Dev nD) : V4 m c main_v19 = slotV (locV m c) := by
  refine (v4_19 (V3 m c)).trans ?_
  have e1 : V3 m c main_v12 = ownV (locV m c) :=
    (V3_of m c main_v12 (by decide)).trans ((V2_of m c main_v12 (by decide)).trans (v1_12 m c))
  have e2 : V3 m c main_v18 = subi (runV (locV m c)) (allW 1#32) := by
    refine (v3_18 (V2 m c)).trans ?_
    rw [show V2 m c main_v16 = runV (locV m c) from (v2_16 (V1 m c)).trans (by rw [v1_13])]
  rw [e1, e2, show V3 m c main_c_6 = _ from v3_6 (V2 m c)]
theorem v6_clip (c : Dev nD) : V6 m c main_v21 = minsi (allW 8191#32) (maxsi (allW 0#32) (locV m c)) := by
  refine (v6_21 (V5 m c)).trans ?_
  have e1 : V5 m c main_v7 = locV m c :=
    (V5_of m c main_v7 (by decide)).trans ((V4_of m c main_v7 (by decide)).trans ((V3_of m c main_v7 (by decide)).trans
      ((V2_of m c main_v7 (by decide)).trans (v1_7 m c))))
  rw [e1, show V5 m c main_c_7 = _ from v5_7 (V4 m c), show V5 m c main_c_8 = _ from v5_8 (V4 m c)]
theorem v7_list (c : Dev nD) : V7 m c main_v32 = listV (locV m c) := by
  refine (v7_32 (V6 m c)).trans ?_
  have e1 : V6 m c main_v19 = slotV (locV m c) :=
    (V6_of m c main_v19 (by decide)).trans ((V5_of m c main_v19 (by decide)).trans (v4_slot m c))
  have e2 : V6 m c main_v20 = iotaInDim Cert.KernelIdeal.S1024 32 0 := (V6_of m c main_v20 (by decide)).trans (v5_20 (V4 m c))
  rw [e1, e2, v6_clip]
theorem v7_cnt (c : Dev nD) : V7 m c main_v15 = shapeCast Cert.KernelIdeal.S1 (cntV (locV m c)) shapeCasts_S_S1 :=
  (V7_of m c main_v15 (by decide)).trans ((V6_of m c main_v15 (by decide)).trans ((V5_of m c main_v15 (by decide)).trans
    ((V4_of m c main_v15 (by decide)).trans ((V3_of m c main_v15 (by decide)).trans ((V2_of m c main_v15 (by decide)).trans (v1_15 m c))))))

/-! ## The facts -/

/-- The id at place `t`, counted from the first row of the device's block. -/
def locW (c : Dev nD) (t : ℕ) : BitVec 32 := if h : t < 1024 then locV m c (ix1 ⟨t, h⟩) else 0#32
theorem loc_at (c : Dev nD) (i : Fin 1024) : locV m c (ix1 i) = locW m c i.val := by
  unfold locW
  rw [dif_pos i.isLt]

/-- The rows a device gives to the batch. -/
def srcOf (c : Dev nD) : ℕ → Option ℕ := srcW (locW m c)

theorem host_facts : HostFacts m (fun c => BitVec.ofNat 32 (ownCount (locW m c))) (fun c => listW (locW m c)) (srcOf m) where
  cnt c j := by
    rw [v7_cnt]
    exact cnt_at (locV m c) (locW m c) (loc_at m c) _
  word c j := by
    rw [v7_list, eq_ix1 j]
    exact list_word (locV m c) (locW m c) (loc_at m c) (j 0)
  plan c := list_plan (locW m c)

end Cert.EmbedProof

end
-- ==== Proof.Region.lean ====
/-
# The kernel call as one region of the program

What its windows hold before and after, the obligation of its body, and the region's record.
-/
module

public import proofs.«01_k».proof.Proof.Dats
public import proofs.«01_k».proof.Proof.Gen.KernelIdeal.Points

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (src : Dev nD → ℕ → Option ℕ)

/-! ## The proof data of the one kernel call -/

/-- Memory after the call: the result array holds the sum, everything else is as the host left it. -/
def Vend (c : Dev nD) : Valuation τ sig (Elt F) := Function.update (V7 m c) main_v33 (resOf m src c)

/-- Memory at the call, kept folded. -/
@[irreducible] def Vin (c : Dev nD) : Valuation τ sig (Elt F) := V7 m c
theorem Vin_eq (c : Dev nD) : Vin m c = V7 m c := by unfold Vin; rfl

def dat0 (c : Dev nD) : Pipeline.Dat τ (Elt F) Unit ℕ UU ℕ cfg0 c where
  A wn := Vin m c (Proc.devRef .tc (Pipeline.arrRef spec0 wn))
  after wn _ := match wn with
    | ⟨0, _⟩ => Vin m c main_v32
    | ⟨1, _⟩ => Vin m c main_v15
    | ⟨2, _⟩ => resOf m src c
  Φ t := if t.val = 0 then before m src c else afterwards m c
  q _ := fullShare
  owed t := if t.val = 0 then O₀ c else 0

def pdats : (p : Fin 1) → (c : Dev nD) → Pipeline.Dat τ (Elt F) Unit ℕ UU ℕ (Pipeline.pin (pcfgs (F := F)) adm p) c
  | 0 => dat0 m src

theorem owed_first (c : Dev nD) : (pdats m src 0 c).owed 0 = O₀ c := by
  show (if ((0 : Fin (cfg0.N + 1)).val = 0) then O₀ c else 0) = _
  exact if_pos rfl
theorem owed_last (c : Dev nD) : (pdats m src 0 c).owed (Fin.last _) = 0 := by
  show (if ((Fin.last cfg0.N).val = 0) then O₀ c else 0) = _
  rw [Fin.val_last, if_neg (by rw [show cfg0.N = 1 from N_0]; decide)]

theorem owesAt_elim {W : Fin (cfg0.N + 1)} (c : Dev nD) (O : CellTallies nD τ sig Unit) (h0 : (dat0 m src c).owed W = O) :
    (dat0 m src c).owesAt () W ⊢ (iprop(∃ Wd, owes (c : Thread nD τ) O Wd) : sProp 𝕄) := by
  unfold Pipeline.Dat.owesAt Pipeline.owesWithin
  rw [h0]
  iintro ⟨%Wd, -, HO⟩
  iexists Wd
  iexact HO
theorem owesAt_intro {W : Fin (cfg0.N + 1)} (c : Dev nD) (O : CellTallies nD τ sig Unit) (h0 : (dat0 m src c).owed W = O) :
    (iprop(∃ Wd, owes (c : Thread nD τ) O Wd) : sProp 𝕄) ⊢ (dat0 m src c).owesAt () W := by
  unfold Pipeline.Dat.owesAt Pipeline.owesWithin Pipeline.Dat.bound
  rw [h0, show (dat0 m src c).recorded W = Set.univ from rfl]
  iintro ⟨%Wd, HO⟩
  iexists Wd
  isplitr
  · ipureintro
    exact fun _ _ => Or.inl trivial
  iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- Every window's block index at the one point. -/
theorem index_zero : ∀ t : Fin cfg0.N, win0_0.index t = ![0] ∧ win0_1.index t = ![0] ∧ win0_2.index t = ![0, 0] :=
  (by decide +kernel : ∀ t : Fin grid0.N, _)
theorem read_word (X : (main_v32 : Ref sig .tc).ty.Contents (Elt F)) (j : (main_v32 : Ref sig .tc).ty.shape.Idx) :
    ((cfg0.win 0).blk t0_0).view.read (Elt F) X j = X j := by
  blk_ext [index_zero t0_0]
theorem read_count (X : (main_v15 : Ref sig .tc).ty.Contents (Elt F)) (j : (main_v15 : Ref sig .tc).ty.shape.Idx) :
    ((cfg0.win 1).blk t0_0).view.read (Elt F) X j = X j := by
  blk_ext [index_zero t0_0]

theorem before_word (c : Dev nD) (d : (cfg0.win 0).block.Idx → Elt F (cfg0.win 0).elt) : (dat0 m src c).before 0 t0_0 d = Vin m c main_v32 := by
  unfold Pipeline.Dat.before
  rw [if_pos (by decide +kernel)]
  refine Eq.trans (show _ = ((cfg0.win 0).blk t0_0).view.read (Elt F) (Vin m c main_v32) from rfl) ?_
  funext j
  exact read_word _ j
theorem before_count (c : Dev nD) (d : (cfg0.win 1).block.Idx → Elt F (cfg0.win 1).elt) : (dat0 m src c).before 1 t0_0 d = Vin m c main_v15 := by
  unfold Pipeline.Dat.before
  rw [if_pos (by decide +kernel)]
  refine Eq.trans (show _ = ((cfg0.win 1).blk t0_0).view.read (Elt F) (Vin m c main_v15) from rfl) ?_
  funext j
  exact read_count _ j

variable {v8 : Dev nD → BitVec 32} {w : Dev nD → ℕ → BitVec 32} {src}

set_option maxRecDepth 4000 in
theorem body (h : HostFacts m v8 w src) (c : Dev nD) : Pipeline.BodyObligation (dat0 m src c) (defs₀ (F := F)) 𝒱₀ () Set.univ := fun t => by
  obtain rfl := fin_N0 t
  rw [bigSep_W0, bigSep_W0]
  simp only [owns_whole_eq]
  rw [show (dat0 m src c).Φ t0_0.castSucc = before m src c from rfl, show (dat0 m src c).Φ t0_0.succ = afterwards m c from rfl]
  iintro ⟨HΦ, HO, ⟨%d0, %f0, %hf0, H0⟩, ⟨%d1, %f1, %hf1, H1⟩, ⟨%d2, %f2, %hf2, H2⟩⟩
  rw [before_word] at hf0
  rw [before_count] at hf1
  ihave HO := (owesAt_elim m src c (W := t0_0.castSucc) (O₀ c) rfl) $$ HO
  ihave H2 := (show (((c : Thread nD τ).loc cc0_stg2_0) ↦{fullShare} (f2 : Buf (Elt F) ((c : Thread nD τ).loc cc0_stg2_0)))
    ⊢ (someOf (F := F) oM c : sProp 𝕄) from by
      rw [some_whole]
      iintro H
      iexists f2
      iexact H) $$ H2
  iapply (body_run m h c (hf0.trans (congrFun (Vin_eq m c) _)) (hf1.trans (congrFun (Vin_eq m c) _))) $$ HΦ HO H0 H1 H2
  iintro HΦ HO H0 H1 H2
  isplitl [HΦ]; · iexact HΦ
  isplitl [HO]
  · iapply (owesAt_intro m src c (W := t0_0.succ) 0 rfl) $$ HO
  isplitl [H0]
  · iexists _; isplitr; swap; (· iexact H0); ipureintro; exact hf0
  isplitl [H1]
  · iexists _; isplitr; swap; (· iexact H1); ipureintro; exact hf1
  iexists _; isplitr; swap; (· iexact H2); ipureintro; rfl

end Cert.EmbedProof

end
-- ==== Proof.Record.lean ====
/-
# The record of the kernel call

The call as a region of the program whose kernel talks across devices: what it is entered with, what it leaves.
-/
module

public import proofs.«01_k».proof.Proof.Region

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (src : Dev nD → ℕ → Option ℕ)

/-! ## What rides beside the arrays, before and after the call -/

abbrev Tk (c : Dev nD) : sProp 𝕄 := iprop(∃ κ, Inv (xOf m src) κ ∗ linear (F := F) c ∗ credits (F := F) c)
abbrev Xk (c : Dev nD) : sProp 𝕄 := iprop(∃ κ, Inv (xOf m src) κ ∗ opened (F := F) c)
abbrev Yk (c : Dev nD) : sProp 𝕄 := semVal (barCell c) 0

theorem hopen (c : Dev nD) : iprop(Tk m src c ∗ Pipeline.ownSems0 osem c ∗ levAts L lv) ⊢ (|={Set.univ}=> Xk m src c : sProp 𝕄) := by
  iintro ⟨⟨%κ, #HI, Hl, Hc⟩, Hs, -⟩
  imod (open_cells (xOf m src) κ c) $$ [Hl Hc Hs] with H
  · isplitr; · iexact HI
    isplitl [Hl]; · iexact Hl
    isplitl [Hc] <;> iassumption
  imodintro
  iexists κ
  isplitr; · iexact HI
  iexact H

/-- The one buffer the kernel addresses itself. -/
def tableRef : Finset (DevRef τ sig) := {Proc.devRef .tc main_arg1}
theorem held_table (c : Dev nD) (W : Valuation τ sig (Elt F)) :
    (StableHlo.held (c.tc : Thread nD τ) tableRef W : sProp 𝕄) = iprop(((c : Thread nD τ).loc main_arg1) ↦{fullShare} (W main_arg1)) := by
  unfold StableHlo.held tableRef
  rw [BI.bigSep_singleton]

theorem hin (c : Dev nD) :
    iprop(Pipeline.scopedRest (Pipeline.pin (pcfgs (F := F)) adm 0).spec c ∗ (∃ r, prngReg c r) ∗ StableHlo.held (c.tc : Thread nD τ) tableRef (V7 m c) ∗ Xk m src c)
    ⊢ (pdats m src 0 c).Φ 0 := by
  rw [show (pdats m src 0 c).Φ 0 = before m src c from rfl, scratch_eq, held_table]
  unfold before
  iintro ⟨Hs, Hp, Ht, HX⟩
  isplitl [HX]; · iexact HX
  isplitl [Ht]; · iexact Ht
  isplitl [Hs]; · iexact Hs
  iexact Hp

theorem end_table (c : Dev nD) : Vend m src c main_arg1 = V7 m c main_arg1 := Function.update_of_ne (by decide) ..
theorem end_word (c : Dev nD) : Vend m src c main_v32 = V7 m c main_v32 := Function.update_of_ne (by decide) ..
theorem end_count (c : Dev nD) : Vend m src c main_v15 = V7 m c main_v15 := Function.update_of_ne (by decide) ..
theorem end_result (c : Dev nD) : Vend m src c main_v33 = resOf m src c := Function.update_self ..

theorem Φ_last (c : Dev nD) : (dat0 m src c).Φ (Fin.last cfg0.N) = afterwards m c := by
  show (if ((Fin.last cfg0.N).val = 0) then before m src c else afterwards m c) = _
  rw [Fin.val_last, if_neg (by rw [show cfg0.N = 1 from N_0]; decide)]

theorem hout (c : Dev nD) : (pdats m src 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) tableRef (Vend m src c) ∗ Pipeline.ownSems0 osem c ∗ Yk (F := F) c) := by
  rw [show (pdats m src 0 c).Φ (Fin.last (Pipeline.pin (pcfgs (F := F)) adm 0).N) = afterwards m c from Φ_last m src c, scratch_eq, held_table, end_table]
  unfold afterwards
  iintro ⟨Hos, Hb, Ht, Hs, Hp⟩
  isplitl [Hs]; · iexact Hs
  isplitl [Hp]; · iexact Hp
  isplitl [Ht]; · iexact Ht
  isplitl [Hos]; · iexact Hos
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lev_pos (c : Dev nD) (g : GSem nD τ sig) (i : Unit) (h : 0 < O₀ c g i) : i ∈ L g ∧ (0 : ℕ) < lv g i := by
  obtain ⟨d, -, rfl⟩ := Ow_pos h
  refine ⟨by rw [L_target]; exact Finset.mem_singleton_self _, ?_⟩
  rw [lv_target]
  obtain ⟨o, p⟩ := d
  cases o <;> simp [dueLev]

theorem cut (c : Dev nD) (t : Fin ((Pipeline.pin (pcfgs (F := F)) adm 0).N + 1)) (g : GSem nD τ sig) (i : Unit)
    (h : 0 < (pdats m src 0 c).owed t g i) : i ∈ L g ∧ (0 : ℕ) < lv g i := by
  rw [show (pdats m src 0 c).owed t = if t.val = 0 then O₀ c else 0 from rfl] at h
  split at h
  · exact lev_pos c g i h
  · exact absurd h (Nat.lt_irrefl 0)

theorem stage_lev : ∀ (w : Fin 3) (s : Fin ((win0 w).nbuf)), levOf (.dma ((win0 w).sem s)) ≤ 0 := by decide

theorem res_emb (X : (main_v33 : Ref sig .tc).ty.Contents (Elt F)) (c : Dev nD) (h : (dat0 m src c).after 2 t0_0 = X) :
    (dat0 m src c).arrAt 2 cfg0.N = X := by
  refine (dat0 m src c).arrAt_eq_of_after_last 2 t0_0 (by decide +kernel) X fun j => ?_
  rw [h]
  rfl

theorem hW (c : Dev nD) (w : Fin cfg0.W) : (dat0 m src c).arrAt w 0 = V7 m c (Proc.devRef .tc (Pipeline.arrRef spec0 w)) := by
  refine Eq.trans (show _ = Vin m c (Proc.devRef .tc (Pipeline.arrRef spec0 w)) from rfl) ?_
  rw [Vin_eq]

theorem hW' (c : Dev nD) : ∀ w : Fin cfg0.W, (dat0 m src c).arrAt w cfg0.N = Vend m src c (Proc.devRef .tc (Pipeline.arrRef spec0 w))
  | ⟨0, _⟩ => ((dat0 m src c).arrAt_in 0 rfl _).trans ((congrFun (Vin_eq m c) _).trans (end_word m src c).symm)
  | ⟨1, _⟩ => ((dat0 m src c).arrAt_in 1 rfl _).trans ((congrFun (Vin_eq m c) _).trans (end_count m src c).symm)
  | ⟨2, _⟩ => (res_emb m src _ c rfl).trans (end_result m src c).symm

variable {v8 : Dev nD → BitVec 32} {w : Dev nD → ℕ → BitVec 32} {src}

/-- The buffers no window of the call stages. -/
def restRefs : Finset (DevRef τ sig) := Pipeline.ucRefs τ sig \ Pipeline.arrRefs (τ := τ) (pcfgs (F := F) 0).spec

theorem arr_refs : Pipeline.arrRefs (τ := τ) (pcfgs (F := F) 0).spec = {Proc.devRef .tc main_v32, Proc.devRef .tc main_v15, Proc.devRef .tc main_v33} :=
  (by decide : Pipeline.arrRefs (τ := τ) spec0 = {Proc.devRef .tc main_v32, Proc.devRef .tc main_v15, Proc.devRef .tc main_v33})

theorem arr_sub : Pipeline.arrRefs (τ := τ) (pcfgs (F := F) 0).spec ⊆ Pipeline.ucRefs τ sig := by
  rw [arr_refs]
  decide

theorem table_sub : tableRef ⊆ restRefs (F := F) := by
  unfold tableRef restRefs
  rw [Finset.singleton_subset_iff, Finset.mem_sdiff]
  refine ⟨Finset.mem_filter.mpr ⟨StableHlo.devRef_mem_tcRefs main_arg1, by decide⟩, ?_⟩
  rw [arr_refs]
  decide

theorem end_rest (c : Dev nD) (b : DevRef τ sig) (hb : b ∈ restRefs (F := F)) : Vend m src c b = V7 m c b := by
  refine Function.update_of_ne (fun h => ?_) ..
  subst h
  refine (Finset.mem_sdiff.mp hb).2 ?_
  rw [arr_refs]
  decide

set_option backward.isDefEq.respectTransparency.types false in
def reg (h : HostFacts m v8 w src) : Pipeline.RegionSeg (pcfgs (F := F)) adm (pdats m src) () defs₀ 𝒱₀ L lv 0 :=
  Pipeline.RegionSeg.ofTalk (pcfgs (F := F)) adm (pdats m src) () defs₀ 𝒱₀ L lv 0 osem (by decide : Pipeline.OwnSemFacts spec0 osem)
    tableRef restRefs table_sub kitP rfl (fun c => (body m h c).loose)
    (fun _ => 0) O₀ (fun c => (owed_first m src c).trans (zero_add _).symm) (owed_last m src) (fun _ => rfl)
    (fun c => (pdats m src 0 c).share_full fun _ => rfl)
    (V7 m) (Vend m src) (fun c b hb => end_rest m c b (Finset.mem_sdiff.mp hb).1)
    (Tk m src) Yk (Xk m src) Yk (hopen m src) (hin m src) (hout m src)
    (fun c => by iintro H; imodintro; iexact H)
    (fun _ => 0)
    ⟨fun c w s => by rw [L_tc]; exact Finset.mem_singleton_self _, fun c w s => stage_lev w s, fun c t g i h => cut m src c t g i h⟩
    (fun _ => iprop(emp))
    (hW m src) (hW' m src)

/-- What rides beside the arrays before the call, and after. -/
def rides : Fin 2 → Dev nD → sProp 𝕄
  | 0, c => iprop(Tk m src c ∗ (∃ r, prngReg c r) ∗ ∃ W, owes (c : Thread nD τ) (O₀ c) W)
  | 1, c => iprop(semVal (barCell c) 0 ∗ ∃ W, owes (c : Thread nD τ) (0 : CellTallies nD τ sig Unit) W)

theorem reg_pre (h : HostFacts m v8 w src) (c : Dev nD) :
    iprop(StableHlo.held (c : Thread nD τ) (Pipeline.ucRefs τ sig) (V7 m c) ∗ rides m (src := src) 0 c) ⊢ (reg m h).pre c := by
  show _ ⊢ iprop(StableHlo.held (c.tc : Thread nD τ) (Pipeline.arrRefs (τ := τ) (pcfgs (F := F) 0).spec) (V7 m c) ∗ (∃ r, prngReg c r)
    ∗ (StableHlo.held (c.tc : Thread nD τ) (restRefs (F := F)) (V7 m c) ∗ emp) ∗ Tk m src c ∗ ∃ Wd, owes (c : Thread nD τ) (0 + O₀ c) Wd)
  rw [zero_add, StableHlo.held_sub_split (c.tc : Thread nD τ) (arr_sub (F := F)) (V7 m c)]
  unfold rides
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (h : HostFacts m v8 w src) (c : Dev nD) : (reg m h).post c
    ⊢ iprop((StableHlo.held (c : Thread nD τ) (Pipeline.ucRefs τ sig) (Vend m src c) ∗ semVal (barCell c) 0)
      ∗ ∃ W, owes (c : Thread nD τ) (0 : CellTallies nD τ sig Unit) W) := by
  show iprop(StableHlo.held (c.tc : Thread nD τ) (Pipeline.arrRefs (τ := τ) (pcfgs (F := F) 0).spec) (Vend m src c) ∗ (∃ r, prngReg c r)
    ∗ (StableHlo.held (c.tc : Thread nD τ) (restRefs (F := F)) (Vend m src c) ∗ emp) ∗ Yk (F := F) c ∗ ∃ Wd, owes (c : Thread nD τ) (0 : CellTallies nD τ sig Unit) Wd) ⊢ _
  rw [StableHlo.held_sub_split (c.tc : Thread nD τ) (arr_sub (F := F)) (Vend m src c)]
  iintro ⟨Ha, -, ⟨Hr, -⟩, Hb, HO⟩
  isplitr [HO]
  · isplitl [Ha Hr]
    · isplitl [Ha]; · iexact Ha
      iexact Hr
    iexact Hb
  iexact HO

end Cert.EmbedProof

end
-- ==== Proof.Run.lean ====
/-
# The run

The launch deals the protocol's state to the devices; every execution then ends with the sum on every device.
-/
module

public import proofs.«01_k».proof.Proof.Record

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The launch element: the staging cells' part, the protocol's part, and no counters. -/
def u₀ : UU :=
  (initOf (Pipeline.cells (Pipeline.pin (pcfgs (F := F)) adm) cellOf_inj) (Pipeline.launchToks (Pipeline.pin (pcfgs (F := F)) adm) cellOf_inj),
    (launchOf barCells scCells allToks, 1))

/-- A resource as a family over the devices: all of it on one. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp

def G : Dev nD → sProp 𝕄 := onDev 0 (BI.own (ER (launchOf barCells scCells allToks)))

theorem launch_split : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ (G (F := F))) := by
  unfold u₀ G
  rw [bigSep_onDev]
  iintro Hu
  ihave H := (ownU_pair _ _) $$ Hu
  icases H with ⟨HP, HX⟩
  ihave HX := (own_pair_emb embR _ _) $$ HX
  icases HX with ⟨HX, -⟩
  imodintro
  isplitl [HP]; · iexact HP
  iexact HX

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

variable (src : Dev nD → ℕ → Option ℕ)

abbrev T₀ (c : Dev nD) : sProp 𝕄 := iprop(StableHlo.held (c : Thread nD τ) (Pipeline.ucRefs τ sig) (V0 m c) ∗ rides m (src := src) 0 c)

/-- What a device brings to the launch beside the protocol's state. -/
def bundle (c : Dev nD) : sProp 𝕄 :=
  iprop(StableHlo.held (c : Thread nD τ) (Pipeline.ucRefs τ sig) (V0 m c) ∗ credits (F := F) c ∗ owes (c : Thread nD τ) (O₀ c) ∅ ∗ ∃ r, prngReg c r)

theorem T₀_intro (κ : GSem nD τ sig → ℕ) (c : Dev nD) : iprop(Inv (xOf m src) κ ∗ (linear (F := F) c ∗ bundle m c)) ⊢ T₀ m src c := by
  unfold bundle T₀ rides
  iintro ⟨#HI, Hl, Hh, Hc, HO, Hp⟩
  isplitl [Hh]; · iexact Hh
  isplitl [Hl Hc]
  · iexists κ
    isplitr; · iexact HI
    isplitl [Hl] <;> iassumption
  isplitl [Hp]; · iexact Hp
  iexists ∅
  iexact HO

theorem core_launch (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(bundle m c ∗ (semVal (barCell c) 0 ∗ G (F := F) c)) : sProp 𝕄) := by
  rw [show unscopedBufs c (fun b => m ((c : Thread nD τ).loc b)) = StableHlo.held (c : Thread nD τ) (Pipeline.ucRefs τ sig) (V0 m c)
    from Pipeline.unscopedBufs_held c (V0 m c), sems_eq]
  unfold bundle
  iintro ⟨Hh, Hus, HO, Hcr, Hp, HG⟩
  ihave Hc := (creds (F := F) c) $$ Hcr
  isplitr [Hus HG]
  · isplitl [Hh]; · iexact Hh
    isplitl [Hc]; · iexact Hc
    isplitl [HO]; · iexact HO
    iexists (ρ c)
    iexact Hp
  isplitl [Hus] <;> iassumption

theorem bars_in : bigSep Finset.univ (fun c : Dev nD => (semVal (barCell c) 0 : sProp 𝕄)) ⊢ bigSep barCells (fun g => (semVal g 0 : sProp 𝕄)) := by
  unfold barCells
  exact Entails.of_eq (bigSep_map (s := Finset.univ) barEmb (Φ := fun g : GSem nD τ sig => (semVal g 0 : sProp 𝕄))).symm
theorem bars_out : bigSep barCells (fun g => (atPos (ER (F := F)) g 0 ∅ 0 : sProp 𝕄))
    ⊢ bigSep Finset.univ (fun c : Dev nD => (atPos (ER (F := F)) (barCell c) 0 ∅ 0 : sProp 𝕄)) := by
  unfold barCells
  exact Entails.of_eq (bigSep_map (s := Finset.univ) barEmb (Φ := fun g : GSem nD τ sig => (atPos (ER (F := F)) g 0 ∅ 0 : sProp 𝕄)))
theorem opens_out : bigSep scCells (fun g => (openTok (ER (F := F)) g : sProp 𝕄))
    ⊢ bigSep Finset.univ (fun c : Dev nD => bigSep Finset.univ fun k : Fin 18 => openTok (ER (F := F)) ((c : Thread nD τ), scSem k)) := by
  unfold scCells
  rw [bigSep_map, bigSep_univ_prod]
  exact BI.Entails.refl _

theorem linear_all :
    iprop(bigSep barCells (fun g => (atPos (ER (F := F)) g 0 ∅ 0 : sProp 𝕄)) ∗ bigSep scCells (fun g => (openTok (ER (F := F)) g : sProp 𝕄))
      ∗ bigSep allToks (fun t => (dutyTok (ER (F := F)) t.1 t.2.1 t.2.2 : sProp 𝕄)))
    ⊢ bigSep Finset.univ fun c : Dev nD => linear (F := F) c := by
  unfold linear
  iintro ⟨Hat, Hop, Htok⟩
  ihave Hat := (bars_out (F := F)) $$ Hat
  ihave Hop := (opens_out (F := F)) $$ Hop
  ihave Htok := (toks_dealt (F := F)) $$ Htok
  iapply zip_fam
  isplitl [Hat]; · iexact Hat
  iapply zip_fam
  isplitl [Hop]; · iexact Hop
  iexact Htok

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m src) : sProp 𝕄) := by
  iintro ⟨H, #Hlev⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄)
    from bigSep_mono fun c _ => core_launch m ρ c) $$ H
  ihave H := unzip_fam $$ H
  icases H with ⟨HB, H⟩
  ihave H := unzip_fam $$ H
  icases H with ⟨Hv, HG⟩
  ihave Hu := (show bigSep Finset.univ (G (F := F)) ⊢ BI.own (ER (launchOf barCells scCells allToks)) from
    Entails.of_eq (bigSep_onDev (F := F) 0 (BI.own (ER (launchOf barCells scCells allToks))))) $$ HG
  ihave Hv := (bars_in (F := F)) $$ Hv
  imod (Rounds.fund_launch ER (Rd (xOf m src)) disjoint_cells (fun g _ h => h) allToks) $$ [Hv Hu] with ⟨%κ, -, #Hinv, #Hr, Hat, Hopen, Htok⟩
  · isplitl [Hv] <;> iassumption
  ihave HL := (linear_all (F := F)) $$ [Hat Hopen Htok]
  · isplitl [Hat]; · iexact Hat
    isplitl [Hopen] <;> iassumption
  imodintro
  iapply (bigSep_with_persistent (R := Inv (xOf m src) κ) (Φ := fun c => iprop(linear (F := F) c ∗ bundle m c)) fun c _ => T₀_intro m src κ c)
  isplitr
  · unfold Inv
    isplitr; · iexact Hinv
    isplitr; · iexact Hr
    iexact Hlev
  iapply zip_fam
  isplitl [HL] <;> iassumption

variable {v8 : Dev nD → BitVec 32} {w : Dev nD → ℕ → BitVec 32} {src}

theorem end_arg0 (c : Dev nD) : Vend m src c main_arg0 = m ((c : Thread nD τ).loc main_arg0) :=
  (Function.update_of_ne (by decide) ..).trans
    ((V8_of m (fun _ r c => m ((c : Thread nD τ).loc r)) c main_arg0 (by decide)).symm.trans (V8_main_arg0 m _ c))
theorem end_arg1 (c : Dev nD) : Vend m src c main_arg1 = m ((c : Thread nD τ).loc main_arg1) := (end_table m src c).trans (table_same m c)

set_option backward.isDefEq.respectTransparency.types false in
/-- The run: from any memory with zero counters every execution ends, with the arguments unchanged, every device's result the sum
    of all devices' rounded rows, and every counter at zero. -/
theorem run_main (h : HostFacts m v8 w src) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v33) = resOf m src c) ∧ r.2.sem = fun _ => 0) :=
  Pipeline.θ_run_regions_kit_dev_sems (pcfgs (F := F)) adm (pdats m src) () cellOf_inj EP defs₀ 𝒱₀ L lv m ρ main
    (segs m 𝒱₀ L lv (rides m (src := src)) () (pdats m src) (reg m h))
    (fun c Q => by
      rewrite [main_chain c, Pipeline.Seg.run_eq_chain, show (segs m 𝒱₀ L lv (rides m (src := src)) () (pdats m src) (reg m h) c).map Pipeline.Seg.prog
        = [StableHlo.seq (hostOps0 c), StableHlo.seq hostOps0_1, StableHlo.seq hostOps0_2, StableHlo.seq hostOps0_3, StableHlo.seq hostOps0_4,
          StableHlo.seq hostOps0_5, StableHlo.seq hostOps0_6, Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀) (hu₀ := launch_split)
    (T₀ := T₀ m src)
    (Tₙ := fun c => iprop(StableHlo.held (c : Thread nD τ) (Pipeline.ucRefs τ sig) (Vend m src c) ∗ semVal (barCell c) 0))
    (hch := fun c => ⟨.rfl, .rfl, .rfl, .rfl, .rfl, .rfl, .rfl, reg_pre m h c, reg_post m h c⟩)
    (hinit := init m ρ src)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v33) = resOf m src c) ∧ s.sem (barCell c) = 0)
    (hfin := fun c s' => by
      unfold StableHlo.held
      iintro ⟨⟨Hh, Hb0⟩, HSI⟩
      icombine HSI Hb0 gives %hb
      ihave Hr := (pointsTo_read_all (Pipeline.ucRefs τ sig) (fun b => ((c : Thread nD τ).1, b)) (Vend m src c) s') $$ [Hh HSI]
      · isplitl [Hh] <;> iassumption
      icases Hr with ⟨%hr, HSI⟩
      imodintro
      isplitr
      · ipureintro
        refine ⟨⟨(hr (Proc.devRef .tc main_arg0) (Finset.mem_filter.mpr ⟨StableHlo.devRef_mem_tcRefs main_arg0, by decide⟩)).trans (end_arg0 m c), ?_, ?_⟩, by simpa using hb⟩
        · exact (hr (Proc.devRef .tc main_arg1) (Finset.mem_filter.mpr ⟨StableHlo.devRef_mem_tcRefs main_arg1, by decide⟩)).trans (end_arg1 m c)
        · exact (hr (Proc.devRef .tc main_v33) (Finset.mem_filter.mpr ⟨StableHlo.devRef_mem_tcRefs main_v33, by decide⟩)).trans (end_result m src c)
      iexact HSI)
    (hQ := fun s hq hs => ⟨fun c => (hq c).1, sem_eq_zero hs fun c sm hsm => by
      obtain rfl := unscoped_eq sm hsm
      exact (hq c).2⟩)

end Cert.EmbedProof

end
-- ==== Proof.Ref.lean ====
/-
# The reference on its one device

Eight host operations and a row gather: ids below zero are counted from the table's end, and each place takes the row its id names.
-/
module

public import proofs.«01_k».proof.Proof.Gen.ReferenceIdeal
public import Idealize.ShloMosaic.Lib.StableHlo.RunHlo
public import Idealize.ShloMosaic.Lib.Routing.OpsSet
public import Idealize.ShloMosaic.Lib.WordArith

@[expose] public section

noncomputable section

namespace Cert.EmbedProof.Ref

open Cert.ReferenceIdeal Cert.ReferenceIdeal.Gen
open Idealize.ShloMosaic Idealize.ShloMosaic.TcCoe Idealize.ShloMosaic.StableHlo Idealize.SL.Sem
open Idealize.ShloMosaic.Routing Idealize.ShloMosaic.ValueIdx Idealize.ShloMosaic.WordArith

variable {F : FTy → Type} [FloatOps F]

/-- The row each place's id names, an id below zero counted from the table's end. -/
abbrev rowV (ids : IVec S1024 32) : IVec S1024 32 :=
  select (cmpi .slt ids (broadcastInDim S1024 ![] bcast_S_S1024 (constantI S_ 32 0#32)))
    (addi ids (broadcastInDim S1024 ![] bcast_S_S1024 (constantI S_ 32 65536#32))) ids
/-- The rows of the table that the ids name. -/
def outV (ids : IVec S1024 32) (E : FVec F S65536x1024 .f32) : FVec F S1024x1024 .f32 :=
  Host.gather gather_S65536x1024_S1024x1_S1024x1024_1_0_n_n_0_1_11024 E (broadcastInDim S1024x1 ![0] bcast_S1024_S1024x1_0 (rowV ids))

/-- The reference's operations, in order. -/
abbrev ops : List (HloOp τ sig (Elt F)) :=
  [ nullary main_c (constantI S_ 32 0#32),
    unary main_c main_v0 (broadcastInDim S1024 ![] bcast_S_S1024 : IVec S_ 32 → IVec S1024 32),
    binary main_arg0 main_v0 main_v1 (cmpi .slt : IVec S1024 32 → IVec S1024 32 → IVec S1024 1),
    nullary main_c_0 (constantI S_ 32 65536#32),
    unary main_c_0 main_v2 (broadcastInDim S1024 ![] bcast_S_S1024 : IVec S_ 32 → IVec S1024 32),
    binary main_arg0 main_v2 main_v3 (addi : IVec S1024 32 → IVec S1024 32 → IVec S1024 32),
    ternary main_v1 main_v3 main_arg0 main_v4 (select : IVec S1024 1 → IVec S1024 32 → IVec S1024 32 → IVec S1024 32),
    unary main_v4 main_v5 (broadcastInDim S1024x1 ![0] bcast_S1024_S1024x1_0 : IVec S1024 32 → IVec S1024x1 32),
    binary main_arg1 main_v5 main_v6 ((fun x i => Host.gather gather_S65536x1024_S1024x1_S1024x1024_1_0_n_n_0_1_11024 x i) :
      FVec F S65536x1024 .f32 → IVec S1024x1 32 → FVec F S1024x1024 .f32) ]

theorem main_eq (c : Dev nD) : IsSeq (main (F := F) c) ops := rfl
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩
theorem ops_fresh : ∀ op ∈ (ops : List (HloOp τ sig (Elt F))), op.fresh = ∅ := by
  intro op h
  simp only [List.mem_cons, List.not_mem_nil, or_false] at h
  rcases h with rfl | rfl | rfl | rfl | rfl | rfl | rfl | rfl | rfl <;> rfl

variable (V : Valuation τ sig (Elt F))
theorem arg0_eq : after ops V main_arg0 = V main_arg0 := by after_results
theorem arg1_eq : after ops V main_arg1 = V main_arg1 := by after_results
theorem out_eq : after ops V main_v6 = outV (V main_arg0) (V main_arg1) := by
  after_results
  rfl

/-- The reference runs; its arguments end as they were and its result is the rows the ids name. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v6) = outV (m ((c : Thread nD τ).loc main_arg0)) (m ((c : Thread nD τ).loc main_arg1)))
      ∧ r.2.sem = fun _ => 0 :=
  (θ_run defs _ _).mono
    (fun r h => ⟨fun c => ⟨(h c main_arg0).trans (arg0_eq _), (h c main_arg1).trans (arg1_eq _), (h c main_v6).trans (out_eq _)⟩,
      sem_eq_zero_of_no_sems (by decide) r.2⟩)
    (run_hlo defs main main_eq (by decide) (by decide) ops_sub ops_fresh m ρ)

/-- Where the id at a place is a row of the table, the place takes that row. -/
theorem out_at (ids : IVec S1024 32) (E : FVec F S65536x1024 .f32) (i : Fin 1024) (j : Fin 1024) (b : Fin 65536)
    (h : ids (ix1 i) = BitVec.ofNat 32 b.val) : outV ids E (ix2 i j) = E (ix2 b j) := by
  unfold outV
  refine gather_row gather_S65536x1024_S1024x1_S1024x1024_1_0_n_n_0_1_11024 rfl rfl rfl rfl rfl E _ i j b ?_ (by decide)
  refine (bcCol bcast_S1024_S1024x1_0 _ i).trans ?_
  have hb := b.isLt
  show Scalar.select (IntOp.cmpi .slt (ids (ix1 i)) 0#32) _ (ids (ix1 i)) = _
  rw [h]
  refine if_neg fun e => ?_
  have e' := (ofBool_eq_one_iff _).1 e
  rw [BitVec.slt_eq_decide, decide_eq_true_eq, toInt_ofNat_small _ (by omega)] at e'
  have e0 : (0#32 : BitVec 32).toInt = 0 := by decide
  omega

end Cert.EmbedProof.Ref

end
-- ==== Proof.Frames.lean ====
/-
# The claims that speak of runs alone

The kernel's run is one theorem for any reading of the floating-point numbers; here it is read at the machine's own and at the exact
ones, and the reference's beside it.
-/
module

public import proofs.«01_k».proof.Defs
public import proofs.«01_k».proof.Proof.Host
public import proofs.«01_k».proof.Proof.Run
public import proofs.«01_k».proof.Proof.Ref
public import proofs.«01_k».proof.Proof.Gen.Kernel
public import proofs.«01_k».proof.Proof.Gen.KernelIdeal
public import proofs.«01_k».proof.Proof.Gen.ReferenceIdeal

@[expose] public section

noncomputable section

namespace Cert.EmbedProof

open Idealize.ShloMosaic Idealize.SL.Sem

/-- What the run theorem says of the kernel's text, read at the machine's own numbers. -/
def RunsBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0)

theorem runs_bits : RunsBits := fun m ρ _ =>
  (θ_run Cert.KernelIdeal.defs _ _).mono (fun _ h => ⟨fun c => ⟨(h.1 c).1, (h.1 c).2.1⟩, h.2⟩) (run_main (F := Bits) m ρ (host_facts m))

/-- The kernel and its idealization are one text, so one statement says the same of both. -/
theorem same_text : Cert.quiescent_Kernel = RunsBits := by sl_kernel_rfl

theorem frame_kernel : Cert.quiescent_Kernel := same_text ▸ runs_bits

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ (host_facts m))

theorem frame_ref : Cert.quiescent_ReferenceIdeal := fun m ρ _ =>
  (θ_run Cert.ReferenceIdeal.defs _ _).mono (fun _ h => ⟨fun c => ⟨(h.1 c).1, (h.1 c).2.1⟩, h.2⟩) (Ref.run_main (F := Ideal) m ρ)

end Cert.EmbedProof

end
-- ==== Proof.Sums.lean ====
/-
# The sums, over exact numbers

Addition of exact numbers has no order, so the three exchanges of any column group leave every device with one and the same sum over the
eight devices, and the second pass hands that sum on unchanged.
-/
module

public import proofs.«01_k».proof.Proof.Ends
public import proofs.«01_k».proof.Proof.Dats
public import proofs.«01_k».proof.Proof.Packed
public import Idealize.ShloMosaic.PureOps.Ideal.Laws

@[expose] public section

noncomputable section

namespace Cert.EmbedProof

open Cert.KernelIdeal Cert.KernelIdeal.Gen
open Idealize.ShloMosaic Idealize.ShloMosaic.TcCoe
open Idealize.SL.Sem
open Idealize.ShloMosaic.Routing Idealize.ShloMosaic.ValueIdx Idealize.ShloMosaic.WordArith

/-- From any device, the three exchanges of a column group reach each of the eight devices once. -/
theorem eight (p : Fin 3) (c : Dev nD) : (Finset.univ : Finset (Dev nD)).val =
    ([c, par p 0 c, par p 1 c, par p 0 (par p 1 c), par p 2 c, par p 0 (par p 2 c), par p 1 (par p 2 c),
      par p 0 (par p 1 (par p 2 c))] : List (Dev nD)) := by
  revert p c; decide

variable (x : Dev nD → MV Ideal)

/-- What all the devices add up to at a place. -/
def sumOf (i j : ℕ) : EReal := ∑ d : Dev nD, (x d i j : EReal)

theorem S3_eq (p : Fin 3) (c : Dev nD) (i j : ℕ) : S3 x p c i j = sumOf x i j := by
  unfold sumOf Finset.sum
  rw [eight p c]
  unfold S3 S2 S1
  simp only [Ideal.addf_def, Multiset.map_coe, Multiset.sum_coe, List.map_cons, List.map_nil, List.sum_cons, List.sum_nil, add_zero, add_assoc]

theorem G2_eq (p : Fin 3) (c : Dev nD) (i j : ℕ) : G2 x p c i j = sumOf x i j := by
  unfold G2
  split <;> exact S3_eq x p _ i j

theorem result_eq (c : Dev nD) (i j : ℕ) : result x c i j = sumOf x i j := by
  show G1 x (grp j) c i j = _
  unfold G1
  split <;> exact G2_eq x _ _ i j

/-- Where one device alone has anything to add, the sum is what that device has. -/
theorem sum_single (i j : ℕ) (o : Dev nD) (h : ∀ d, d ≠ o → x d i j = (0 : EReal)) : sumOf x i j = x o i j :=
  Finset.sum_eq_single o (fun d _ hd => h d hd) (fun ho => absurd (Finset.mem_univ o) ho)

end Cert.EmbedProof

end
-- ==== Proof.Value.lean ====
/-
# The value claim

An id that names a row of the whole table names a row of exactly one device's block. That device stages the row, every other device
stages zeros, and the sum of the eight is the row: what the reference takes from the whole table.
-/
module

public import proofs.«01_k».proof.Defs
public import proofs.«01_k».proof.Proof.Frames
public import proofs.«01_k».proof.Proof.Sums
public import Idealize.ShloMosaic.Lib.ReduceAll

@[expose] public section

noncomputable section

namespace Cert.EmbedProof

open Cert.KernelIdeal Cert.KernelIdeal.Gen
open Idealize.ShloMosaic Idealize.ShloMosaic.TcCoe
open Idealize.SL.Sem
open Idealize.ShloMosaic.Routing Idealize.ShloMosaic.ValueIdx Idealize.ShloMosaic.WordArith

theorem pre_facts : Cert.Pre_ids_name_rows_KernelIdeal.Facts := ⟨by decide, by decide, by decide⟩
theorem pre_facts_ref : Cert.Pre_ids_name_rows_ReferenceIdeal.Facts := ⟨by decide, by decide, by decide⟩

/-! ## What the precondition says of an id -/

/-- The range test of one id, as the precondition writes it. -/
theorem range_word (v : BitVec 32) (h : IntOp.andi (IntOp.cmpi .sge v 0#32) (IntOp.cmpi .slt v 65536#32) = 1#1) : v.toNat < 65536 := by
  unfold IntOp.cmpi at h
  rw [andi_ofBool, ofBool_eq_one_iff, Bool.and_eq_true] at h
  exact toNat_lt_of_zero_sle_of_slt_ofNat v 65536 (by decide) h.1 h.2

theorem ids_lt [Cert.Pre_ids_name_rows_KernelIdeal.Facts] (ids : IVec Cert.KernelIdeal.S1024 32) (E : FVec Ideal ⟨2, ![8192, 1024]⟩ .f32)
    (h : Cert.Pre_ids_name_rows_KernelIdeal.fn (F := Ideal) ids E = fun _ => 1#1) (i : Fin 1024) : (ids (ix1 i)).toNat < 65536 := by
  have e := congrFun h ix0
  dsimp only [Cert.Pre_ids_name_rows_KernelIdeal.fn] at e
  haveI : Subsingleton (Cert.Pre_ids_name_rows_KernelIdeal.S_).Idx := ⟨fun a b => funext fun k => k.elim0⟩
  exact range_word _ (Host.reduce_andi_all _ _ _ _ _ e (ix1 i))

/-! ## Who owns a row -/

variable (m : (ℓ : Loc nD τ sig) → Buf (Elt Ideal) ℓ)

theorem base_word (c : Dev nD) : baseV c ix0 = BitVec.ofNat 32 (8192 * c.val) := by revert c; decide

theorem loc_word (c : Dev nD) (i : Fin 1024) : locW m c i.val = idsV m c (ix1 i) - BitVec.ofNat 32 (8192 * c.val) := by
  rw [← loc_at, ← base_word c]
  exact congrArg (fun z => idsV m c (ix1 i) - baseV c z) (eq_ix0 _)

/-- Subtracting a block's first row leaves a row of the block exactly when the id is in the block. -/
theorem own_iff (v : BitVec 32) (hv : v.toNat < 65536) (c : Dev nD) :
    (v - BitVec.ofNat 32 (8192 * c.val)).toNat < 8192 ↔ c.val = v.toNat / 8192 := by
  have hc : c.val < 8 := c.isLt
  rw [BitVec.toNat_sub, BitVec.toNat_ofNat]
  omega

theorem own_row (v : BitVec 32) (hv : v.toNat < 65536) (c : Dev nD) (hc : c.val = v.toNat / 8192) :
    (v - BitVec.ofNat 32 (8192 * c.val)).toNat = v.toNat % 8192 := by
  have := c.isLt
  rw [BitVec.toNat_sub, BitVec.toNat_ofNat]
  omega

theorem src_some (c : Dev nD) (i : Fin 1024) (hv : (idsV m c (ix1 i)).toNat < 65536) (h : c.val = (idsV m c (ix1 i)).toNat / 8192) :
    srcOf m c i.val = some ((idsV m c (ix1 i)).toNat % 8192) := by
  unfold srcOf srcW
  rw [if_pos ⟨i.isLt, by unfold Own; rw [loc_word]; exact (own_iff _ hv c).2 h⟩, loc_word, own_row _ hv c h]

theorem src_none (c : Dev nD) (i : Fin 1024) (hv : (idsV m c (ix1 i)).toNat < 65536) (h : c.val ≠ (idsV m c (ix1 i)).toNat / 8192) :
    srcOf m c i.val = none := by
  unfold srcOf srcW
  exact if_neg fun ho => h ((own_iff _ hv c).1 (by have := ho.2; unfold Own at this; rwa [loc_word] at this))

/-! ## The two results -/

theorem x_some (c : Dev nD) (i j r : ℕ) (h : srcOf m c i = some r) : xOf m (srcOf m) c i j = tableOf m c r j := by
  unfold xOf staged
  rw [h]
  rfl

theorem x_none (c : Dev nD) (i j : ℕ) (h : srcOf m c i = none) : xOf m (srcOf m) c i j = (0 : EReal) := by
  unfold xOf staged
  rw [h]
  exact Ideal.ofBits_zero_f32

/-- A row of a device's block is a row of the whole table. -/
theorem table_block (E : FVec Ideal ⟨2, ![65536, 1024]⟩ .f32) (c : Dev nD)
    (h : m ((c : Thread nD τ).loc main_arg1) = Layout.block ⟨2, ![8192, 1024]⟩ ⟨2, ![65536, 1024]⟩ 0 8 c E)
    (v : Fin 65536) (hc : c.val = v.val / 8192) (j : Fin 1024) : tableOf m c (v.val % 8192) j.val = E (ix2 v j) := by
  unfold tableOf flat
  rw [h]
  refine congrArg E (funext fun a => Fin.ext ?_)
  have := v.isLt
  have := j.isLt
  rw [Layout.Tiles.idx_val]
  match a with
  | 0 => show c.val * 8192 + v.val % 8192 % 8192 = v.val; omega
  | 1 => show j.val % 1024 = j.val; omega

/-- On every device the kernel ends with the rows of the whole table the ids name. -/
theorem res_eq (ids : IVec Cert.KernelIdeal.S1024 32) (E : FVec Ideal ⟨2, ![65536, 1024]⟩ .f32)
    (hm : ∀ c : Dev nD, m ((c : Thread nD τ).loc main_arg0) = ids
      ∧ m ((c : Thread nD τ).loc main_arg1) = Layout.block ⟨2, ![8192, 1024]⟩ ⟨2, ![65536, 1024]⟩ 0 8 c E)
    (hv : ∀ i : Fin 1024, (ids (ix1 i)).toNat < 65536) (c : Dev nD) : resOf m (srcOf m) c = Ref.outV ids E := by
  funext k
  obtain ⟨i, j, rfl⟩ : ∃ (i : Fin 1024) (j : Fin 1024), k = ix2 i j := ⟨k 0, k 1, eq_ix2 k⟩
  have hi := hv i
  have hids : ∀ d, idsV m d = ids := fun d => (hm d).1
  have ho : (ids (ix1 i)).toNat / 8192 < 8 := by omega
  rw [Ref.out_at ids E i j ⟨_, hi⟩ (by simp)]
  show result (xOf m (srcOf m)) c i.val j.val = _
  rw [result_eq, sum_single _ _ _ (⟨_, ho⟩ : Dev nD) fun d hd => x_none m d _ _ (src_none m d i (by rw [hids]; exact hi)
    (by rw [hids]; exact fun e => hd (Fin.ext e)))]
  rw [x_some m _ _ _ _ (src_some m (⟨_, ho⟩ : Dev nD) i (by rw [hids]; exact hi) (by rw [hids])), hids]
  exact table_block m E _ (hm _).2 ⟨_, hi⟩ rfl j

theorem algebraic : Cert.algebraic_KernelIdeal_ReferenceIdeal_pre_ids_name_rows_KernelIdeal
    (hPre_ids_name_rows_KernelIdeal := pre_facts) := by
  intro m g m' g' hpre hm
  haveI := pre_facts
  have hv : ∀ i : Fin 1024, (m' (((0 : Dev Cert.ReferenceIdeal.nD) : Thread Cert.ReferenceIdeal.nD Cert.ReferenceIdeal.τ).loc
      Cert.ReferenceIdeal.main_arg0) (ix1 i)).toNat < 65536 := by
    intro i
    rw [← (hm 0).1]
    exact ids_lt (h := hpre 0) (i := i)
  refine ⟨Ref.outV (F := Ideal) (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1)), ?_, ?_⟩
  · exact (θ_run Cert.KernelIdeal.defs _ _).mono
      (fun _ h c => ⟨(h.1 c).2.2.trans (res_eq m _ _ hm hv c), (h.1 c).1, (h.1 c).2.1⟩) (run_main (F := Ideal) m g (host_facts m))
  · exact (θ_run Cert.ReferenceIdeal.defs _ _).mono
      (fun _ h => ⟨(h.1 0).2.2, (h.1 0).1, (h.1 0).2.1⟩) (Ref.run_main (F := Ideal) m' g')

end Cert.EmbedProof

end
-- ==== Proof.lean ====
/-
# The claims, assembled
-/
module

public import proofs.«01_k».proof.Defs
public import proofs.«01_k».proof.Proof.Value

@[expose] public section

noncomputable section

namespace Cert.Proof

open Cert.EmbedProof

theorem claim : Cert.Claim := ⟨Cert.Kernel.Gen.facts, Cert.KernelIdeal.Gen.facts, Cert.ReferenceIdeal.Gen.facts,
  pre_facts, pre_facts_ref, frame_kernel, frame_ideal, fun m g _ => frame_ideal m g trivial,
  frame_ref, fun m g _ => frame_ref m g trivial, trivial, algebraic⟩

end Cert.Proof

end
